-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)) (v9 : (c : Dev Cert.KernelIdeal.nD) → Buf (Elt Ideal) ((c.tc : Thread Cert.KernelIdeal.nD Cert.KernelIdeal.τ).loc Cert.KernelIdeal.main_v3_9)) (v10 : (c : Dev Cert.KernelIdeal.nD) → Buf (Elt Ideal) ((c.tc : Thread Cert.KernelIdeal.nD Cert.KernelIdeal.τ).loc Cert.KernelIdeal.main_v3_10)) (v11 : (c : Dev Cert.KernelIdeal.nD) → Buf (Elt Ideal) ((c.tc : Thread Cert.KernelIdeal.nD Cert.KernelIdeal.τ).loc Cert.KernelIdeal.main_v3_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_v3_9) = v9 c
          ∧ r.2.mem ((c.tc : Thread Cert.KernelIdeal.nD Cert.KernelIdeal.τ).loc Cert.KernelIdeal.main_v3_10) = v10 c
          ∧ r.2.mem ((c.tc : Thread Cert.KernelIdeal.nD Cert.KernelIdeal.τ).loc Cert.KernelIdeal.main_v3_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_v3_8) = v8 c
          ∧ r.2.mem ((c.tc : Thread Cert.ReferenceIdeal.nD Cert.ReferenceIdeal.τ).loc Cert.ReferenceIdeal.main_v3_9) = v9 c
          ∧ r.2.mem ((c.tc : Thread Cert.ReferenceIdeal.nD Cert.ReferenceIdeal.τ).loc Cert.ReferenceIdeal.main_v3_10) = v10 c
          ∧ r.2.mem ((c.tc : Thread Cert.ReferenceIdeal.nD Cert.ReferenceIdeal.τ).loc Cert.ReferenceIdeal.main_v3_11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x4096 : Shape := ⟨3, ![3, 1024, 4096]⟩
abbrev S4096x768 : Shape := ⟨2, ![4096, 768]⟩
abbrev S3x1024x768 : Shape := ⟨3, ![3, 1024, 768]⟩
abbrev S16 : Shape := ⟨1, ![16]⟩
abbrev S1x16 : Shape := ⟨2, ![1, 16]⟩
abbrev S384x8x768 : Shape := ⟨3, ![384, 8, 768]⟩
abbrev S384x8x4096 : Shape := ⟨3, ![384, 8, 4096]⟩
abbrev S1x1 : Shape := ⟨2, ![1, 1]⟩
abbrev S1x1024x1024 : Shape := ⟨3, ![1, 1024, 1024]⟩
abbrev S1024x768 : Shape := ⟨2, ![1024, 768]⟩
abbrev S1x1024x768 : Shape := ⟨3, ![1, 1024, 768]⟩
abbrev S128x8x768 : Shape := ⟨3, ![128, 8, 768]⟩
abbrev S128x8x1024 : Shape := ⟨3, ![128, 8, 1024]⟩
abbrev S16x1024 : Shape := ⟨2, ![16, 1024]⟩
abbrev S8x768 : Shape := ⟨2, ![8, 768]⟩
abbrev S16x768 : Shape := ⟨2, ![16, 768]⟩
abbrev S6 : Shape := ⟨1, ![6]⟩
abbrev S1 : Shape := ⟨1, ![1]⟩
abbrev S1x256 : Shape := ⟨2, ![1, 256]⟩
abbrev S64x16x768 : Shape := ⟨3, ![64, 16, 768]⟩
abbrev S1024x1024 : Shape := ⟨2, ![1024, 1024]⟩
abbrev S64x16x1024 : Shape := ⟨3, ![64, 16, 1024]⟩
abbrev S1x16x1024 : Shape := ⟨3, ![1, 16, 1024]⟩
abbrev S1x1x1 : Shape := ⟨3, ![1, 1, 1]⟩
abbrev S1x15 : Shape := ⟨2, ![1, 15]⟩
abbrev S1x8x768 : Shape := ⟨3, ![1, 8, 768]⟩
abbrev S1x16x768 : Shape := ⟨3, ![1, 16, 768]⟩

abbrev nBuf : Space → Nat
  | .hbm => 21
  | .vmem => 33
  | .smem => 1
  | _ => 0

abbrev bufTy : (tb : Table) → Fin (tcTables nBuf tb) → BufTy
  | .hbm, ⟨0, _⟩ => ⟨S3x1024x4096, .bf16⟩
  | .hbm, ⟨1, _⟩ => ⟨S4096x768, .f32⟩
  | .hbm, ⟨2, _⟩ => ⟨S3x1024x768, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S384x8x768, .bf16⟩
  | .hbm, ⟨10, _⟩ => ⟨S384x8x4096, .bf16⟩
  | .hbm, ⟨11, _⟩ => ⟨S4096x768, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S3x1024x4096, .fp8e4m3⟩
  | .hbm, ⟨16, _⟩ => ⟨S1x1, .f32⟩
  | .hbm, ⟨17, _⟩ => ⟨S4096x768, .fp8e4m3⟩
  | .hbm, ⟨18, _⟩ => ⟨S1x1, .f32⟩
  | .hbm, ⟨19, _⟩ => ⟨S3x1024x768, .fp8e5m2⟩
  | .hbm, ⟨20, _⟩ => ⟨S1x1, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x768, .f32⟩
  | .local _ .vmem, ⟨3, _⟩ => ⟨S1024x768, .f32⟩
  | .local _ .vmem, ⟨4, _⟩ => ⟨S1x1024x768, .bf16⟩
  | .local _ .vmem, ⟨5, _⟩ => ⟨S1x1024x768, .bf16⟩
  | .local _ .vmem, ⟨6, _⟩ => ⟨S1x16, .f32⟩
  | .local _ .vmem, ⟨7, _⟩ => ⟨S1x16, .f32⟩
  | .local _ .vmem, ⟨8, _⟩ => ⟨S1x16, .f32⟩
  | .local _ .vmem, ⟨9, _⟩ => ⟨S128x8x768, .bf16⟩
  | .local _ .vmem, ⟨10, _⟩ => ⟨S128x8x768, .bf16⟩
  | .local _ .vmem, ⟨11, _⟩ => ⟨S128x8x1024, .bf16⟩
  | .local _ .vmem, ⟨12, _⟩ => ⟨S128x8x1024, .bf16⟩
  | .local _ .vmem, ⟨13, _⟩ => ⟨S1024x768, .f32⟩
  | .local _ .vmem, ⟨14, _⟩ => ⟨S1024x768, .f32⟩
  | .local _ .vmem, ⟨15, _⟩ => ⟨S1x16, .f32⟩
  | .local _ .vmem, ⟨16, _⟩ => ⟨S1x16, .f32⟩
  | .local _ .vmem, ⟨17, _⟩ => ⟨S1x16, .f32⟩
  | .local _ .vmem, ⟨18, _⟩ => ⟨S1x1024x1024, .fp8e4m3⟩
  | .local _ .vmem, ⟨19, _⟩ => ⟨S1x1024x1024, .fp8e4m3⟩
  | .local _ .vmem, ⟨20, _⟩ => ⟨S1x1, .f32⟩
  | .local _ .vmem, ⟨21, _⟩ => ⟨S1024x768, .fp8e4m3⟩
  | .local _ .vmem, ⟨22, _⟩ => ⟨S1024x768, .fp8e4m3⟩
  | .local _ .vmem, ⟨23, _⟩ => ⟨S1x1, .f32⟩
  | .local _ .vmem, ⟨24, _⟩ => ⟨S1x1024x768, .fp8e5m2⟩
  | .local _ .vmem, ⟨25, _⟩ => ⟨S1x1024x768, .fp8e5m2⟩
  | .local _ .vmem, ⟨26, _⟩ => ⟨S1x1, .f32⟩
  | .local _ .vmem, ⟨27, _⟩ => ⟨S4096x768, .fp8e4m3⟩
  | .local _ .vmem, ⟨28, _⟩ => ⟨S1024x768, .f32⟩
  | .local _ .vmem, ⟨29, _⟩ => ⟨S4096x768, .f32⟩
  | .local _ .vmem, ⟨30, _⟩ => ⟨S16x1024, .bf16⟩
  | .local _ .vmem, ⟨31, _⟩ => ⟨S8x768, .f32⟩
  | .local _ .vmem, ⟨32, _⟩ => ⟨S16x768, .bf16⟩
  | .local _ .smem, ⟨0, _⟩ => ⟨S6, .f32⟩
  | _, _ => ⟨S3x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev main_v3_9 : Ref sig .tc := ⟨.hbm, 18, rfl⟩
abbrev main_v3_10 : Ref sig .tc := ⟨.hbm, 19, rfl⟩
abbrev main_v3_11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg0 : BitVec 32 := BitVec.ofNat 32 (i 0).val
  let c0_i32_2 : BitVec 32 := 0#32
  let v9 : BitVec 1 := Scalar.cmpi .eq arg0 c0_i32_2
  let v10 : BitVec 32 := Scalar.extui v9
  let c0_i32_3 : BitVec 32 := 0#32
  let v11 : BitVec 1 := Scalar.cmpi .ne v10 c0_i32_3
  v11

def k0_off1 (i : grid0.Coords) : Fin 2 → Nat :=
  let arg1 : BitVec 32 := BitVec.ofNat 32 (i 1).val
  let c1024_i32 : BitVec 32 := 1024#32
  let v6 : BitVec 32 := Scalar.muli arg1 c1024_i32
  let v92 : Index := Scalar.indexCast v6
  let c0_49 : Index := 0#32
  ![v92.toNat, 0]
def k0_off2 (i : grid0.Coords) : Fin 2 → Nat :=
  let arg1 : BitVec 32 := BitVec.ofNat 32 (i 1).val
  let c1024_i32 : BitVec 32 := 1024#32
  let v6 : BitVec 32 := Scalar.muli arg1 c1024_i32
  let v39 : Index := Scalar.indexCast v6
  let c0_17 : Index := 0#32
  ![v39.toNat, 0]
def k0_cond4 (i : grid0.Coords) : BitVec 1 :=
  let arg0 : BitVec 32 := BitVec.ofNat 32 (i 0).val
  let c2_i32_33 : BitVec 32 := 2#32
  let v66 : BitVec 1 := Scalar.cmpi .eq arg0 c2_i32_33
  let v67 : BitVec 32 := Scalar.extui v66
  let c0_i32_34 : BitVec 32 := 0#32
  let v68 : BitVec 1 := Scalar.cmpi .ne v67 c0_i32_34
  v68

def k0_off3 (i : grid0.Coords) : Fin 2 → Nat :=
  let arg1 : BitVec 32 := BitVec.ofNat 32 (i 1).val
  let c1024_i32 : BitVec 32 := 1024#32
  let v6 : BitVec 32 := Scalar.muli arg1 c1024_i32
  let v74 : Index := Scalar.indexCast v6
  let c0_38 : Index := 0#32
  ![v74.toNat, 0]
def k0_cond5 (i : grid0.Coords) : BitVec 1 :=
  let arg1 : BitVec 32 := BitVec.ofNat 32 (i 1).val
  let c3_i32_35 : BitVec 32 := 3#32
  let v69 : BitVec 1 := Scalar.cmpi .eq arg1 c3_i32_35
  let v70 : BitVec 32 := Scalar.extui v69
  let c0_i32_36 : BitVec 32 := 0#32
  let v71 : BitVec 1 := Scalar.cmpi .ne v70 c0_i32_36
  v71

def k0_cond6 (i : grid0.Coords) : BitVec 1 :=
  let arg0 : BitVec 32 := BitVec.ofNat 32 (i 0).val
  let c2_i32 : BitVec 32 := 2#32
  let v3 : BitVec 1 := Scalar.cmpi .eq arg0 c2_i32
  let arg1 : BitVec 32 := BitVec.ofNat 32 (i 1).val
  let c3_i32 : BitVec 32 := 3#32
  let v4 : BitVec 1 := Scalar.cmpi .eq arg1 c3_i32
  let v5 : BitVec 1 := Scalar.andi v3 v4
  let v72 : BitVec 32 := Scalar.extui v5
  let c0_i32_37 : BitVec 32 := 0#32
  let v73 : BitVec 1 := Scalar.cmpi .ne v72 c0_i32_37
  v73

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v7 : BitVec 32 := Scalar.extui v2
  let c0_i32_1 : BitVec 32 := 0#32
  let v8 : BitVec 1 := Scalar.cmpi .ne v7 c0_i32_1
  v8

def k0_cond3 (i : grid0.Coords) : BitVec 1 :=
  let arg1 : BitVec 32 := BitVec.ofNat 32 (i 1).val
  let c0_i32_4 : BitVec 32 := 0#32
  let v12 : BitVec 1 := Scalar.cmpi .eq arg1 c0_i32_4
  let v13 : BitVec 32 := Scalar.extui v12
  let c0_i32_5 : BitVec 32 := 0#32
  let v14 : BitVec 1 := Scalar.cmpi .ne v13 c0_i32_5
  v14

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x8x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x768 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1024x768 .fp8e5m2 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== ReferenceIdeal.lean ====
abbrev S3x1024x4096 : Shape := ⟨3, ![3, 1024, 4096]⟩
abbrev S4096x768 : Shape := ⟨2, ![4096, 768]⟩
abbrev S3x1024x768 : Shape := ⟨3, ![3, 1024, 768]⟩
abbrev S16 : Shape := ⟨1, ![16]⟩
abbrev S1x16 : Shape := ⟨2, ![1, 16]⟩
abbrev S384x8x768 : Shape := ⟨3, ![384, 8, 768]⟩
abbrev S384x8x4096 : Shape := ⟨3, ![384, 8, 4096]⟩
abbrev S1x1 : Shape := ⟨2, ![1, 1]⟩
abbrev S3072x4096 : Shape := ⟨2, ![3072, 4096]⟩
abbrev S3072x768 : Shape := ⟨2, ![3072, 768]⟩
abbrev S3072 : Shape := ⟨1, ![3072]⟩
abbrev S3072x1 : Shape := ⟨2, ![3072, 1]⟩
abbrev S1 : Shape := ⟨1, ![1]⟩
abbrev S1x15 : Shape := ⟨2, ![1, 15]⟩
abbrev S1x252 : Shape := ⟨2, ![1, 252]⟩
abbrev S4096 : Shape := ⟨1, ![4096]⟩
abbrev S4096x1 : Shape := ⟨2, ![4096, 1]⟩

abbrev nBuf : Space → Nat
  | .hbm => 21
  | .vmem => 18
  | .smem => 0
  | _ => 0

abbrev bufTy : (tb : Table) → Fin (tcTables nBuf tb) → BufTy
  | .hbm, ⟨0, _⟩ => ⟨S3x1024x4096, .bf16⟩
  | .hbm, ⟨1, _⟩ => ⟨S4096x768, .f32⟩
  | .hbm, ⟨2, _⟩ => ⟨S3x1024x768, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S384x8x768, .bf16⟩
  | .hbm, ⟨10, _⟩ => ⟨S384x8x4096, .bf16⟩
  | .hbm, ⟨11, _⟩ => ⟨S4096x768, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S3x1024x4096, .fp8e4m3⟩
  | .hbm, ⟨16, _⟩ => ⟨S1x1, .f32⟩
  | .hbm, ⟨17, _⟩ => ⟨S4096x768, .fp8e4m3⟩
  | .hbm, ⟨18, _⟩ => ⟨S1x1, .f32⟩
  | .hbm, ⟨19, _⟩ => ⟨S3x1024x768, .fp8e5m2⟩
  | .hbm, ⟨20, _⟩ => ⟨S1x1, .f32⟩
  | .local _ .vmem, ⟨0, _⟩ => ⟨S3x1024x4096, .bf16⟩
  | .local _ .vmem, ⟨1, _⟩ => ⟨S4096x768, .f32⟩
  | .local _ .vmem, ⟨2, _⟩ => ⟨S3x1024x768, .bf16⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S384x8x768, .bf16⟩
  | .local _ .vmem, ⟨7, _⟩ => ⟨S384x8x4096, .bf16⟩
  | .local _ .vmem, ⟨8, _⟩ => ⟨S4096x768, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S3x1024x4096, .fp8e4m3⟩
  | .local _ .vmem, ⟨13, _⟩ => ⟨S1x1, .f32⟩
  | .local _ .vmem, ⟨14, _⟩ => ⟨S4096x768, .fp8e4m3⟩
  | .local _ .vmem, ⟨15, _⟩ => ⟨S1x1, .f32⟩
  | .local _ .vmem, ⟨16, _⟩ => ⟨S3x1024x768, .fp8e5m2⟩
  | .local _ .vmem, ⟨17, _⟩ => ⟨S1x1, .f32⟩
  | _, _ => ⟨S3x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev main_v3_9 : Ref sig .tc := ⟨.hbm, 18, rfl⟩
abbrev main_v3_10 : Ref sig .tc := ⟨.hbm, 19, rfl⟩
abbrev main_v3_11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S3x1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x8x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x8x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1024x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x768 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x1024x768 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Common.lean ====
/-
  Small facts about what a buffer reads after stores through rectangles, used by both body proofs: a store through the
  rectangle of the whole shape replaces the contents, any other store lays its payload over them, and a load through the
  rectangle of the whole shape reads all of them.
-/
module
public import Idealize.ShloMosaic.Lib.Pipeline.FrameBody
public import Idealize.ShloMosaic.Lib.WholeRead
public import Idealize.ShloMosaic.Lib.WritesUnit
public import Idealize.ShloMosaic.Lib.Tactic.Stretches
@[expose] public section
noncomputable section
namespace Cert.Common
open Idealize.ShloMosaic

variable {sig : RefSig} {κ : Kind} {sp : Space} {s : Shape} {e : EltTy} {Val : EltTy → Type}

/-- A store through the whole shape replaces what the buffer reads. -/
theorem read_writes_whole (v : View sig κ sp s e) (f : v.ty.Contents Val) (off : Fin s.rank → ℕ) (h : ∀ a, off a + s.size a ≤ s.size a)
    (w : s.Idx → Val e) (L : List (View.Piece Val s e)) :
    v.read Val (v.writes Val f (⟨Rect.unit (s := s) off s.size h, w⟩ :: L)) = w := by
  funext y
  have h0 : ∀ a, off a = 0 := fun a => by have := h a; omega
  refine v.read_writes_cons_hit_of_coords f (Rect.unit (s := s) off s.size h) w L y y fun a => ?_
  show (y a).val = off a + 1 * (y a).val
  rw [h0]; omega

/-- A load through the whole shape reads all of the contents. -/
theorem readAt_whole (v : View sig κ sp s e) (f : v.ty.Contents Val) (off : Fin s.rank → ℕ) (h : ∀ a, off a + s.size a ≤ s.size a) :
    v.readAt Val (Rect.unit (s := s) off s.size h).toLoadRect f = v.read Val f := by
  have h0 : ∀ a, off a = 0 := fun a => by have := h a; omega
  funext y
  rw [View.readAt_eq_ld]
  show v.read Val f _ = v.read Val f y
  congr 1
  funext a
  apply Fin.ext
  show off a + 1 * (y a).val = (y a).val
  rw [h0]; omega

/-- A store through any rectangle lays its payload over what the buffer read. -/
theorem read_writes_overlay (v : View sig κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · rw [View.read_writes_cons_miss v f p L y hy, Rect.overlay_of_not_mem p.1 _ _ hy]

/-- The part of the contents `X` under the rectangle `r`. -/
def part (r : Rect s) (X : s.Idx → Val e) : r.shape.Idx → Val e := fun x => X (r.emb x)

/-- A load through a rectangle reads the part of the contents under it. -/
theorem readAt_part (v : View sig κ sp s e) (f : v.ty.Contents Val) (r : Rect s) :
    v.readAt Val r.toLoadRect f = part r (v.read Val f) := rfl

/-- The part under a rectangle of contents that it was laid over is what was laid. -/
theorem part_overlay (r : Rect s) (X : s.Idx → Val e) (w : r.shape.Idx → Val e) : part r (r.overlay X w) = w :=
  funext fun x => r.overlay_emb X w x

/-- The part under a rectangle that misses the one laid over the contents is what was there before. -/
theorem part_overlay_of_disjoint (r r' : Rect s) (X : s.Idx → Val e) (w : r'.shape.Idx → Val e)
    (h : ∀ x, r.emb x ∉ r'.set) : part r (r'.overlay X w) = part r X :=
  funext fun x => r'.overlay_of_not_mem X w (h x)

end Cert.Common
end
-- ==== Proof.Kernel.Step.lean ====
/-
  One grid point of the kernel as a function of what it finds in its buffers.
-/
module
public import proofs.«01_k».proof.Proof.Gen.Kernel.Frame
public import proofs.«01_k».proof.Proof.Gen.Kernel.Skeleton
public import proofs.«01_k».proof.Proof.Common
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

/-- What the body keeps and writes: the twelve result windows' buffers (`o8` … `o19`, in the order of the kernel's results) and
    the seven scratch buffers (`m20` the coded weight, `m21` the sum of y, `m22` the sums of dw, `m23` … `m25` the running maxima
    of x, w and dy, `m26` the six scale words). -/
structure Mem (F : FTy → Type) where
  o8 : Vec F S128x8x768 .bf16
  o9 : Vec F S128x8x1024 .bf16
  o10 : Vec F S1024x768 .f32
  o11 : Vec F S1x16 .f32
  o12 : Vec F S1x16 .f32
  o13 : Vec F S1x16 .f32
  o14 : Vec F S1x1024x1024 .fp8e4m3
  o15 : Vec F S1x1 .f32
  o16 : Vec F S1024x768 .fp8e4m3
  o17 : Vec F S1x1 .f32
  o18 : Vec F S1x1024x768 .fp8e5m2
  o19 : Vec F S1x1 .f32
  m20 : Vec F S4096x768 .fp8e4m3
  m21 : Vec F S1024x768 .f32
  m22 : Vec F S4096x768 .f32
  m23 : Vec F S16x1024 .bf16
  m24 : Vec F S8x768 .f32
  m25 : Vec F S16x768 .bf16
  m26 : Vec F S6 .f32

/-- The blocks of the six operands that a grid point sees. -/
structure Inp (F : FTy → Type) where
  x : Vec F S1x1024x1024 .bf16
  w : Vec F S1024x768 .f32
  dy : Vec F S1x1024x768 .bf16
  hx : Vec F S1x16 .f32
  hw : Vec F S1x16 .f32
  hdy : Vec F S1x16 .f32

/-- The six scale words, from the three histories: the scales of x, w, dy, then their reciprocals. -/
def scaleWords (hx hw hdy : Vec F S1x16 .f32) : Vec F S6 .f32 := fun j =>
  match (j 0).val with
  | 0 => k0_pay10 (k0_pay7 hx)
  | 1 => k0_pay14 (k0_pay12 hw) 127#32
  | 2 => k0_pay22 (k0_pay16 hdy) (k0_pay17 hdy) k0_pay18 k0_pay19
  | 3 => k0_pay11 (k0_pay8 hx) k0_pay9
  | 4 => k0_pay15 (k0_pay12 hw)
  | _ => k0_pay23 (k0_pay16 hdy) (k0_pay17 hdy) k0_pay18 k0_pay19

/-- The place of the `k`-th scale word. -/
def wordAt (k : Fin 6) : S6.Idx := fun | ⟨0, _⟩ => k

/-- The row block of the long scratch buffers that point `i` works on. -/
abbrev rowBlock (i : grid0.Coords) : Rect S4096x768 := Rect.unit (s := S4096x768) (k0_off2 i) S1024x768.size (k0_off2_inb i)

theorem eq_wordAt (j : S6.Idx) : ∃ k : Fin 6, j = wordAt k := ⟨j 0, funext fun | ⟨0, _⟩ => rfl⟩

theorem readAt_word {κ : Kind} {sp : Space} (v : View sig κ sp S6 .f32) (g : v.ty.Contents (Elt F)) (k : Fin 6) (o : Fin 1 → ℕ)
    (h : ∀ a, o a + S1.size a ≤ S6.size a) (ho : o 0 = k.val) (x) :
    v.readAt (Elt F) (Rect.unit (s := S6) o S1.size h).toLoadRect g x = v.read (Elt F) g (wordAt k) := by
  rw [View.readAt_eq_ld]
  show v.read (Elt F) g _ = _
  congr 1
  funext a
  match a with
  | ⟨0, _⟩ =>
    apply Fin.ext
    have hx : (x 0).val < 1 := (x 0).isLt
    show o 0 + 1 * (x 0).val = k.val
    omega

theorem readAt_word0 {κ : Kind} {sp : Space} (v : View sig κ sp S6 .f32) (g : v.ty.Contents (Elt F))
    (h : ∀ a, (![0] : Fin 1 → ℕ) a + S1.size a ≤ S6.size a) (x) :
    v.readAt (Elt F) (Rect.unit (s := S6) ![0] S1.size h).toLoadRect g x = v.read (Elt F) g (wordAt 0) := readAt_word v g 0 _ h rfl x
theorem readAt_word1 {κ : Kind} {sp : Space} (v : View sig κ sp S6 .f32) (g : v.ty.Contents (Elt F))
    (h : ∀ a, (![1] : Fin 1 → ℕ) a + S1.size a ≤ S6.size a) (x) :
    v.readAt (Elt F) (Rect.unit (s := S6) ![1] S1.size h).toLoadRect g x = v.read (Elt F) g (wordAt 1) := readAt_word v g 1 _ h rfl x
theorem readAt_word2 {κ : Kind} {sp : Space} (v : View sig κ sp S6 .f32) (g : v.ty.Contents (Elt F))
    (h : ∀ a, (![2] : Fin 1 → ℕ) a + S1.size a ≤ S6.size a) (x) :
    v.readAt (Elt F) (Rect.unit (s := S6) ![2] S1.size h).toLoadRect g x = v.read (Elt F) g (wordAt 2) := readAt_word v g 2 _ h rfl x
theorem readAt_word3 {κ : Kind} {sp : Space} (v : View sig κ sp S6 .f32) (g : v.ty.Contents (Elt F))
    (h : ∀ a, (![3] : Fin 1 → ℕ) a + S1.size a ≤ S6.size a) (x) :
    v.readAt (Elt F) (Rect.unit (s := S6) ![3] S1.size h).toLoadRect g x = v.read (Elt F) g (wordAt 3) := readAt_word v g 3 _ h rfl x
theorem readAt_word4 {κ : Kind} {sp : Space} (v : View sig κ sp S6 .f32) (g : v.ty.Contents (Elt F))
    (h : ∀ a, (![4] : Fin 1 → ℕ) a + S1.size a ≤ S6.size a) (x) :
    v.readAt (Elt F) (Rect.unit (s := S6) ![4] S1.size h).toLoadRect g x = v.read (Elt F) g (wordAt 4) := readAt_word v g 4 _ h rfl x
theorem readAt_word5 {κ : Kind} {sp : Space} (v : View sig κ sp S6 .f32) (g : v.ty.Contents (Elt F))
    (h : ∀ a, (![5] : Fin 1 → ℕ) a + S1.size a ≤ S6.size a) (x) :
    v.readAt (Elt F) (Rect.unit (s := S6) ![5] S1.size h).toLoadRect g x = v.read (Elt F) g (wordAt 5) := readAt_word v g 5 _ h rfl x
theorem readAt_lit_S1x1024x1024 {κ : Kind} {sp : Space} {e : EltTy} (v : View sig κ sp S1x1024x1024 e) (g : v.ty.Contents (Elt F))
    (h : ∀ a, (![0, 0, 0] : Fin 3 → ℕ) a + (![1, 1024, 1024] : Fin 3 → ℕ) a ≤ S1x1024x1024.size a) :
    v.readAt (Elt F) (Rect.unit (s := S1x1024x1024) ![0, 0, 0] ![1, 1024, 1024] h).toLoadRect g = v.read (Elt F) g := readAt_whole v g _ h
theorem readAt_lit_S1024x768 {κ : Kind} {sp : Space} {e : EltTy} (v : View sig κ sp S1024x768 e) (g : v.ty.Contents (Elt F))
    (h : ∀ a, (![0, 0] : Fin 2 → ℕ) a + (![1024, 768] : Fin 2 → ℕ) a ≤ S1024x768.size a) :
    v.readAt (Elt F) (Rect.unit (s := S1024x768) ![0, 0] ![1024, 768] h).toLoadRect g = v.read (Elt F) g := readAt_whole v g _ h
theorem readAt_lit_S1x1024x768 {κ : Kind} {sp : Space} {e : EltTy} (v : View sig κ sp S1x1024x768 e) (g : v.ty.Contents (Elt F))
    (h : ∀ a, (![0, 0, 0] : Fin 3 → ℕ) a + (![1, 1024, 768] : Fin 3 → ℕ) a ≤ S1x1024x768.size a) :
    v.readAt (Elt F) (Rect.unit (s := S1x1024x768) ![0, 0, 0] ![1, 1024, 768] h).toLoadRect g = v.read (Elt F) g := readAt_whole v g _ h
theorem readAt_lit_S1x16 {κ : Kind} {sp : Space} {e : EltTy} (v : View sig κ sp S1x16 e) (g : v.ty.Contents (Elt F))
    (h : ∀ a, (![0, 0] : Fin 2 → ℕ) a + (![1, 16] : Fin 2 → ℕ) a ≤ S1x16.size a) :
    v.readAt (Elt F) (Rect.unit (s := S1x16) ![0, 0] ![1, 16] h).toLoadRect g = v.read (Elt F) g := readAt_whole v g _ h
theorem readAt_lit_S16x1024 {κ : Kind} {sp : Space} {e : EltTy} (v : View sig κ sp S16x1024 e) (g : v.ty.Contents (Elt F))
    (h : ∀ a, (![0, 0] : Fin 2 → ℕ) a + (![16, 1024] : Fin 2 → ℕ) a ≤ S16x1024.size a) :
    v.readAt (Elt F) (Rect.unit (s := S16x1024) ![0, 0] ![16, 1024] h).toLoadRect g = v.read (Elt F) g := readAt_whole v g _ h
theorem readAt_lit_S8x768 {κ : Kind} {sp : Space} {e : EltTy} (v : View sig κ sp S8x768 e) (g : v.ty.Contents (Elt F))
    (h : ∀ a, (![0, 0] : Fin 2 → ℕ) a + (![8, 768] : Fin 2 → ℕ) a ≤ S8x768.size a) :
    v.readAt (Elt F) (Rect.unit (s := S8x768) ![0, 0] ![8, 768] h).toLoadRect g = v.read (Elt F) g := readAt_whole v g _ h
theorem readAt_lit_S16x768 {κ : Kind} {sp : Space} {e : EltTy} (v : View sig κ sp S16x768 e) (g : v.ty.Contents (Elt F))
    (h : ∀ a, (![0, 0] : Fin 2 → ℕ) a + (![16, 768] : Fin 2 → ℕ) a ≤ S16x768.size a) :
    v.readAt (Elt F) (Rect.unit (s := S16x768) ![0, 0] ![16, 768] h).toLoadRect g = v.read (Elt F) g := readAt_whole v g _ h
theorem readAt_wordlit0 {κ : Kind} {sp : Space} (v : View sig κ sp S6 .f32) (g : v.ty.Contents (Elt F))
    (h : ∀ a, (![0] : Fin 1 → ℕ) a + (![1] : Fin 1 → ℕ) a ≤ S6.size a) (x) :
    v.readAt (Elt F) (Rect.unit (s := S6) ![0] ![1] h).toLoadRect g x = v.read (Elt F) g (wordAt 0) := readAt_word v g 0 _ h rfl x
theorem readAt_wordlit1 {κ : Kind} {sp : Space} (v : View sig κ sp S6 .f32) (g : v.ty.Contents (Elt F))
    (h : ∀ a, (![1] : Fin 1 → ℕ) a + (![1] : Fin 1 → ℕ) a ≤ S6.size a) (x) :
    v.readAt (Elt F) (Rect.unit (s := S6) ![1] ![1] h).toLoadRect g x = v.read (Elt F) g (wordAt 1) := readAt_word v g 1 _ h rfl x
theorem readAt_wordlit2 {κ : Kind} {sp : Space} (v : View sig κ sp S6 .f32) (g : v.ty.Contents (Elt F))
    (h : ∀ a, (![2] : Fin 1 → ℕ) a + (![1] : Fin 1 → ℕ) a ≤ S6.size a) (x) :
    v.readAt (Elt F) (Rect.unit (s := S6) ![2] ![1] h).toLoadRect g x = v.read (Elt F) g (wordAt 2) := readAt_word v g 2 _ h rfl x
theorem readAt_wordlit3 {κ : Kind} {sp : Space} (v : View sig κ sp S6 .f32) (g : v.ty.Contents (Elt F))
    (h : ∀ a, (![3] : Fin 1 → ℕ) a + (![1] : Fin 1 → ℕ) a ≤ S6.size a) (x) :
    v.readAt (Elt F) (Rect.unit (s := S6) ![3] ![1] h).toLoadRect g x = v.read (Elt F) g (wordAt 3) := readAt_word v g 3 _ h rfl x
theorem readAt_wordlit4 {κ : Kind} {sp : Space} (v : View sig κ sp S6 .f32) (g : v.ty.Contents (Elt F))
    (h : ∀ a, (![4] : Fin 1 → ℕ) a + (![1] : Fin 1 → ℕ) a ≤ S6.size a) (x) :
    v.readAt (Elt F) (Rect.unit (s := S6) ![4] ![1] h).toLoadRect g x = v.read (Elt F) g (wordAt 4) := readAt_word v g 4 _ h rfl x
theorem readAt_wordlit5 {κ : Kind} {sp : Space} (v : View sig κ sp S6 .f32) (g : v.ty.Contents (Elt F))
    (h : ∀ a, (![5] : Fin 1 → ℕ) a + (![1] : Fin 1 → ℕ) a ≤ S6.size a) (x) :
    v.readAt (Elt F) (Rect.unit (s := S6) ![5] ![1] h).toLoadRect g x = v.read (Elt F) g (wordAt 5) := readAt_word v g 5 _ h rfl x

/-- What the word buffer reads after its six stores, in the order in which the kernel makes them. -/
theorem read_six {κ : Kind} {sp : Space} (v : View sig κ sp S6 .f32) (g : v.ty.Contents (Elt F))
    (h0 : ∀ a, (![0] : Fin 1 → ℕ) a + S1.size a ≤ S6.size a) (h1 : ∀ a, (![1] : Fin 1 → ℕ) a + S1.size a ≤ S6.size a)
    (h2 : ∀ a, (![2] : Fin 1 → ℕ) a + S1.size a ≤ S6.size a) (h3 : ∀ a, (![3] : Fin 1 → ℕ) a + S1.size a ≤ S6.size a)
    (h4 : ∀ a, (![4] : Fin 1 → ℕ) a + S1.size a ≤ S6.size a) (h5 : ∀ a, (![5] : Fin 1 → ℕ) a + S1.size a ≤ S6.size a)
    (w0 w1 w2 w3 w4 w5 : Elt F .f32) (k : Fin 6) :
    v.read (Elt F) (v.writes (Elt F) g [⟨Rect.unit (s := S6) ![5] S1.size h5, fun _ => w5⟩, ⟨Rect.unit (s := S6) ![2] S1.size h2, fun _ => w2⟩,
      ⟨Rect.unit (s := S6) ![4] S1.size h4, fun _ => w4⟩, ⟨Rect.unit (s := S6) ![1] S1.size h1, fun _ => w1⟩,
      ⟨Rect.unit (s := S6) ![3] S1.size h3, fun _ => w3⟩, ⟨Rect.unit (s := S6) ![0] S1.size h0, fun _ => w0⟩]) (wordAt k)
      = match k.val with | 0 => w0 | 1 => w1 | 2 => w2 | 3 => w3 | 4 => w4 | _ => w5 := by
  have hit : ∀ (o : Fin 1 → ℕ) (h : ∀ a, o a + S1.size a ≤ S6.size a) (w : Elt F .f32) (L) (k : Fin 6), o 0 = k.val →
      v.read (Elt F) (v.writes (Elt F) g (⟨Rect.unit (s := S6) o S1.size h, fun _ => w⟩ :: L)) (wordAt k) = w := fun o h w L k hk =>
    v.read_writes_cons_hit_of_coords g (Rect.unit (s := S6) o S1.size h) (fun _ => w) L (fun | ⟨0, _⟩ => (0 : Fin 1)) _
      (fun | ⟨0, _⟩ => hk.symm)
  have miss : ∀ (o : Fin 1 → ℕ) (h : ∀ a, o a + S1.size a ≤ S6.size a) (w : Elt F .f32) (L) (k : Fin 6), o 0 ≠ k.val →
      v.read (Elt F) (v.writes (Elt F) g (⟨Rect.unit (s := S6) o S1.size h, fun _ => w⟩ :: L)) (wordAt k)
        = v.read (Elt F) (v.writes (Elt F) g L) (wordAt k) := fun o h w L k hk =>
    v.read_writes_cons_miss_of_axis g ⟨Rect.unit (s := S6) o S1.size h, fun _ => w⟩ L (wordAt k) 0 (o 0) 1 rfl rfl rfl
      (by show k.val < o 0 ∨ o 0 + 1 ≤ k.val; omega)
  fin_cases k
  · refine (miss _ _ _ _ _ (by decide)).trans ((miss _ _ _ _ _ (by decide)).trans ((miss _ _ _ _ _ (by decide)).trans ((miss _ _ _ _ _ (by decide)).trans ((miss _ _ _ _ _ (by decide)).trans (hit _ _ _ _ _ rfl)))))
  · refine (miss _ _ _ _ _ (by decide)).trans ((miss _ _ _ _ _ (by decide)).trans ((miss _ _ _ _ _ (by decide)).trans (hit _ _ _ _ _ rfl)))
  · refine (miss _ _ _ _ _ (by decide)).trans (hit _ _ _ _ _ rfl)
  · refine (miss _ _ _ _ _ (by decide)).trans ((miss _ _ _ _ _ (by decide)).trans ((miss _ _ _ _ _ (by decide)).trans ((miss _ _ _ _ _ (by decide)).trans (hit _ _ _ _ _ rfl))))
  · refine (miss _ _ _ _ _ (by decide)).trans ((miss _ _ _ _ _ (by decide)).trans (hit _ _ _ _ _ rfl))
  · exact hit _ _ _ _ _ rfl

variable (f r0 c0 r2 c3 l : Bool) (i : grid0.Coords) (p : Inp F) (M : Mem F)

/-- The scale words after the point. -/
def words : Vec F S6 .f32 := bif f then scaleWords p.hx p.hw p.hdy else M.m26
/-- The coded weight after the point. -/
def codedW : Vec F S4096x768 .fp8e4m3 :=
  bif r0 then (rowBlock i).overlay M.m20 (k0_pay30 p.w (words f p M (wordAt 4))) else M.m20
/-- The coded dy of the point. -/
def codedDy : Vec F S1x1024x768 .fp8e5m2 := bif c0 then k0_pay34 p.dy (words f p M (wordAt 5)) else M.o18
/-- The scaled x of the point. -/
def scaledX : FVec F S1024x1024 .bf16 := k0_pay38 p.x (words f p M (wordAt 3))
/-- The sum of y after the point. -/
def sumY : Vec F S1024x768 .f32 :=
  k0_pay43 (scaledX f p M) k0_pay39 (part (rowBlock i) (codedW f r0 i p M)) (bif c0 then k0_pay35 else M.m21)
/-- The sums of dw before the point's product. -/
def sumDw0 : Vec F S4096x768 .f32 := bif r0 then (rowBlock i).overlay M.m22 k0_pay31 else M.m22
/-- The sums of dw after the point. -/
def sumDw : Vec F S4096x768 .f32 :=
  (rowBlock i).overlay (sumDw0 r0 i M)
    (k0_pay45 (scaledX f p M) k0_pay39 (codedDy f c0 p M) (part (rowBlock i) (sumDw0 r0 i M)))
/-- The running maximum of x after the point. -/
def maxX : Vec F S16x1024 .bf16 := k0_pay37 p.x (bif f then k0_pay24 else M.m23)
/-- The running maximum of w after the point. -/
def maxW : Vec F S8x768 .f32 :=
  bif r0 then k0_pay28 p.w (bif f then k0_pay25 else M.m24) else (bif f then k0_pay25 else M.m24)
/-- The running maximum of dy after the point. -/
def maxDy : Vec F S16x768 .bf16 :=
  bif c0 then k0_pay33 p.dy (bif f then k0_pay27 k0_pay26 else M.m25) else (bif f then k0_pay27 k0_pay26 else M.m25)

/-- One point of the kernel as a function of what it finds: `f` says it is the first point, `r0`/`r2` that it is in the first/last
    round of tokens, `c0`/`c3` in the first/last column block, `l` that it is the last point. -/
def step : Mem F where
  o8 := bif c3 then k0_pay2 (sumY f r0 c0 i p M) (words f p M (wordAt 0)) (words f p M (wordAt 1)) else M.o8
  o9 := k0_pay44 (part (rowBlock i) (codedW f r0 i p M)) (codedDy f c0 p M) (words f p M (wordAt 2)) (words f p M (wordAt 1))
  o10 := bif r2 then k0_pay1 (part (rowBlock i) (sumDw f r0 c0 i p M)) (words f p M (wordAt 0)) (words f p M (wordAt 2)) else M.o10
  o11 := bif l then k0_pay3 (maxX f p M) p.hx else M.o11
  o12 := bif l then k0_pay4 (maxW f r0 p M) p.hw else M.o12
  o13 := bif l then k0_pay5 (maxDy f c0 p M) p.hdy else M.o13
  o14 := k0_pay41 (scaledX f p M) k0_pay39
  o15 := bif f then k0_pay7 p.hx else M.o15
  o16 := bif r0 then k0_pay29 p.w (words f p M (wordAt 4)) else M.o16
  o17 := bif f then k0_pay13 (k0_pay12 p.hw) 127#32 else M.o17
  o18 := codedDy f c0 p M
  o19 := bif f then k0_pay21 (k0_pay16 p.hdy) (k0_pay17 p.hdy) k0_pay18 k0_pay19 else M.o19
  m20 := codedW f r0 i p M
  m21 := sumY f r0 c0 i p M
  m22 := sumDw f r0 c0 i p M
  m23 := maxX f p M
  m24 := maxW f r0 p M
  m25 := maxDy f c0 p M
  m26 := words f p M

end Cert.Kernel.Hand
end
-- ==== Proof.Kernel.Inv.lean ====
/-
  What the kernel's buffers hold before each grid point, as functions of the operands' blocks: the running sums and maxima, the
  coded blocks kept between the points, and the step from one point to the next.
-/
module
public import proofs.«01_k».proof.Proof.Kernel.Step
@[expose] public section
set_option maxRecDepth 16384
noncomputable section
namespace Cert.Kernel.Hand
open Cert.Kernel Cert.Kernel.Gen Cert.Common
open Idealize.ShloMosaic Idealize.ShloMosaic.TcCoe Idealize.ShloMosaic.Tactic
variable {F : FTy → Type} [FloatOps F]

/-- The grid point of number `n`. -/
def pt (n : ℕ) : Fin cfg0.N := ⟨n % 12, Nat.mod_lt _ (by decide)⟩

/-- The row block of the long scratch buffers that point `n` works on. -/
abbrev row (n : ℕ) : Rect S4096x768 := rowBlock (grid0.coords (pt n))

theorem off_row : ∀ t : Fin grid0.N, k0_off2 (grid0.coords t) = ![1024 * (t.val % 4), 0] := by decide +kernel

theorem off_row0 (n : ℕ) (hn : n < 12) : k0_off2 (grid0.coords (pt n)) 0 = 1024 * (n % 4) := by
  rw [off_row]; show 1024 * (n % 12 % 4) = _; rw [Nat.mod_eq_of_lt hn]
theorem off_row1 (n : ℕ) : k0_off2 (grid0.coords (pt n)) 1 = 0 := by rw [off_row]; rfl

/-- Points of the same column block work on the same rows. -/
theorem part_row {e : EltTy} (n : ℕ) (hn : n < 12) (X : Vec F S4096x768 e) :
    (part (row n) X : Vec F S1024x768 e) = part (row (n % 4)) X := by
  funext x
  show X _ = X _
  congr 1
  funext a
  apply Fin.ext
  show k0_off2 (grid0.coords (pt n)) a + 1 * (x a).val = k0_off2 (grid0.coords (pt (n % 4))) a + 1 * (x a).val
  congr 1
  match a with
  | ⟨0, _⟩ => exact (off_row0 n hn).trans ((off_row0 (n % 4) (by omega)).trans (by rw [Nat.mod_mod])).symm
  | ⟨1, _⟩ => exact (off_row1 n).trans (off_row1 _).symm

/-- Points of different column blocks work on different rows. -/
theorem row_disjoint (j n : ℕ) (hj : j < 4) (hn : n < 12) (h : j ≠ n % 4) (x : (row j).shape.Idx) : (row j).emb x ∉ (row n).set := by
  intro hm
  obtain ⟨y, hy⟩ := (row n).exists_idx_of_mem hm
  have h0 := congrArg (fun z : S4096x768.Idx => (z 0).val) hy
  have e0 : k0_off2 (grid0.coords (pt n)) 0 + 1 * (y 0).val = k0_off2 (grid0.coords (pt j)) 0 + 1 * (x 0).val := h0
  rw [off_row0 n hn, off_row0 j (by omega), Nat.mod_eq_of_lt hj] at e0
  have hx : (x 0).val < 1024 := (x 0).isLt
  have hy : (y 0).val < 1024 := (y 0).isLt
  omega

theorem part_overlay_row {e : EltTy} (n : ℕ) (X : Vec F S4096x768 e) (w : Vec F S1024x768 e) :
    (part (row n) ((row n).overlay X w) : Vec F S1024x768 e) = w := part_overlay (row n) X w
theorem part_overlay_other {e : EltTy} (j n : ℕ) (hj : j < 4) (hn : n < 12) (h : j ≠ n % 4) (X : Vec F S4096x768 e) (w : Vec F S1024x768 e) :
    (part (row j) ((row n).overlay X w) : Vec F S1024x768 e) = part (row j) X :=
  part_overlay_of_disjoint (row j) (row n) X w (row_disjoint j n hj hn h)

variable (p : ℕ → Inp F)

/-- The six scale words. -/
def SW (k : Fin 6) : Elt F .f32 := scaleWords (p 0).hx (p 0).hw (p 0).hdy (wordAt k)
/-- The coded weight of row block `k`. -/
def WQ (k : ℕ) : Vec F S1024x768 .fp8e4m3 := k0_pay30 (p k).w (SW p 4)
/-- The coded dy of token block `r`. -/
def DQ (r : ℕ) : Vec F S1x1024x768 .fp8e5m2 := k0_pay34 (p (4 * r)).dy (SW p 5)
/-- The scaled x of point `n`. -/
def SX (n : ℕ) : FVec F S1024x1024 .bf16 := k0_pay38 (p n).x (SW p 3)
/-- The sum of y of token block `r` over the first column blocks. -/
def YP (r : ℕ) : ℕ → Vec F S1024x768 .f32
  | 0 => k0_pay35
  | k + 1 => k0_pay43 (SX p (4 * r + k)) k0_pay39 (WQ p k) (YP r k)
/-- The sum of dw of row block `k` over the first token blocks. -/
def DWP (k : ℕ) : ℕ → Vec F S1024x768 .f32
  | 0 => k0_pay31
  | r + 1 => k0_pay45 (SX p (4 * r + k)) k0_pay39 (DQ p r) (DWP k r)
/-- The running maximum of x over the first points. -/
def AX : ℕ → Vec F S16x1024 .bf16
  | 0 => k0_pay24
  | n + 1 => k0_pay37 (p n).x (AX n)
/-- The running maximum of w over the first row blocks. -/
def AW : ℕ → Vec F S8x768 .f32
  | 0 => k0_pay25
  | n + 1 => k0_pay28 (p n).w (AW n)
/-- The running maximum of dy over the first token blocks. -/
def ADY : ℕ → Vec F S16x768 .bf16
  | 0 => k0_pay27 k0_pay26
  | r + 1 => k0_pay33 (p (4 * r)).dy (ADY r)

/-- What holds of the buffers before point `n`. -/
structure Good (n : ℕ) (M : Mem F) : Prop where
  words : 1 ≤ n → ∀ k, M.m26 (wordAt k) = SW p k
  wq : ∀ k, k < 4 → k < n → (part (row k) M.m20 : Vec F S1024x768 .fp8e4m3) = WQ p k
  y : n % 4 ≠ 0 → M.m21 = YP p (n / 4) (n % 4)
  dw : ∀ k, k < 4 → k < n → (part (row k) M.m22 : Vec F S1024x768 .f32) = DWP p k ((n + 3 - k) / 4)
  ax : 1 ≤ n → M.m23 = AX p n
  aw : 1 ≤ n → M.m24 = AW p (min n 4)
  ady : 1 ≤ n → M.m25 = ADY p ((n + 3) / 4)

/-- The step of point `n`. -/
def stepAt (n : ℕ) (M : Mem F) : Mem F :=
  step (decide (n = 0)) (decide (n < 4)) (decide (n % 4 = 0)) (decide (8 ≤ n)) (decide (n % 4 = 3)) (decide (n = 11))
    (grid0.coords (pt n)) (p n) M

variable {p} {n : ℕ} {M : Mem F} (hn : n < 12) (hG : Good p n M) (hD : n % 4 ≠ 0 → M.o18 = DQ p (n / 4))
include hn hG

omit hn in
theorem words_eq (k : Fin 6) : words (decide (n = 0)) (p n) M (wordAt k) = SW p k := by
  unfold words
  by_cases h : n = 0
  · subst h; rfl
  · rw [decide_eq_false h]; exact hG.words (by omega) k

theorem wq_after (k : ℕ) (hk : k < 4) (hkn : k < n + 1) :
    (part (row k) (codedW (decide (n = 0)) (decide (n < 4)) (grid0.coords (pt n)) (p n) M) : Vec F S1024x768 .fp8e4m3) = WQ p k := by
  unfold codedW
  rw [words_eq hG]
  by_cases h : n < 4
  · rw [decide_eq_true h, cond_true]
    by_cases e : k = n
    · subst e; exact part_overlay_row k _ _
    · exact (part_overlay_other k n hk hn (by omega) _ _).trans (hG.wq k hk (by omega))
  · rw [decide_eq_false h, cond_false]
    exact hG.wq k hk (by omega)

theorem chunk_eq :
    (part (row n) (codedW (decide (n = 0)) (decide (n < 4)) (grid0.coords (pt n)) (p n) M) : Vec F S1024x768 .fp8e4m3) = WQ p (n % 4) :=
  (part_row n hn _).trans (wq_after hn hG (n % 4) (by omega) (by omega))

omit hn in
theorem scaledX_eq : scaledX (decide (n = 0)) (p n) M = SX p n := by
  unfold scaledX SX; rw [words_eq hG]

include hD in
omit hn in
theorem codedDy_eq : codedDy (decide (n = 0)) (decide (n % 4 = 0)) (p n) M = DQ p (n / 4) := by
  unfold codedDy
  rw [words_eq hG]
  by_cases h : n % 4 = 0
  · rw [decide_eq_true h, cond_true]; unfold DQ; rw [show 4 * (n / 4) = n by omega]
  · rw [decide_eq_false h, cond_false]; exact hD h

theorem sumY_eq : sumY (decide (n = 0)) (decide (n < 4)) (decide (n % 4 = 0)) (grid0.coords (pt n)) (p n) M = YP p (n / 4) (n % 4 + 1) := by
  unfold sumY
  have hc := chunk_eq hn hG
  rw [scaledX_eq hG]
  show _ = k0_pay43 (SX p (4 * (n / 4) + n % 4)) k0_pay39 (WQ p (n % 4)) (YP p (n / 4) (n % 4))
  rw [show 4 * (n / 4) + n % 4 = n by omega]
  rw [show k0_pay43 (SX p n) k0_pay39 (part (row n) (codedW (decide (n = 0)) (decide (n < 4)) (grid0.coords (pt n)) (p n) M)) (bif decide (n % 4 = 0) then k0_pay35 else M.m21)
    = k0_pay43 (SX p n) k0_pay39 (WQ p (n % 4)) (bif decide (n % 4 = 0) then k0_pay35 else M.m21) from congrArg (fun z => k0_pay43 (SX p n) k0_pay39 z _) hc]
  congr 1
  by_cases h : n % 4 = 0
  · rw [decide_eq_true h, cond_true, h]; rfl
  · rw [decide_eq_false h, cond_false]; exact hG.y h

theorem sumDw0_eq : (part (row n) (sumDw0 (decide (n < 4)) (grid0.coords (pt n)) M) : Vec F S1024x768 .f32) = DWP p (n % 4) (n / 4) := by
  unfold sumDw0
  by_cases h : n < 4
  · rw [decide_eq_true h, cond_true, show n / 4 = 0 by omega]; exact part_overlay_row n _ _
  · rw [decide_eq_false h, cond_false]
    refine (part_row n hn _).trans ((hG.dw (n % 4) (by omega) (by omega)).trans ?_)
    rw [show (n + 3 - n % 4) / 4 = n / 4 by omega]

include hD in
theorem sumDw_eq : (part (row n) (sumDw (decide (n = 0)) (decide (n < 4)) (decide (n % 4 = 0)) (grid0.coords (pt n)) (p n) M) : Vec F S1024x768 .f32)
    = DWP p (n % 4) (n / 4 + 1) := by
  unfold sumDw
  refine (part_overlay_row n _ _).trans ?_
  rw [scaledX_eq hG, codedDy_eq hG hD]
  show _ = k0_pay45 (SX p (4 * (n / 4) + n % 4)) k0_pay39 (DQ p (n / 4)) (DWP p (n % 4) (n / 4))
  rw [show 4 * (n / 4) + n % 4 = n by omega]
  exact congrArg (fun z => k0_pay45 (SX p n) k0_pay39 (DQ p (n / 4)) z) (sumDw0_eq hn hG)

include hD in
theorem dw_after (k : ℕ) (hk : k < 4) (hkn : k < n + 1) :
    (part (row k) (sumDw (decide (n = 0)) (decide (n < 4)) (decide (n % 4 = 0)) (grid0.coords (pt n)) (p n) M) : Vec F S1024x768 .f32)
      = DWP p k ((n + 1 + 3 - k) / 4) := by
  by_cases e : k = n % 4
  · subst e
    rw [show (n + 1 + 3 - n % 4) / 4 = n / 4 + 1 by omega]
    exact (part_row n hn _).symm.trans (sumDw_eq hn hG hD)
  · unfold sumDw
    refine (part_overlay_other k n hk hn e _ _).trans ?_
    rw [show (n + 1 + 3 - k) / 4 = (n + 3 - k) / 4 by omega]
    unfold sumDw0
    by_cases h : n < 4
    · rw [decide_eq_true h, cond_true]
      exact (part_overlay_other k n hk hn e _ _).trans (hG.dw k hk (by omega))
    · rw [decide_eq_false h, cond_false]
      exact hG.dw k hk (by omega)

omit hn in
theorem maxX_eq : maxX (decide (n = 0)) (p n) M = AX p (n + 1) := by
  unfold maxX
  show _ = k0_pay37 (p n).x (AX p n)
  congr 1
  by_cases h : n = 0
  · subst h; rfl
  · rw [decide_eq_false h, cond_false]; exact hG.ax (by omega)

omit hn in
theorem maxW_eq : maxW (decide (n = 0)) (decide (n < 4)) (p n) M = AW p (min (n + 1) 4) := by
  have h0 : (bif decide (n = 0) then k0_pay25 else M.m24) = AW p (min n 4) := by
    by_cases h : n = 0
    · subst h; rfl
    · rw [decide_eq_false h, cond_false]; exact hG.aw (by omega)
  unfold maxW
  rw [h0]
  by_cases h : n < 4
  · rw [decide_eq_true h, cond_true, show min n 4 = n by omega, show min (n + 1) 4 = n + 1 by omega]; rfl
  · rw [decide_eq_false h, cond_false, show min n 4 = 4 by omega, show min (n + 1) 4 = 4 by omega]

omit hn in
theorem maxDy_eq : maxDy (decide (n = 0)) (decide (n % 4 = 0)) (p n) M = ADY p ((n + 1 + 3) / 4) := by
  have h0 : (bif decide (n = 0) then k0_pay27 k0_pay26 else M.m25) = ADY p ((n + 3) / 4) := by
    by_cases h : n = 0
    · subst h; rfl
    · rw [decide_eq_false h, cond_false]; exact hG.ady (by omega)
  unfold maxDy
  rw [h0]
  by_cases h : n % 4 = 0
  · rw [decide_eq_true h, cond_true, show (n + 1 + 3) / 4 = (n + 3) / 4 + 1 by omega]
    show _ = k0_pay33 (p (4 * ((n + 3) / 4))).dy _
    rw [show 4 * ((n + 3) / 4) = n by omega]
  · rw [decide_eq_false h, cond_false, show (n + 1 + 3) / 4 = (n + 3) / 4 by omega]

omit hn hG in
theorem stepAt_m20 : (stepAt p n M).m20 = codedW (decide (n = 0)) (decide (n < 4)) (grid0.coords (pt n)) (p n) M := by simp only [stepAt, step]
omit hn hG in
theorem stepAt_m21 : (stepAt p n M).m21 = sumY (decide (n = 0)) (decide (n < 4)) (decide (n % 4 = 0)) (grid0.coords (pt n)) (p n) M := by simp only [stepAt, step]
omit hn hG in
theorem stepAt_m22 : (stepAt p n M).m22 = sumDw (decide (n = 0)) (decide (n < 4)) (decide (n % 4 = 0)) (grid0.coords (pt n)) (p n) M := by simp only [stepAt, step]
omit hn hG in
theorem stepAt_m23 : (stepAt p n M).m23 = maxX (decide (n = 0)) (p n) M := by simp only [stepAt, step]
omit hn hG in
theorem stepAt_m24 : (stepAt p n M).m24 = maxW (decide (n = 0)) (decide (n < 4)) (p n) M := by simp only [stepAt, step]
omit hn hG in
theorem stepAt_m25 : (stepAt p n M).m25 = maxDy (decide (n = 0)) (decide (n % 4 = 0)) (p n) M := by simp only [stepAt, step]
omit hn hG in
theorem stepAt_m26 : (stepAt p n M).m26 = words (decide (n = 0)) (p n) M := by simp only [stepAt, step]

include hD in
/-- The step keeps what holds of the buffers. -/
theorem good_step : Good p (n + 1) (stepAt p n M) := by
  refine ⟨fun _ k => ?_, fun k hk hkn => ?_, fun h => ?_, fun k hk hkn => ?_, fun _ => ?_, fun _ => ?_, fun _ => ?_⟩
  · rw [stepAt_m26]; exact words_eq hG k
  · rw [stepAt_m20]; exact wq_after hn hG k hk hkn
  · rw [stepAt_m21, sumY_eq hn hG, show (n + 1) / 4 = n / 4 by omega, show (n + 1) % 4 = n % 4 + 1 by omega]
  · rw [stepAt_m22]; exact dw_after hn hG hD k hk hkn
  · rw [stepAt_m23]; exact maxX_eq hG
  · rw [stepAt_m24]; exact maxW_eq hG
  · rw [stepAt_m25]; exact maxDy_eq hG

/-! ## What a point leaves in the result windows -/

theorem out_y (h : n % 4 = 3) : (stepAt p n M).o8 = k0_pay2 (YP p (n / 4) 4) (SW p 0) (SW p 1) := by
  show (bif decide (n % 4 = 3) then _ else _) = _
  rw [decide_eq_true h, cond_true, sumY_eq hn hG, words_eq hG, words_eq hG, h]
include hD in
theorem out_dx : (stepAt p n M).o9 = k0_pay44 (WQ p (n % 4)) (DQ p (n / 4)) (SW p 2) (SW p 1) := by
  show k0_pay44 _ (codedDy _ _ _ _) (words _ _ _ _) (words _ _ _ _) = _
  rw [codedDy_eq hG hD, words_eq hG, words_eq hG]
  exact congrArg (fun z => k0_pay44 z (DQ p (n / 4)) (SW p 2) (SW p 1)) (chunk_eq hn hG)
include hD in
theorem out_dw (h : 8 ≤ n) : (stepAt p n M).o10 = k0_pay1 (DWP p (n % 4) 3) (SW p 0) (SW p 2) := by
  show (bif decide (8 ≤ n) then _ else _) = _
  rw [decide_eq_true h, cond_true, words_eq hG, words_eq hG]
  have e := sumDw_eq hn hG hD
  rw [show n / 4 + 1 = 3 by omega] at e
  exact congrArg (fun z => k0_pay1 z (SW p 0) (SW p 2)) e
omit hn in
theorem out_nhx (h : n = 11) : (stepAt p n M).o11 = k0_pay3 (AX p 12) (p 11).hx := by
  show (bif decide (n = 11) then _ else _) = _
  rw [decide_eq_true h, cond_true, maxX_eq hG, h]
omit hn in
theorem out_nhw (h : n = 11) : (stepAt p n M).o12 = k0_pay4 (AW p 4) (p 11).hw := by
  show (bif decide (n = 11) then _ else _) = _
  rw [decide_eq_true h, cond_true, maxW_eq hG, h]; rfl
omit hn in
theorem out_nhdy (h : n = 11) : (stepAt p n M).o13 = k0_pay5 (ADY p 3) (p 11).hdy := by
  show (bif decide (n = 11) then _ else _) = _
  rw [decide_eq_true h, cond_true, maxDy_eq hG, h]
omit hn in
theorem out_xq : (stepAt p n M).o14 = k0_pay41 (SX p n) k0_pay39 := by
  show k0_pay41 (scaledX _ _ _) _ = _
  rw [scaledX_eq hG]
omit hn in
theorem out_wq (h : n < 4) : (stepAt p n M).o16 = k0_pay29 (p n).w (SW p 4) := by
  show (bif decide (n < 4) then _ else _) = _
  rw [decide_eq_true h, cond_true, words_eq hG]
include hD in
omit hn in
theorem out_dyq : (stepAt p n M).o18 = DQ p (n / 4) := codedDy_eq hG hD

end Cert.Kernel.Hand
end
-- ==== Proof.Kernel.Dats.lean ====
/-
  The proof data of the kernel: what each window holds after each point, and that a point leaves it so.
-/
module
public import proofs.«01_k».proof.Proof.Kernel.Inv
public import Idealize.ShloMosaic.Lib.Pipeline.TableIdle
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The operands' blocks at point `n`. -/
def pin (c : Dev nD) (n : ℕ) : Inp F :=
  ⟨iblk m c 0 (pt n), iblk m c 1 (pt n), iblk m c 2 (pt n), iblk m c 3 (pt n), iblk m c 4 (pt n), iblk m c 5 (pt n)⟩

theorem pt_val (t : Fin cfg0.N) : pt t.val = t := Fin.ext (Nat.mod_eq_of_lt t.isLt)

theorem pin_x (c : Dev nD) (t : Fin cfg0.N) : (pin m c t.val).x = iblk m c 0 t := by
  have h : ∀ s : Fin cfg0.N, s = t → (Inp.mk (iblk m c 0 s) (iblk m c 1 s) (iblk m c 2 s) (iblk m c 3 s) (iblk m c 4 s) (iblk m c 5 s)).x = iblk m c 0 t := by
    rintro _ rfl; rfl
  exact h _ (pt_val t)
theorem pin_w (c : Dev nD) (t : Fin cfg0.N) : (pin m c t.val).w = iblk m c 1 t := by
  have h : ∀ s : Fin cfg0.N, s = t → (Inp.mk (iblk m c 0 s) (iblk m c 1 s) (iblk m c 2 s) (iblk m c 3 s) (iblk m c 4 s) (iblk m c 5 s)).w = iblk m c 1 t := by
    rintro _ rfl; rfl
  exact h _ (pt_val t)
theorem pin_dy (c : Dev nD) (t : Fin cfg0.N) : (pin m c t.val).dy = iblk m c 2 t := by
  have h : ∀ s : Fin cfg0.N, s = t → (Inp.mk (iblk m c 0 s) (iblk m c 1 s) (iblk m c 2 s) (iblk m c 3 s) (iblk m c 4 s) (iblk m c 5 s)).dy = iblk m c 2 t := by
    rintro _ rfl; rfl
  exact h _ (pt_val t)
theorem pin_hx (c : Dev nD) (t : Fin cfg0.N) : (pin m c t.val).hx = iblk m c 3 t := by
  have h : ∀ s : Fin cfg0.N, s = t → (Inp.mk (iblk m c 0 s) (iblk m c 1 s) (iblk m c 2 s) (iblk m c 3 s) (iblk m c 4 s) (iblk m c 5 s)).hx = iblk m c 3 t := by
    rintro _ rfl; rfl
  exact h _ (pt_val t)
theorem pin_hw (c : Dev nD) (t : Fin cfg0.N) : (pin m c t.val).hw = iblk m c 4 t := by
  have h : ∀ s : Fin cfg0.N, s = t → (Inp.mk (iblk m c 0 s) (iblk m c 1 s) (iblk m c 2 s) (iblk m c 3 s) (iblk m c 4 s) (iblk m c 5 s)).hw = iblk m c 4 t := by
    rintro _ rfl; rfl
  exact h _ (pt_val t)
theorem pin_hdy (c : Dev nD) (t : Fin cfg0.N) : (pin m c t.val).hdy = iblk m c 5 t := by
  have h : ∀ s : Fin cfg0.N, s = t → (Inp.mk (iblk m c 0 s) (iblk m c 1 s) (iblk m c 2 s) (iblk m c 3 s) (iblk m c 4 s) (iblk m c 5 s)).hdy = iblk m c 5 t := by
    rintro _ rfl; rfl
  exact h _ (pt_val t)

/-- The seven scratch buffers at the contents `M` says. -/
def scratch (c : Dev nD) (M : Mem F) : sProp 𝕄 :=
  iprop(owns (c : Thread nD τ) (Memref.whole cc0_scratch0) fullShare M.m20 ∗ owns (c : Thread nD τ) (Memref.whole cc0_scratch1) fullShare M.m21 ∗ owns (c : Thread nD τ) (Memref.whole cc0_scratch2) fullShare M.m22 ∗ owns (c : Thread nD τ) (Memref.whole cc0_scratch3) fullShare M.m23 ∗ owns (c : Thread nD τ) (Memref.whole cc0_scratch4) fullShare M.m24 ∗ owns (c : Thread nD τ) (Memref.whole cc0_scratch5) fullShare M.m25 ∗ owns (c : Thread nD τ) (Memref.whole cc0_scratch6) fullShare M.m26)

/-- The proof data: each operand's buffer at its block, each result's at what the point leaves there, the scratch buffers at
    contents of which `Good` holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (YP (pin m c) (t.val / 4) 4) (SW (pin m c) 0) (SW (pin m c) 1)
    | ⟨7, _⟩ => k0_pay44 (WQ (pin m c) (t.val % 4)) (DQ (pin m c) (t.val / 4)) (SW (pin m c) 2) (SW (pin m c) 1)
    | ⟨8, _⟩ => k0_pay1 (DWP (pin m c) (t.val % 4) 3) (SW (pin m c) 0) (SW (pin m c) 2)
    | ⟨9, _⟩ => k0_pay3 (AX (pin m c) 12) (pin m c 11).hx
    | ⟨10, _⟩ => k0_pay4 (AW (pin m c) 4) (pin m c 11).hw
    | ⟨11, _⟩ => k0_pay5 (ADY (pin m c) 3) (pin m c 11).hdy
    | ⟨12, _⟩ => k0_pay41 (SX (pin m c) t.val) k0_pay39
    | ⟨13, _⟩ => k0_pay7 (pin m c 0).hx
    | ⟨14, _⟩ => k0_pay29 (pin m c (min t.val 3)).w (SW (pin m c) 4)
    | ⟨15, _⟩ => k0_pay13 (k0_pay12 (pin m c 0).hw) 127#32
    | ⟨16, _⟩ => DQ (pin m c) (t.val / 4)
    | ⟨17, _⟩ => k0_pay21 (k0_pay16 (pin m c 0).hdy) (k0_pay17 (pin m c 0).hdy) k0_pay18 k0_pay19
    | ⟨_ + 18, h⟩ => absurd h (Nat.not_lt.2 (Nat.le_add_left _ _))
  Φ t := iprop(∃ M : Mem F, ⌜Good (pin m c) t.val M⌝ ∗ scratch c M ∗ ∃ r, prngReg c r)
  q _ := fullShare
  owed _ := 0

theorem A_eq (c : Dev nD) (w : Fin cfg0.W) : (dats m 0 c).A w = V m c (Pipeline.arrRef spec0 w) := by
  dsimp only [dats]
theorem Φ_eq (c : Dev nD) (t) : (dats m 0 c).Φ t = iprop(∃ M : Mem F, ⌜Good (pin m c) t.val M⌝ ∗ scratch c M ∗ ∃ r, prngReg c r) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay2 (YP (pin m c) (t.val / 4) 4) (SW (pin m c) 0) (SW (pin m c) 1) := by dsimp only [dats]
theorem after_7 (c : Dev nD) (t : Fin cfg0.N) : (dats m 0 c).after 7 t = k0_pay44 (WQ (pin m c) (t.val % 4)) (DQ (pin m c) (t.val / 4)) (SW (pin m c) 2) (SW (pin m c) 1) := by dsimp only [dats]
theorem after_8 (c : Dev nD) (t : Fin cfg0.N) : (dats m 0 c).after 8 t = k0_pay1 (DWP (pin m c) (t.val % 4) 3) (SW (pin m c) 0) (SW (pin m c) 2) := by dsimp only [dats]
theorem after_9 (c : Dev nD) (t : Fin cfg0.N) : (dats m 0 c).after 9 t = k0_pay3 (AX (pin m c) 12) (pin m c 11).hx := by dsimp only [dats]
theorem after_10 (c : Dev nD) (t : Fin cfg0.N) : (dats m 0 c).after 10 t = k0_pay4 (AW (pin m c) 4) (pin m c 11).hw := by dsimp only [dats]
theorem after_11 (c : Dev nD) (t : Fin cfg0.N) : (dats m 0 c).after 11 t = k0_pay5 (ADY (pin m c) 3) (pin m c 11).hdy := by dsimp only [dats]
theorem after_12 (c : Dev nD) (t : Fin cfg0.N) : (dats m 0 c).after 12 t = k0_pay41 (SX (pin m c) t.val) k0_pay39 := by dsimp only [dats]
theorem after_13 (c : Dev nD) (t : Fin cfg0.N) : (dats m 0 c).after 13 t = k0_pay7 (pin m c 0).hx := by dsimp only [dats]
theorem after_14 (c : Dev nD) (t : Fin cfg0.N) : (dats m 0 c).after 14 t = k0_pay29 (pin m c (min t.val 3)).w (SW (pin m c) 4) := by dsimp only [dats]
theorem after_15 (c : Dev nD) (t : Fin cfg0.N) : (dats m 0 c).after 15 t = k0_pay13 (k0_pay12 (pin m c 0).hw) 127#32 := by dsimp only [dats]
theorem after_16 (c : Dev nD) (t : Fin cfg0.N) : (dats m 0 c).after 16 t = DQ (pin m c) (t.val / 4) := by dsimp only [dats]
theorem after_17 (c : Dev nD) (t : Fin cfg0.N) : (dats m 0 c).after 17 t = k0_pay21 (k0_pay16 (pin m c 0).hdy) (k0_pay17 (pin m c 0).hdy) k0_pay18 k0_pay19 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## At which points a result window is written and written back -/

theorem idle_6 : ∀ t : Fin cfg0.N, cfg0.idle 6 (cfg0.grid.coords t) = (!decide (t.val % 4 = 3)) :=
  (by decide +kernel : ∀ t : Fin grid0.N, idle0 6 (grid0.coords t) = (!decide (t.val % 4 = 3)))
theorem flush_6 : ∀ t : Fin cfg0.N, (cfg0.win 6).flush t = decide (t.val % 4 = 3) :=
  (by decide +kernel : ∀ t : Fin grid0.N, win0_6.flush t = decide (t.val % 4 = 3))
theorem idle_7 : ∀ t : Fin cfg0.N, cfg0.idle 7 (cfg0.grid.coords t) = (false) :=
  (by decide +kernel : ∀ t : Fin grid0.N, idle0 7 (grid0.coords t) = (false))
theorem flush_7 : ∀ t : Fin cfg0.N, (cfg0.win 7).flush t = true :=
  (by decide +kernel : ∀ t : Fin grid0.N, win0_7.flush t = true)
theorem idle_8 : ∀ t : Fin cfg0.N, cfg0.idle 8 (cfg0.grid.coords t) = (!decide (8 ≤ t.val)) :=
  (by decide +kernel : ∀ t : Fin grid0.N, idle0 8 (grid0.coords t) = (!decide (8 ≤ t.val)))
theorem flush_8 : ∀ t : Fin cfg0.N, (cfg0.win 8).flush t = decide (8 ≤ t.val) :=
  (by decide +kernel : ∀ t : Fin grid0.N, win0_8.flush t = decide (8 ≤ t.val))
theorem idle_9 : ∀ t : Fin cfg0.N, cfg0.idle 9 (cfg0.grid.coords t) = (!decide (t.val = 11)) :=
  (by decide +kernel : ∀ t : Fin grid0.N, idle0 9 (grid0.coords t) = (!decide (t.val = 11)))
theorem flush_9 : ∀ t : Fin cfg0.N, (cfg0.win 9).flush t = decide (t.val = 11) :=
  (by decide +kernel : ∀ t : Fin grid0.N, win0_9.flush t = decide (t.val = 11))
theorem idle_10 : ∀ t : Fin cfg0.N, cfg0.idle 10 (cfg0.grid.coords t) = (!decide (t.val = 11)) :=
  (by decide +kernel : ∀ t : Fin grid0.N, idle0 10 (grid0.coords t) = (!decide (t.val = 11)))
theorem flush_10 : ∀ t : Fin cfg0.N, (cfg0.win 10).flush t = decide (t.val = 11) :=
  (by decide +kernel : ∀ t : Fin grid0.N, win0_10.flush t = decide (t.val = 11))
theorem idle_11 : ∀ t : Fin cfg0.N, cfg0.idle 11 (cfg0.grid.coords t) = (!decide (t.val = 11)) :=
  (by decide +kernel : ∀ t : Fin grid0.N, idle0 11 (grid0.coords t) = (!decide (t.val = 11)))
theorem flush_11 : ∀ t : Fin cfg0.N, (cfg0.win 11).flush t = decide (t.val = 11) :=
  (by decide +kernel : ∀ t : Fin grid0.N, win0_11.flush t = decide (t.val = 11))
theorem idle_12 : ∀ t : Fin cfg0.N, cfg0.idle 12 (cfg0.grid.coords t) = (false) :=
  (by decide +kernel : ∀ t : Fin grid0.N, idle0 12 (grid0.coords t) = (false))
theorem flush_12 : ∀ t : Fin cfg0.N, (cfg0.win 12).flush t = true :=
  (by decide +kernel : ∀ t : Fin grid0.N, win0_12.flush t = true)
theorem idle_13 : ∀ t : Fin cfg0.N, cfg0.idle 13 (cfg0.grid.coords t) = (!decide (t.val = 0)) :=
  (by decide +kernel : ∀ t : Fin grid0.N, idle0 13 (grid0.coords t) = (!decide (t.val = 0)))
theorem flush_13 : ∀ t : Fin cfg0.N, (cfg0.win 13).flush t = decide (t.val = 11) :=
  (by decide +kernel : ∀ t : Fin grid0.N, win0_13.flush t = decide (t.val = 11))
theorem idle_14 : ∀ t : Fin cfg0.N, cfg0.idle 14 (cfg0.grid.coords t) = (!decide (t.val < 4)) :=
  (by decide +kernel : ∀ t : Fin grid0.N, idle0 14 (grid0.coords t) = (!decide (t.val < 4)))
theorem flush_14 : ∀ t : Fin cfg0.N, (cfg0.win 14).flush t = decide (t.val < 3 ∨ t.val = 11) :=
  (by decide +kernel : ∀ t : Fin grid0.N, win0_14.flush t = decide (t.val < 3 ∨ t.val = 11))
theorem idle_15 : ∀ t : Fin cfg0.N, cfg0.idle 15 (cfg0.grid.coords t) = (!decide (t.val = 0)) :=
  (by decide +kernel : ∀ t : Fin grid0.N, idle0 15 (grid0.coords t) = (!decide (t.val = 0)))
theorem flush_15 : ∀ t : Fin cfg0.N, (cfg0.win 15).flush t = decide (t.val = 11) :=
  (by decide +kernel : ∀ t : Fin grid0.N, win0_15.flush t = decide (t.val = 11))
theorem idle_16 : ∀ t : Fin cfg0.N, cfg0.idle 16 (cfg0.grid.coords t) = (!decide (t.val % 4 = 0)) :=
  (by decide +kernel : ∀ t : Fin grid0.N, idle0 16 (grid0.coords t) = (!decide (t.val % 4 = 0)))
theorem flush_16 : ∀ t : Fin cfg0.N, (cfg0.win 16).flush t = decide (t.val % 4 = 3) :=
  (by decide +kernel : ∀ t : Fin grid0.N, win0_16.flush t = decide (t.val % 4 = 3))
theorem idle_17 : ∀ t : Fin cfg0.N, cfg0.idle 17 (cfg0.grid.coords t) = (!decide (t.val = 0)) :=
  (by decide +kernel : ∀ t : Fin grid0.N, idle0 17 (grid0.coords t) = (!decide (t.val = 0)))
theorem flush_17 : ∀ t : Fin cfg0.N, (cfg0.win 17).flush t = decide (t.val = 11) :=
  (by decide +kernel : ∀ t : Fin grid0.N, win0_17.flush t = decide (t.val = 11))
theorem fresh_13 (t : Fin cfg0.N) : cfg0.fresh 13 t.val = decide (t.val % 12 = 0) :=
  cfg0.fresh_tab 13 (fun n => decide (n % 12 = 0)) rfl (fun t => by
    rw [flush_13, idle_13]
    exact (by decide : ∀ t : Fin 12, decide ((t.val + 1) % 12 = 0) = (decide (t.val = 11) || ((!decide (t.val = 0)) && decide (t.val % 12 = 0)))) t) t.val (Nat.le_of_lt t.isLt)
theorem fresh_14 (t : Fin cfg0.N) : cfg0.fresh 14 t.val = decide (t.val < 4 ∨ t.val = 12) :=
  cfg0.fresh_tab 14 (fun n => decide (n < 4 ∨ n = 12)) rfl (fun t => by
    rw [flush_14, idle_14]
    exact (by decide : ∀ t : Fin 12, decide ((t.val + 1) < 4 ∨ (t.val + 1) = 12) = (decide (t.val < 3 ∨ t.val = 11) || ((!decide (t.val < 4)) && decide (t.val < 4 ∨ t.val = 12)))) t) t.val (Nat.le_of_lt t.isLt)
theorem fresh_15 (t : Fin cfg0.N) : cfg0.fresh 15 t.val = decide (t.val % 12 = 0) :=
  cfg0.fresh_tab 15 (fun n => decide (n % 12 = 0)) rfl (fun t => by
    rw [flush_15, idle_15]
    exact (by decide : ∀ t : Fin 12, decide ((t.val + 1) % 12 = 0) = (decide (t.val = 11) || ((!decide (t.val = 0)) && decide (t.val % 12 = 0)))) t) t.val (Nat.le_of_lt t.isLt)
theorem fresh_16 (t : Fin cfg0.N) : cfg0.fresh 16 t.val = decide (t.val % 4 = 0) :=
  cfg0.fresh_tab 16 (fun n => decide (n % 4 = 0)) rfl (fun t => by
    rw [flush_16, idle_16]
    exact (by decide : ∀ t : Fin 12, decide ((t.val + 1) % 4 = 0) = (decide (t.val % 4 = 3) || ((!decide (t.val % 4 = 0)) && decide (t.val % 4 = 0)))) t) t.val (Nat.le_of_lt t.isLt)
theorem fresh_17 (t : Fin cfg0.N) : cfg0.fresh 17 t.val = decide (t.val % 12 = 0) :=
  cfg0.fresh_tab 17 (fun n => decide (n % 12 = 0)) rfl (fun t => by
    rw [flush_17, idle_17]
    exact (by decide : ∀ t : Fin 12, decide ((t.val + 1) % 12 = 0) = (decide (t.val = 11) || ((!decide (t.val = 0)) && decide (t.val % 12 = 0)))) t) t.val (Nat.le_of_lt t.isLt)

/-! ## What the body finds in the result windows it reads back or leaves as found -/

theorem before_13 (c : Dev nD) (t : Fin cfg0.N) (d) : (dats m 0 c).before 13 t d
    = if cfg0.fresh 13 t.val then d else (dats m 0 c).after 13 ⟨t.val - 1, Nat.lt_of_le_of_lt (Nat.sub_le _ _) t.isLt⟩ :=
  (dats m 0 c).before_out_traj 13 rfl (fun _ _ => rfl) (fun t ht hi _ => by
      rw [after_13, after_13]) t.val t rfl d
theorem before_14 (c : Dev nD) (t : Fin cfg0.N) (d) : (dats m 0 c).before 14 t d
    = if cfg0.fresh 14 t.val then d else (dats m 0 c).after 14 ⟨t.val - 1, Nat.lt_of_le_of_lt (Nat.sub_le _ _) t.isLt⟩ :=
  (dats m 0 c).before_out_traj 14 rfl (fun _ _ => rfl) (fun t ht hi _ => by
      rw [after_14, after_14]
      rw [idle_14] at hi
      rw [show min t.val 3 = 3 by simp at hi; omega, show min (t.val - 1) 3 = 3 by simp at hi; omega]) t.val t rfl d
theorem before_15 (c : Dev nD) (t : Fin cfg0.N) (d) : (dats m 0 c).before 15 t d
    = if cfg0.fresh 15 t.val then d else (dats m 0 c).after 15 ⟨t.val - 1, Nat.lt_of_le_of_lt (Nat.sub_le _ _) t.isLt⟩ :=
  (dats m 0 c).before_out_traj 15 rfl (fun _ _ => rfl) (fun t ht hi _ => by
      rw [after_15, after_15]) t.val t rfl d
theorem before_16 (c : Dev nD) (t : Fin cfg0.N) (d) : (dats m 0 c).before 16 t d
    = if cfg0.fresh 16 t.val then d else (dats m 0 c).after 16 ⟨t.val - 1, Nat.lt_of_le_of_lt (Nat.sub_le _ _) t.isLt⟩ :=
  (dats m 0 c).before_out_traj 16 rfl (fun _ _ => rfl) (fun t ht hi _ => by
      rw [after_16, after_16]
      rw [idle_16] at hi
      rw [show (t.val - 1) / 4 = t.val / 4 by simp at hi; omega]) t.val t rfl d
theorem before_17 (c : Dev nD) (t : Fin cfg0.N) (d) : (dats m 0 c).before 17 t d
    = if cfg0.fresh 17 t.val then d else (dats m 0 c).after 17 ⟨t.val - 1, Nat.lt_of_le_of_lt (Nat.sub_le _ _) t.isLt⟩ :=
  (dats m 0 c).before_out_traj 17 rfl (fun _ _ => rfl) (fun t ht hi _ => by
      rw [after_17, after_17]) t.val t rfl d

/-- What a window's buffer may hold after the body's run at a point. -/
def Left (c : Dev nD) (w : Fin cfg0.W) (t : Fin cfg0.N) (X : (cfg0.win w).block.Idx → Elt F (cfg0.win w).elt) : Prop :=
  match cfg0.idle w (cfg0.grid.coords t) with
  | true => match (cfg0.win w).flush t with
    | false => ∃ d, X = (dats m 0 c).before w t d
    | true => X = (dats m 0 c).after w t
  | false => X = (dats m 0 c).after w t

/-- What a window's buffer is returned at. -/
def leftAt (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem owns_left (c : Dev nD) (w : Fin cfg0.W) (t : Fin cfg0.N) (X) (h : Left m c w t X) :
    (owns (c : Thread nD τ) ((cfg0.win w).stage (cfg0.slots t w)) fullShare X : sProp 𝕄) ⊢ leftAt m c w t := by
  unfold Left at h
  unfold leftAt
  revert h
  cases cfg0.idle w (cfg0.grid.coords t)
  · intro h; rw [h]
  · cases (cfg0.win w).flush t
    · rintro ⟨d, rfl⟩
      iintro H
      iexists d; iexact H
    · intro h; rw [h]

theorem left_of_eq (c : Dev nD) (w : Fin cfg0.W) (t : Fin cfg0.N) (X) (h : X = (dats m 0 c).after w t) (hi : cfg0.idle w (cfg0.grid.coords t) = false ∨ (cfg0.win w).flush t = true) : Left m c w t X := by
  unfold Left
  rcases hi with hi | hi
  · rw [hi]; exact h
  · rw [hi]; cases cfg0.idle w (cfg0.grid.coords t) <;> exact h
theorem left_of_found (c : Dev nD) (w : Fin cfg0.W) (t : Fin cfg0.N) (X) (d) (h : X = (dats m 0 c).before w t d) (hi : cfg0.idle w (cfg0.grid.coords t) = true)
    (hf : (cfg0.win w).flush t = false) : Left m c w t X := by
  unfold Left; rw [hi, hf]; exact ⟨d, h⟩

section
variable {m} {c : Dev nD} {t : Fin cfg0.N} {M : Mem F} (hG : Good (pin m c) t.val M) {d : Mem F}

/-- The buffer of the coded dy is read back within a row of the grid. -/
theorem found_dyq {d} (h16 : M.o18 = (dats m 0 c).before 16 t d) (h : t.val % 4 ≠ 0) : M.o18 = DQ (pin m c) (t.val / 4) := by
  rw [h16, before_16, fresh_16, decide_eq_false h, if_neg Bool.false_ne_true, after_16, show (t.val - 1) / 4 = t.val / 4 by omega]
include hG
theorem left_6 {d} (hd : M.o8 = (dats m 0 c).before 6 t d) : Left m c 6 t (stepAt (pin m c) t.val M).o8 := by
  by_cases h : t.val % 4 = 3
  · exact left_of_eq m c 6 t _ ((out_y t.isLt hG h).trans (after_6 m c t).symm) (.inr (by rw [flush_6]; exact decide_eq_true h))
  · refine left_of_found m c 6 t _ d ?_ (by rw [idle_6, decide_eq_false h]; rfl) (by rw [flush_6]; exact decide_eq_false h)
    refine Eq.trans ?_ hd
    show (bif decide (t.val % 4 = 3) then _ else _) = _
    rw [decide_eq_false h, cond_false]
theorem left_8 {d16} (h16 : M.o18 = (dats m 0 c).before 16 t d16) {d} (hd : M.o10 = (dats m 0 c).before 8 t d) : Left m c 8 t (stepAt (pin m c) t.val M).o10 := by
  by_cases h : 8 ≤ t.val
  · exact left_of_eq m c 8 t _ ((out_dw t.isLt hG (found_dyq h16) h).trans (after_8 m c t).symm) (.inr (by rw [flush_8]; exact decide_eq_true h))
  · refine left_of_found m c 8 t _ d ?_ (by rw [idle_8, decide_eq_false h]; rfl) (by rw [flush_8]; exact decide_eq_false h)
    refine Eq.trans ?_ hd
    show (bif decide (8 ≤ t.val) then _ else _) = _
    rw [decide_eq_false h, cond_false]
theorem left_9 {d} (hd : M.o11 = (dats m 0 c).before 9 t d) : Left m c 9 t (stepAt (pin m c) t.val M).o11 := by
  by_cases h : t.val = 11
  · exact left_of_eq m c 9 t _ ((out_nhx hG h).trans (after_9 m c t).symm) (.inr (by rw [flush_9]; exact decide_eq_true h))
  · refine left_of_found m c 9 t _ d ?_ (by rw [idle_9, decide_eq_false h]; rfl) (by rw [flush_9]; exact decide_eq_false h)
    refine Eq.trans ?_ hd
    show (bif decide (t.val = 11) then _ else _) = _
    rw [decide_eq_false h, cond_false]
theorem left_10 {d} (hd : M.o12 = (dats m 0 c).before 10 t d) : Left m c 10 t (stepAt (pin m c) t.val M).o12 := by
  by_cases h : t.val = 11
  · exact left_of_eq m c 10 t _ ((out_nhw hG h).trans (after_10 m c t).symm) (.inr (by rw [flush_10]; exact decide_eq_true h))
  · refine left_of_found m c 10 t _ d ?_ (by rw [idle_10, decide_eq_false h]; rfl) (by rw [flush_10]; exact decide_eq_false h)
    refine Eq.trans ?_ hd
    show (bif decide (t.val = 11) then _ else _) = _
    rw [decide_eq_false h, cond_false]
theorem left_11 {d} (hd : M.o13 = (dats m 0 c).before 11 t d) : Left m c 11 t (stepAt (pin m c) t.val M).o13 := by
  by_cases h : t.val = 11
  · exact left_of_eq m c 11 t _ ((out_nhdy hG h).trans (after_11 m c t).symm) (.inr (by rw [flush_11]; exact decide_eq_true h))
  · refine left_of_found m c 11 t _ d ?_ (by rw [idle_11, decide_eq_false h]; rfl) (by rw [flush_11]; exact decide_eq_false h)
    refine Eq.trans ?_ hd
    show (bif decide (t.val = 11) then _ else _) = _
    rw [decide_eq_false h, cond_false]
theorem left_7 {d} (h16 : M.o18 = (dats m 0 c).before 16 t d) : Left m c 7 t (stepAt (pin m c) t.val M).o9 :=
  left_of_eq m c 7 t _ ((out_dx t.isLt hG (found_dyq h16)).trans (after_7 m c t).symm) (.inl (idle_7 t))
theorem left_12 : Left m c 12 t (stepAt (pin m c) t.val M).o14 :=
  left_of_eq m c 12 t _ ((out_xq hG).trans (after_12 m c t).symm) (.inl (idle_12 t))
theorem left_16 {d} (h16 : M.o18 = (dats m 0 c).before 16 t d) : Left m c 16 t (stepAt (pin m c) t.val M).o18 := by
  by_cases h : t.val % 4 = 0
  · exact left_of_eq m c 16 t _ ((out_dyq hG (found_dyq h16)).trans (after_16 m c t).symm) (.inl (by rw [idle_16, decide_eq_true h]; rfl))
  by_cases h3 : t.val % 4 = 3
  · exact left_of_eq m c 16 t _ ((out_dyq hG (found_dyq h16)).trans (after_16 m c t).symm) (.inr (by rw [flush_16]; exact decide_eq_true h3))
  refine left_of_found m c 16 t _ d ?_ (by rw [idle_16, decide_eq_false h]; rfl) (by rw [flush_16]; exact decide_eq_false h3)
  refine Eq.trans ?_ h16
  show (bif decide (t.val % 4 = 0) then _ else _) = _
  rw [decide_eq_false h, cond_false]
theorem left_14 {d} (hd : M.o16 = (dats m 0 c).before 14 t d) : Left m c 14 t (stepAt (pin m c) t.val M).o16 := by
  by_cases h : t.val < 4
  · refine left_of_eq m c 14 t _ ((out_wq hG h).trans ?_) (.inl (by rw [idle_14, decide_eq_true h]; rfl))
    rw [after_14, show min t.val 3 = t.val by omega]
  have e : (stepAt (pin m c) t.val M).o16 = M.o16 := by
    show (bif decide (t.val < 4) then _ else _) = _
    rw [decide_eq_false h, cond_false]
  by_cases h3 : t.val = 11
  · refine left_of_eq m c 14 t _ (e.trans (hd.trans ?_)) (.inr (by rw [flush_14]; exact decide_eq_true (.inr h3)))
    rw [before_14, fresh_14, decide_eq_false (by omega), if_neg Bool.false_ne_true, after_14, after_14, show min t.val 3 = 3 by omega,
      show min (t.val - 1) 3 = 3 by omega]
  · exact left_of_found m c 14 t _ d (e.trans hd) (by rw [idle_14, decide_eq_false h]; rfl) (by rw [flush_14]; exact decide_eq_false (by omega))
omit hG in
theorem left_13 {d} (hd : M.o15 = (dats m 0 c).before 13 t d) : Left m c 13 t (stepAt (pin m c) t.val M).o15 := by
  by_cases h : t.val = 0
  · refine left_of_eq m c 13 t _ (Eq.trans ?_ (after_13 m c t).symm) (.inl (by rw [idle_13, decide_eq_true h]; rfl))
    show (bif decide (t.val = 0) then _ else _) = _
    rw [decide_eq_true h, cond_true, h]
  have e : (stepAt (pin m c) t.val M).o15 = M.o15 := by
    show (bif decide (t.val = 0) then _ else _) = _
    rw [decide_eq_false h, cond_false]
  by_cases h3 : t.val = 11
  · refine left_of_eq m c 13 t _ (e.trans (hd.trans ?_)) (.inr (by rw [flush_13]; exact decide_eq_true h3))
    rw [before_13, fresh_13, decide_eq_false (by omega), if_neg Bool.false_ne_true, after_13, after_13]
  · exact left_of_found m c 13 t _ d (e.trans hd) (by rw [idle_13, decide_eq_false h]; rfl) (by rw [flush_13]; exact decide_eq_false h3)
omit hG in
theorem left_15 {d} (hd : M.o17 = (dats m 0 c).before 15 t d) : Left m c 15 t (stepAt (pin m c) t.val M).o17 := by
  by_cases h : t.val = 0
  · refine left_of_eq m c 15 t _ (Eq.trans ?_ (after_15 m c t).symm) (.inl (by rw [idle_15, decide_eq_true h]; rfl))
    show (bif decide (t.val = 0) then _ else _) = _
    rw [decide_eq_true h, cond_true, h]
  have e : (stepAt (pin m c) t.val M).o17 = M.o17 := by
    show (bif decide (t.val = 0) then _ else _) = _
    rw [decide_eq_false h, cond_false]
  by_cases h3 : t.val = 11
  · refine left_of_eq m c 15 t _ (e.trans (hd.trans ?_)) (.inr (by rw [flush_15]; exact decide_eq_true h3))
    rw [before_15, fresh_15, decide_eq_false (by omega), if_neg Bool.false_ne_true, after_15, after_15]
  · exact left_of_found m c 15 t _ d (e.trans hd) (by rw [idle_15, decide_eq_false h]; rfl) (by rw [flush_15]; exact decide_eq_false h3)
omit hG in
theorem left_17 {d} (hd : M.o19 = (dats m 0 c).before 17 t d) : Left m c 17 t (stepAt (pin m c) t.val M).o19 := by
  by_cases h : t.val = 0
  · refine left_of_eq m c 17 t _ (Eq.trans ?_ (after_17 m c t).symm) (.inl (by rw [idle_17, decide_eq_true h]; rfl))
    show (bif decide (t.val = 0) then _ else _) = _
    rw [decide_eq_true h, cond_true, h]
  have e : (stepAt (pin m c) t.val M).o19 = M.o19 := by
    show (bif decide (t.val = 0) then _ else _) = _
    rw [decide_eq_false h, cond_false]
  by_cases h3 : t.val = 11
  · refine left_of_eq m c 17 t _ (e.trans (hd.trans ?_)) (.inr (by rw [flush_17]; exact decide_eq_true h3))
    rw [before_17, fresh_17, decide_eq_false (by omega), if_neg Bool.false_ne_true, after_17, after_17]
  · exact left_of_found m c 17 t _ d (e.trans hd) (by rw [idle_17, decide_eq_false h]; rfl) (by rw [flush_17]; exact decide_eq_false h3)
end

end Cert.Kernel.Hand
end
-- ==== Proof.Kernel.Body0.lean ====
/-
  The body's runs: at each kind of grid point the kernel does what `step` says.
-/
module
public import proofs.«01_k».proof.Proof.Kernel.Step
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at the first point. -/
theorem body_first (c : Dev nD) (E : Set ℕ) (i : grid0.Coords) (hc1 : (k0_cond1 i = 1#1)) (hc2 : (k0_cond2 i = 1#1)) (hc3 : (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step true true true false false false i p M).o8 ∗ owns (c : Thread nD τ) arg9 fullShare (step true true true false false false i p M).o9 ∗ owns (c : Thread nD τ) arg10 fullShare (step true true true false false false i p M).o10 ∗ owns (c : Thread nD τ) arg11 fullShare (step true true true false false false i p M).o11 ∗ owns (c : Thread nD τ) arg12 fullShare (step true true true false false false i p M).o12 ∗ owns (c : Thread nD τ) arg13 fullShare (step true true true false false false i p M).o13 ∗ owns (c : Thread nD τ) arg14 fullShare (step true true true false false false i p M).o14 ∗ owns (c : Thread nD τ) arg15 fullShare (step true true true false false false i p M).o15 ∗ owns (c : Thread nD τ) arg16 fullShare (step true true true false false false i p M).o16 ∗ owns (c : Thread nD τ) arg17 fullShare (step true true true false false false i p M).o17 ∗ owns (c : Thread nD τ) arg18 fullShare (step true true true false false false i p M).o18 ∗ owns (c : Thread nD τ) arg19 fullShare (step true true true false false false i p M).o19 ∗ owns (c : Thread nD τ) arg20 fullShare (step true true true false false false i p M).m20 ∗ owns (c : Thread nD τ) arg21 fullShare (step true true true false false false i p M).m21 ∗ owns (c : Thread nD τ) arg22 fullShare (step true true true false false false i p M).m22 ∗ owns (c : Thread nD τ) arg23 fullShare (step true true true false false false i p M).m23 ∗ owns (c : Thread nD τ) arg24 fullShare (step true true true false false false i p M).m24 ∗ owns (c : Thread nD τ) arg25 fullShare (step true true true false false false i p M).m25 ∗ owns (c : Thread nD τ) arg26 fullShare (step true true true false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists _; isplitr
    swap; · iexact H15
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H16]
  · iexists _; isplitr
    swap; · iexact H16
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H17]
  · iexists _; isplitr
    swap; · iexact H17
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H18]
  · iexists _; isplitr
    swap; · iexact H18
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H19]
  · iexists _; isplitr
    swap; · iexact H19
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H20]
  · iexists _; isplitr
    swap; · iexact H20
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists _; isplitr
    swap; · iexact H24
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H25]
  · iexists _; isplitr
    swap; · iexact H25
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  · iexists _; isplitr
    swap; · iexact H26
    ipureintro
    funext j
    obtain ⟨k, rfl⟩ := eq_wordAt j
    refine (read_six _ _ _ _ _ _ _ _ _ _ _ _ _ _ k).trans ?_
    sl_open_run
    try delta k0_off1
    try delta k0_off2
    try delta k0_off3
    try simp (proj := false) only [readAt_whole, View.readCov_cons_toLoadRect, readAt_word0, readAt_word1, readAt_word2, readAt_word3, readAt_word4, readAt_word5, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    rfl

end Cert.Kernel.Hand
end
-- ==== Proof.Kernel.Body1.lean ====
/-
  The body's runs: at each kind of grid point the kernel does what `step` says.
-/
module
public import proofs.«01_k».proof.Proof.Kernel.Step
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at a point of the first round away from its ends. -/
theorem body_r0mid (c : Dev nD) (E : Set ℕ) (i : grid0.Coords) (hc1 : ¬ (k0_cond1 i = 1#1)) (hc2 : (k0_cond2 i = 1#1)) (hc3 : ¬ (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false true false false false false i p M).o8 ∗ owns (c : Thread nD τ) arg9 fullShare (step false true false false false false i p M).o9 ∗ owns (c : Thread nD τ) arg10 fullShare (step false true false false false false i p M).o10 ∗ owns (c : Thread nD τ) arg11 fullShare (step false true false false false false i p M).o11 ∗ owns (c : Thread nD τ) arg12 fullShare (step false true false false false false i p M).o12 ∗ owns (c : Thread nD τ) arg13 fullShare (step false true false false false false i p M).o13 ∗ owns (c : Thread nD τ) arg14 fullShare (step false true false false false false i p M).o14 ∗ owns (c : Thread nD τ) arg15 fullShare (step false true false false false false i p M).o15 ∗ owns (c : Thread nD τ) arg16 fullShare (step false true false false false false i p M).o16 ∗ owns (c : Thread nD τ) arg17 fullShare (step false true false false false false i p M).o17 ∗ owns (c : Thread nD τ) arg18 fullShare (step false true false false false false i p M).o18 ∗ owns (c : Thread nD τ) arg19 fullShare (step false true false false false false i p M).o19 ∗ owns (c : Thread nD τ) arg20 fullShare (step false true false false false false i p M).m20 ∗ owns (c : Thread nD τ) arg21 fullShare (step false true false false false false i p M).m21 ∗ owns (c : Thread nD τ) arg22 fullShare (step false true false false false false i p M).m22 ∗ owns (c : Thread nD τ) arg23 fullShare (step false true false false false false i p M).m23 ∗ owns (c : Thread nD τ) arg24 fullShare (step false true false false false false i p M).m24 ∗ owns (c : Thread nD τ) arg25 fullShare (step false true false false false false i p M).m25 ∗ owns (c : Thread nD τ) arg26 fullShare (step false true false false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists _; isplitr
    swap; · iexact H16
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists _; isplitr
    swap; · iexact H24
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H25]
  · iexists f25; isplitr; · ipureintro; rfl
    iexact H25
  · iexists f26; isplitr; · ipureintro; rfl
    iexact H26

/-- The body at the last point of the first round. -/
theorem body_r0end (c : Dev nD) (E : Set ℕ) (i : grid0.Coords) (hc1 : ¬ (k0_cond1 i = 1#1)) (hc2 : (k0_cond2 i = 1#1)) (hc3 : ¬ (k0_cond3 i = 1#1)) (hc4 : ¬ (k0_cond4 i = 1#1)) (hc5 : (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false true false false true false i p M).o8 ∗ owns (c : Thread nD τ) arg9 fullShare (step false true false false true false i p M).o9 ∗ owns (c : Thread nD τ) arg10 fullShare (step false true false false true false i p M).o10 ∗ owns (c : Thread nD τ) arg11 fullShare (step false true false false true false i p M).o11 ∗ owns (c : Thread nD τ) arg12 fullShare (step false true false false true false i p M).o12 ∗ owns (c : Thread nD τ) arg13 fullShare (step false true false false true false i p M).o13 ∗ owns (c : Thread nD τ) arg14 fullShare (step false true false false true false i p M).o14 ∗ owns (c : Thread nD τ) arg15 fullShare (step false true false false true false i p M).o15 ∗ owns (c : Thread nD τ) arg16 fullShare (step false true false false true false i p M).o16 ∗ owns (c : Thread nD τ) arg17 fullShare (step false true false false true false i p M).o17 ∗ owns (c : Thread nD τ) arg18 fullShare (step false true false false true false i p M).o18 ∗ owns (c : Thread nD τ) arg19 fullShare (step false true false false true false i p M).o19 ∗ owns (c : Thread nD τ) arg20 fullShare (step false true false false true false i p M).m20 ∗ owns (c : Thread nD τ) arg21 fullShare (step false true false false true false i p M).m21 ∗ owns (c : Thread nD τ) arg22 fullShare (step false true false false true false i p M).m22 ∗ owns (c : Thread nD τ) arg23 fullShare (step false true false false true false i p M).m23 ∗ owns (c : Thread nD τ) arg24 fullShare (step false true false false true false i p M).m24 ∗ owns (c : Thread nD τ) arg25 fullShare (step false true false false true false i p M).m25 ∗ owns (c : Thread nD τ) arg26 fullShare (step false true false false true false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists _; isplitr
    swap; · iexact H16
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists _; isplitr
    swap; · iexact H24
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H25]
  · iexists f25; isplitr; · ipureintro; rfl
    iexact H25
  · iexists f26; isplitr; · ipureintro; rfl
    iexact H26

end Cert.Kernel.Hand
end
-- ==== Proof.Kernel.Body2.lean ====
/-
  The body's runs: at each kind of grid point the kernel does what `step` says.
-/
module
public import proofs.«01_k».proof.Proof.Kernel.Step
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at the first point of the middle round. -/
theorem body_r1start (c : Dev nD) (E : Set ℕ) (i : grid0.Coords) (hc1 : ¬ (k0_cond1 i = 1#1)) (hc2 : ¬ (k0_cond2 i = 1#1)) (hc3 : (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false true false false false i p M).o8 ∗ owns (c : Thread nD τ) arg9 fullShare (step false false true false false false i p M).o9 ∗ owns (c : Thread nD τ) arg10 fullShare (step false false true false false false i p M).o10 ∗ owns (c : Thread nD τ) arg11 fullShare (step false false true false false false i p M).o11 ∗ owns (c : Thread nD τ) arg12 fullShare (step false false true false false false i p M).o12 ∗ owns (c : Thread nD τ) arg13 fullShare (step false false true false false false i p M).o13 ∗ owns (c : Thread nD τ) arg14 fullShare (step false false true false false false i p M).o14 ∗ owns (c : Thread nD τ) arg15 fullShare (step false false true false false false i p M).o15 ∗ owns (c : Thread nD τ) arg16 fullShare (step false false true false false false i p M).o16 ∗ owns (c : Thread nD τ) arg17 fullShare (step false false true false false false i p M).o17 ∗ owns (c : Thread nD τ) arg18 fullShare (step false false true false false false i p M).o18 ∗ owns (c : Thread nD τ) arg19 fullShare (step false false true false false false i p M).o19 ∗ owns (c : Thread nD τ) arg20 fullShare (step false false true false false false i p M).m20 ∗ owns (c : Thread nD τ) arg21 fullShare (step false false true false false false i p M).m21 ∗ owns (c : Thread nD τ) arg22 fullShare (step false false true false false false i p M).m22 ∗ owns (c : Thread nD τ) arg23 fullShare (step false false true false false false i p M).m23 ∗ owns (c : Thread nD τ) arg24 fullShare (step false false true false false false i p M).m24 ∗ owns (c : Thread nD τ) arg25 fullShare (step false false true false false false i p M).m25 ∗ owns (c : Thread nD τ) arg26 fullShare (step false false true false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists _; isplitr
    swap; · iexact H25
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  · iexists f26; isplitr; · ipureintro; rfl
    iexact H26

/-- The body at a point of the middle round away from its ends. -/
theorem body_r1mid (c : Dev nD) (E : Set ℕ) (i : grid0.Coords) (hc1 : ¬ (k0_cond1 i = 1#1)) (hc2 : ¬ (k0_cond2 i = 1#1)) (hc3 : ¬ (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false false false false i p M).o8 ∗ owns (c : Thread nD τ) arg9 fullShare (step false false false false false false i p M).o9 ∗ owns (c : Thread nD τ) arg10 fullShare (step false false false false false false i p M).o10 ∗ owns (c : Thread nD τ) arg11 fullShare (step false false false false false false i p M).o11 ∗ owns (c : Thread nD τ) arg12 fullShare (step false false false false false false i p M).o12 ∗ owns (c : Thread nD τ) arg13 fullShare (step false false false false false false i p M).o13 ∗ owns (c : Thread nD τ) arg14 fullShare (step false false false false false false i p M).o14 ∗ owns (c : Thread nD τ) arg15 fullShare (step false false false false false false i p M).o15 ∗ owns (c : Thread nD τ) arg16 fullShare (step false false false false false false i p M).o16 ∗ owns (c : Thread nD τ) arg17 fullShare (step false false false false false false i p M).o17 ∗ owns (c : Thread nD τ) arg18 fullShare (step false false false false false false i p M).o18 ∗ owns (c : Thread nD τ) arg19 fullShare (step false false false false false false i p M).o19 ∗ owns (c : Thread nD τ) arg20 fullShare (step false false false false false false i p M).m20 ∗ owns (c : Thread nD τ) arg21 fullShare (step false false false false false false i p M).m21 ∗ owns (c : Thread nD τ) arg22 fullShare (step false false false false false false i p M).m22 ∗ owns (c : Thread nD τ) arg23 fullShare (step false false false false false false i p M).m23 ∗ owns (c : Thread nD τ) arg24 fullShare (step false false false false false false i p M).m24 ∗ owns (c : Thread nD τ) arg25 fullShare (step false false false false false false i p M).m25 ∗ owns (c : Thread nD τ) arg26 fullShare (step false false false false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

/-- The body at the last point of the middle round. -/
theorem body_r1end (c : Dev nD) (E : Set ℕ) (i : grid0.Coords) (hc1 : ¬ (k0_cond1 i = 1#1)) (hc2 : ¬ (k0_cond2 i = 1#1)) (hc3 : ¬ (k0_cond3 i = 1#1)) (hc4 : ¬ (k0_cond4 i = 1#1)) (hc5 : (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false false true false i p M).o8 ∗ owns (c : Thread nD τ) arg9 fullShare (step false false false false true false i p M).o9 ∗ owns (c : Thread nD τ) arg10 fullShare (step false false false false true false i p M).o10 ∗ owns (c : Thread nD τ) arg11 fullShare (step false false false false true false i p M).o11 ∗ owns (c : Thread nD τ) arg12 fullShare (step false false false false true false i p M).o12 ∗ owns (c : Thread nD τ) arg13 fullShare (step false false false false true false i p M).o13 ∗ owns (c : Thread nD τ) arg14 fullShare (step false false false false true false i p M).o14 ∗ owns (c : Thread nD τ) arg15 fullShare (step false false false false true false i p M).o15 ∗ owns (c : Thread nD τ) arg16 fullShare (step false false false false true false i p M).o16 ∗ owns (c : Thread nD τ) arg17 fullShare (step false false false false true false i p M).o17 ∗ owns (c : Thread nD τ) arg18 fullShare (step false false false false true false i p M).o18 ∗ owns (c : Thread nD τ) arg19 fullShare (step false false false false true false i p M).o19 ∗ owns (c : Thread nD τ) arg20 fullShare (step false false false false true false i p M).m20 ∗ owns (c : Thread nD τ) arg21 fullShare (step false false false false true false i p M).m21 ∗ owns (c : Thread nD τ) arg22 fullShare (step false false false false true false i p M).m22 ∗ owns (c : Thread nD τ) arg23 fullShare (step false false false false true false i p M).m23 ∗ owns (c : Thread nD τ) arg24 fullShare (step false false false false true false i p M).m24 ∗ owns (c : Thread nD τ) arg25 fullShare (step false false false false true false i p M).m25 ∗ owns (c : Thread nD τ) arg26 fullShare (step false false false false true false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

end Cert.Kernel.Hand
end
-- ==== Proof.Kernel.Body3.lean ====
/-
  The body's runs: at each kind of grid point the kernel does what `step` says.
-/
module
public import proofs.«01_k».proof.Proof.Kernel.Step
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at the first point of the last round. -/
theorem body_r2start (c : Dev nD) (E : Set ℕ) (i : grid0.Coords) (hc1 : ¬ (k0_cond1 i = 1#1)) (hc2 : ¬ (k0_cond2 i = 1#1)) (hc3 : (k0_cond3 i = 1#1)) (hc4 : (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false true true false false i p M).o8 ∗ owns (c : Thread nD τ) arg9 fullShare (step false false true true false false i p M).o9 ∗ owns (c : Thread nD τ) arg10 fullShare (step false false true true false false i p M).o10 ∗ owns (c : Thread nD τ) arg11 fullShare (step false false true true false false i p M).o11 ∗ owns (c : Thread nD τ) arg12 fullShare (step false false true true false false i p M).o12 ∗ owns (c : Thread nD τ) arg13 fullShare (step false false true true false false i p M).o13 ∗ owns (c : Thread nD τ) arg14 fullShare (step false false true true false false i p M).o14 ∗ owns (c : Thread nD τ) arg15 fullShare (step false false true true false false i p M).o15 ∗ owns (c : Thread nD τ) arg16 fullShare (step false false true true false false i p M).o16 ∗ owns (c : Thread nD τ) arg17 fullShare (step false false true true false false i p M).o17 ∗ owns (c : Thread nD τ) arg18 fullShare (step false false true true false false i p M).o18 ∗ owns (c : Thread nD τ) arg19 fullShare (step false false true true false false i p M).o19 ∗ owns (c : Thread nD τ) arg20 fullShare (step false false true true false false i p M).m20 ∗ owns (c : Thread nD τ) arg21 fullShare (step false false true true false false i p M).m21 ∗ owns (c : Thread nD τ) arg22 fullShare (step false false true true false false i p M).m22 ∗ owns (c : Thread nD τ) arg23 fullShare (step false false true true false false i p M).m23 ∗ owns (c : Thread nD τ) arg24 fullShare (step false false true true false false i p M).m24 ∗ owns (c : Thread nD τ) arg25 fullShare (step false false true true false false i p M).m25 ∗ owns (c : Thread nD τ) arg26 fullShare (step false false true true false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists _; isplitr
    swap; · iexact H10
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists _; isplitr
    swap; · iexact H25
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  · iexists f26; isplitr; · ipureintro; rfl
    iexact H26

/-- The body at a point of the last round away from its ends. -/
theorem body_r2mid (c : Dev nD) (E : Set ℕ) (i : grid0.Coords) (hc1 : ¬ (k0_cond1 i = 1#1)) (hc2 : ¬ (k0_cond2 i = 1#1)) (hc3 : ¬ (k0_cond3 i = 1#1)) (hc4 : (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false true false false i p M).o8 ∗ owns (c : Thread nD τ) arg9 fullShare (step false false false true false false i p M).o9 ∗ owns (c : Thread nD τ) arg10 fullShare (step false false false true false false i p M).o10 ∗ owns (c : Thread nD τ) arg11 fullShare (step false false false true false false i p M).o11 ∗ owns (c : Thread nD τ) arg12 fullShare (step false false false true false false i p M).o12 ∗ owns (c : Thread nD τ) arg13 fullShare (step false false false true false false i p M).o13 ∗ owns (c : Thread nD τ) arg14 fullShare (step false false false true false false i p M).o14 ∗ owns (c : Thread nD τ) arg15 fullShare (step false false false true false false i p M).o15 ∗ owns (c : Thread nD τ) arg16 fullShare (step false false false true false false i p M).o16 ∗ owns (c : Thread nD τ) arg17 fullShare (step false false false true false false i p M).o17 ∗ owns (c : Thread nD τ) arg18 fullShare (step false false false true false false i p M).o18 ∗ owns (c : Thread nD τ) arg19 fullShare (step false false false true false false i p M).o19 ∗ owns (c : Thread nD τ) arg20 fullShare (step false false false true false false i p M).m20 ∗ owns (c : Thread nD τ) arg21 fullShare (step false false false true false false i p M).m21 ∗ owns (c : Thread nD τ) arg22 fullShare (step false false false true false false i p M).m22 ∗ owns (c : Thread nD τ) arg23 fullShare (step false false false true false false i p M).m23 ∗ owns (c : Thread nD τ) arg24 fullShare (step false false false true false false i p M).m24 ∗ owns (c : Thread nD τ) arg25 fullShare (step false false false true false false i p M).m25 ∗ owns (c : Thread nD τ) arg26 fullShare (step false false false true false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists _; isplitr
    swap; · iexact H10
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

/-- The body at the last point. -/
theorem body_last (c : Dev nD) (E : Set ℕ) (i : grid0.Coords) (hc1 : ¬ (k0_cond1 i = 1#1)) (hc2 : ¬ (k0_cond2 i = 1#1)) (hc3 : ¬ (k0_cond3 i = 1#1)) (hc4 : (k0_cond4 i = 1#1)) (hc5 : (k0_cond5 i = 1#1)) (hc6 : (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false true true true i p M).o8 ∗ owns (c : Thread nD τ) arg9 fullShare (step false false false true true true i p M).o9 ∗ owns (c : Thread nD τ) arg10 fullShare (step false false false true true true i p M).o10 ∗ owns (c : Thread nD τ) arg11 fullShare (step false false false true true true i p M).o11 ∗ owns (c : Thread nD τ) arg12 fullShare (step false false false true true true i p M).o12 ∗ owns (c : Thread nD τ) arg13 fullShare (step false false false true true true i p M).o13 ∗ owns (c : Thread nD τ) arg14 fullShare (step false false false true true true i p M).o14 ∗ owns (c : Thread nD τ) arg15 fullShare (step false false false true true true i p M).o15 ∗ owns (c : Thread nD τ) arg16 fullShare (step false false false true true true i p M).o16 ∗ owns (c : Thread nD τ) arg17 fullShare (step false false false true true true i p M).o17 ∗ owns (c : Thread nD τ) arg18 fullShare (step false false false true true true i p M).o18 ∗ owns (c : Thread nD τ) arg19 fullShare (step false false false true true true i p M).o19 ∗ owns (c : Thread nD τ) arg20 fullShare (step false false false true true true i p M).m20 ∗ owns (c : Thread nD τ) arg21 fullShare (step false false false true true true i p M).m21 ∗ owns (c : Thread nD τ) arg22 fullShare (step false false false true true true i p M).m22 ∗ owns (c : Thread nD τ) arg23 fullShare (step false false false true true true i p M).m23 ∗ owns (c : Thread nD τ) arg24 fullShare (step false false false true true true i p M).m24 ∗ owns (c : Thread nD τ) arg25 fullShare (step false false false true true true i p M).m25 ∗ owns (c : Thread nD τ) arg26 fullShare (step false false false true true true i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists _; isplitr
    swap; · iexact H10
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H11]
  · iexists _; isplitr
    swap; · iexact H11
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H12]
  · iexists _; isplitr
    swap; · iexact H12
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H13]
  · iexists _; isplitr
    swap; · iexact H13
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

end Cert.Kernel.Hand
end
-- ==== Proof.Kernel.Run.lean ====
/-
  The body obligation, the run of the launch and the frame.
-/
module
public import Idealize.ShloMosaic.Lib.Claim
public import proofs.«01_k».proof.Proof.Kernel.Dats
public import proofs.«01_k».proof.Proof.Kernel.Body0
public import proofs.«01_k».proof.Proof.Kernel.Body1
public import proofs.«01_k».proof.Proof.Kernel.Body2
public import proofs.«01_k».proof.Proof.Kernel.Body3
@[expose] public section
set_option maxRecDepth 16384
noncomputable section
namespace Cert.Kernel.Hand
open Cert.Kernel Cert.Kernel.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The body at any point: it does what `stepAt` says. -/
theorem body_at (c : Dev nD) (t : Fin cfg0.N) (M : Mem F) (K : PUnit → sProp 𝕄) :
    iprop(owns (c : Thread nD τ) (st0_0 t) fullShare (pin m c t.val).x ∗ owns (c : Thread nD τ) (st0_1 t) fullShare (pin m c t.val).w ∗ owns (c : Thread nD τ) (st0_2 t) fullShare (pin m c t.val).dy ∗ owns (c : Thread nD τ) (st0_3 t) fullShare (pin m c t.val).hx ∗ owns (c : Thread nD τ) (st0_4 t) fullShare (pin m c t.val).hw ∗ owns (c : Thread nD τ) (st0_5 t) fullShare (pin m c t.val).hdy ∗ owns (c : Thread nD τ) (st0_6 t) fullShare M.o8 ∗ owns (c : Thread nD τ) (st0_7 t) fullShare M.o9 ∗ owns (c : Thread nD τ) (st0_8 t) fullShare M.o10 ∗ owns (c : Thread nD τ) (st0_9 t) fullShare M.o11 ∗ owns (c : Thread nD τ) (st0_10 t) fullShare M.o12 ∗ owns (c : Thread nD τ) (st0_11 t) fullShare M.o13 ∗ owns (c : Thread nD τ) (st0_12 t) fullShare M.o14 ∗ owns (c : Thread nD τ) (st0_13 t) fullShare M.o15 ∗ owns (c : Thread nD τ) (st0_14 t) fullShare M.o16 ∗ owns (c : Thread nD τ) (st0_15 t) fullShare M.o17 ∗ owns (c : Thread nD τ) (st0_16 t) fullShare M.o18 ∗ owns (c : Thread nD τ) (st0_17 t) fullShare M.o19 ∗ owns (c : Thread nD τ) (Memref.whole cc0_scratch0) fullShare M.m20 ∗ owns (c : Thread nD τ) (Memref.whole cc0_scratch1) fullShare M.m21 ∗ owns (c : Thread nD τ) (Memref.whole cc0_scratch2) fullShare M.m22 ∗ owns (c : Thread nD τ) (Memref.whole cc0_scratch3) fullShare M.m23 ∗ owns (c : Thread nD τ) (Memref.whole cc0_scratch4) fullShare M.m24 ∗ owns (c : Thread nD τ) (Memref.whole cc0_scratch5) fullShare M.m25 ∗ owns (c : Thread nD τ) (Memref.whole cc0_scratch6) fullShare M.m26
        ∗ (iprop(owns (c : Thread nD τ) (st0_0 t) fullShare (pin m c t.val).x ∗ owns (c : Thread nD τ) (st0_1 t) fullShare (pin m c t.val).w ∗ owns (c : Thread nD τ) (st0_2 t) fullShare (pin m c t.val).dy ∗ owns (c : Thread nD τ) (st0_3 t) fullShare (pin m c t.val).hx ∗ owns (c : Thread nD τ) (st0_4 t) fullShare (pin m c t.val).hw ∗ owns (c : Thread nD τ) (st0_5 t) fullShare (pin m c t.val).hdy ∗ owns (c : Thread nD τ) (st0_6 t) fullShare (stepAt (pin m c) t.val M).o8 ∗ owns (c : Thread nD τ) (st0_7 t) fullShare (stepAt (pin m c) t.val M).o9 ∗ owns (c : Thread nD τ) (st0_8 t) fullShare (stepAt (pin m c) t.val M).o10 ∗ owns (c : Thread nD τ) (st0_9 t) fullShare (stepAt (pin m c) t.val M).o11 ∗ owns (c : Thread nD τ) (st0_10 t) fullShare (stepAt (pin m c) t.val M).o12 ∗ owns (c : Thread nD τ) (st0_11 t) fullShare (stepAt (pin m c) t.val M).o13 ∗ owns (c : Thread nD τ) (st0_12 t) fullShare (stepAt (pin m c) t.val M).o14 ∗ owns (c : Thread nD τ) (st0_13 t) fullShare (stepAt (pin m c) t.val M).o15 ∗ owns (c : Thread nD τ) (st0_14 t) fullShare (stepAt (pin m c) t.val M).o16 ∗ owns (c : Thread nD τ) (st0_15 t) fullShare (stepAt (pin m c) t.val M).o17 ∗ owns (c : Thread nD τ) (st0_16 t) fullShare (stepAt (pin m c) t.val M).o18 ∗ owns (c : Thread nD τ) (st0_17 t) fullShare (stepAt (pin m c) t.val M).o19 ∗ owns (c : Thread nD τ) (Memref.whole cc0_scratch0) fullShare (stepAt (pin m c) t.val M).m20 ∗ owns (c : Thread nD τ) (Memref.whole cc0_scratch1) fullShare (stepAt (pin m c) t.val M).m21 ∗ owns (c : Thread nD τ) (Memref.whole cc0_scratch2) fullShare (stepAt (pin m c) t.val M).m22 ∗ owns (c : Thread nD τ) (Memref.whole cc0_scratch3) fullShare (stepAt (pin m c) t.val M).m23 ∗ owns (c : Thread nD τ) (Memref.whole cc0_scratch4) fullShare (stepAt (pin m c) t.val M).m24 ∗ owns (c : Thread nD τ) (Memref.whole cc0_scratch5) fullShare (stepAt (pin m c) t.val M).m25 ∗ owns (c : Thread nD τ) (Memref.whole cc0_scratch6) fullShare (stepAt (pin m c) t.val M).m26) -∗ K PUnit.unit))
      ⊢ wp frame (wpE (defs₀ (F := F)) Variants.none c none) Set.univ (bodyAt0 t) K := by
  rcases fin_N0 t with rfl | rfl | rfl | rfl | rfl | rfl | rfl | rfl | rfl | rfl | rfl | rfl
  · exact body_first c Set.univ (grid0.coords t0_0) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 0) M K
  · exact body_r0mid c Set.univ (grid0.coords t0_1) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 1) M K
  · exact body_r0mid c Set.univ (grid0.coords t0_2) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 2) M K
  · exact body_r0end c Set.univ (grid0.coords t0_3) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 3) M K
  · exact body_r1start c Set.univ (grid0.coords t0_4) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 4) M K
  · exact body_r1mid c Set.univ (grid0.coords t0_5) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 5) M K
  · exact body_r1mid c Set.univ (grid0.coords t0_6) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 6) M K
  · exact body_r1end c Set.univ (grid0.coords t0_7) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 7) M K
  · exact body_r2start c Set.univ (grid0.coords t0_8) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 8) M K
  · exact body_r2mid c Set.univ (grid0.coords t0_9) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 9) M K
  · exact body_r2mid c Set.univ (grid0.coords t0_10) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 10) M K
  · exact body_last c Set.univ (grid0.coords t0_11) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 11) M K

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ leftAt m c 0 t
    ∗ leftAt m c 1 t
    ∗ leftAt m c 2 t
    ∗ leftAt m c 3 t
    ∗ leftAt m c 4 t
    ∗ leftAt m c 5 t
    ∗ leftAt m c 6 t
    ∗ leftAt m c 7 t
    ∗ leftAt m c 8 t
    ∗ leftAt m c 9 t
    ∗ leftAt m c 10 t
    ∗ leftAt m c 11 t
    ∗ leftAt m c 12 t
    ∗ leftAt m c 13 t
    ∗ leftAt m c 14 t
    ∗ leftAt m c 15 t
    ∗ leftAt m c 16 t
    ∗ leftAt m c 17 t)

/-- The body at any point, from what the launch hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl, Φ_eq, Φ_eq]
  iintro ⟨⟨%N, %hG, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  unfold scratch
  icases HS with ⟨S20, S21, S22, S23, S24, S25, S26⟩
  obtain ⟨_, _, _, _, _, _, _, _, _, _, _, _, x20, x21, x22, x23, x24, x25, x26⟩ := N
  let M : Mem F := ⟨(dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, (dats m 0 c).before 15 t d15, (dats m 0 c).before 16 t d16, (dats m 0 c).before 17 t d17, x20, x21, x22, x23, x24, x25, x26⟩
  have hM : Good (pin m c) t.val M := ⟨hG.words, hG.wq, hG.y, hG.dw, hG.ax, hG.aw, hG.ady⟩
  have h16 : M.o18 = (dats m 0 c).before 16 t d16 := rfl
  iapply (body_at m c t M _)
  isplitl [H0]; · rw [pin_x]; iexact H0
  isplitl [H1]; · rw [pin_w]; iexact H1
  isplitl [H2]; · rw [pin_dy]; iexact H2
  isplitl [H3]; · rw [pin_hx]; iexact H3
  isplitl [H4]; · rw [pin_hw]; iexact H4
  isplitl [H5]; · rw [pin_hdy]; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S20]; · iexact S20
  isplitl [S21]; · iexact S21
  isplitl [S22]; · iexact S22
  isplitl [S23]; · iexact S23
  isplitl [S24]; · iexact S24
  isplitl [S25]; · iexact S25
  isplitl [S26]; · iexact S26
  iintro ⟨H0, H1, H2, H3, H4, H5, H6, H7, H8, H9, H10, H11, H12, H13, H14, H15, H16, H17, S20, S21, S22, S23, S24, S25, S26⟩
  isplitl [HR S20 S21 S22 S23 S24 S25 S26]
  · iexists (stepAt (pin m c) t.val M)
    isplitr; · ipureintro; exact good_step t.isLt hM (found_dyq h16)
    isplitr [HR]
    · isplitl [S20]; · iexact S20
      isplitl [S21]; · iexact S21
      isplitl [S22]; · iexact S22
      isplitl [S23]; · iexact S23
      isplitl [S24]; · iexact S24
      isplitl [S25]; · iexact S25
      iexact S26
    iexact HR
  isplitl [Ho]; · iexact Ho
  isplitl [H0]; · iapply (owns_left m c 0 t _ (left_of_eq m c 0 t _ ((pin_x m c t).trans (after_0 m c t).symm) (.inl rfl))); iexact H0
  isplitl [H1]; · iapply (owns_left m c 1 t _ (left_of_eq m c 1 t _ ((pin_w m c t).trans (after_1 m c t).symm) (.inl rfl))); iexact H1
  isplitl [H2]; · iapply (owns_left m c 2 t _ (left_of_eq m c 2 t _ ((pin_dy m c t).trans (after_2 m c t).symm) (.inl rfl))); iexact H2
  isplitl [H3]; · iapply (owns_left m c 3 t _ (left_of_eq m c 3 t _ ((pin_hx m c t).trans (after_3 m c t).symm) (.inl rfl))); iexact H3
  isplitl [H4]; · iapply (owns_left m c 4 t _ (left_of_eq m c 4 t _ ((pin_hw m c t).trans (after_4 m c t).symm) (.inl rfl))); iexact H4
  isplitl [H5]; · iapply (owns_left m c 5 t _ (left_of_eq m c 5 t _ ((pin_hdy m c t).trans (after_5 m c t).symm) (.inl rfl))); iexact H5
  isplitl [H6]; · iapply (owns_left m c 6 t _ (left_6 hM rfl)); iexact H6
  isplitl [H7]; · iapply (owns_left m c 7 t _ (left_7 hM h16)); iexact H7
  isplitl [H8]; · iapply (owns_left m c 8 t _ (left_8 hM h16 rfl)); iexact H8
  isplitl [H9]; · iapply (owns_left m c 9 t _ (left_9 hM rfl)); iexact H9
  isplitl [H10]; · iapply (owns_left m c 10 t _ (left_10 hM rfl)); iexact H10
  isplitl [H11]; · iapply (owns_left m c 11 t _ (left_11 hM rfl)); iexact H11
  isplitl [H12]; · iapply (owns_left m c 12 t _ (left_12 hM)); iexact H12
  isplitl [H13]; · iapply (owns_left m c 13 t _ (left_13 (M := M) rfl)); iexact H13
  isplitl [H14]; · iapply (owns_left m c 14 t _ (left_14 hM rfl)); iexact H14
  isplitl [H15]; · iapply (owns_left m c 15 t _ (left_15 (M := M) rfl)); iexact H15
  isplitl [H16]; · iapply (owns_left m c 16 t _ (left_16 hM h16)); iexact H16
  iapply (owns_left m c 17 t _ (left_17 (M := M) rfl)); iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch buffers hold anything. -/
theorem hin (c : Dev nD) : Pipeline.ΦA spec0 c ⊢ (dats m 0 c).Φ 0 := by
  rw [Φ_eq]
  unfold Pipeline.ΦA scratch
  rw [scopedRest0_eq]
  simp only [owns_whole]
  iintro ⟨⟨⟨%f20, S20⟩, ⟨%f21, S21⟩, ⟨%f22, S22⟩, ⟨%f23, S23⟩, ⟨%f24, S24⟩, ⟨%f25, S25⟩, ⟨%f26, S26⟩⟩, HR⟩
  iexists (⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), f20, f21, f22, f23, f24, f25, f26⟩ : Mem F)
  isplitr
  · ipureintro
    exact ⟨fun h => absurd h (by decide), fun k _ h => absurd h (Nat.not_lt_zero k), fun h => absurd rfl h, fun k _ h => absurd h (Nat.not_lt_zero k),
      fun h => absurd h (by decide), fun h => absurd h (by decide), fun h => absurd h (by decide)⟩
  isplitr [HR]
  · isplitl [S20]; · iexact S20
    isplitl [S21]; · iexact S21
    isplitl [S22]; · iexact S22
    isplitl [S23]; · iexact S23
    isplitl [S24]; · iexact S24
    isplitl [S25]; · iexact S25
    iexact S26
  iexact HR

/-- After the last point what they hold is forgotten. -/
theorem hout (c : Dev nD) : (dats m 0 c).Φ (Fin.last cfg0.N) ⊢ Pipeline.ΦA spec0 c := by
  rw [Φ_eq]
  unfold Pipeline.ΦA scratch
  rw [scopedRest0_eq]
  simp only [owns_whole]
  iintro ⟨%M, -, ⟨S20, S21, S22, S23, S24, S25, S26⟩, HR⟩
  isplitr [HR]
  · isplitl [S20]; · iexists _; iexact S20
    isplitl [S21]; · iexists _; iexact S21
    isplitl [S22]; · iexists _; iexact S22
    isplitl [S23]; · iexists _; iexact S23
    isplitl [S24]; · iexists _; iexact S24
    isplitl [S25]; · iexists _; iexact S25
    iexists _; iexact S26
  iexact HR

set_option backward.isDefEq.respectTransparency.types false in
set_option maxHeartbeats 800000 in
/-- The launch ends, every window's array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Hand
end
-- ==== Proof.KernelIdeal.Step.lean ====
/-
  One grid point of the kernel as a function of what it finds in its buffers.
-/
module
public import proofs.«01_k».proof.Proof.Gen.KernelIdeal.Frame
public import proofs.«01_k».proof.Proof.Gen.KernelIdeal.Skeleton
public import proofs.«01_k».proof.Proof.Common
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

/-- What the body keeps and writes: the twelve result windows' buffers (`o8` … `o19`, in the order of the kernel's results) and
    the seven scratch buffers (`m20` the coded weight, `m21` the sum of y, `m22` the sums of dw, `m23` … `m25` the running maxima
    of x, w and dy, `m26` the six scale words). -/
structure Mem (F : FTy → Type) where
  o8 : Vec F S128x8x768 .bf16
  o9 : Vec F S128x8x1024 .bf16
  o10 : Vec F S1024x768 .f32
  o11 : Vec F S1x16 .f32
  o12 : Vec F S1x16 .f32
  o13 : Vec F S1x16 .f32
  o14 : Vec F S1x1024x1024 .fp8e4m3
  o15 : Vec F S1x1 .f32
  o16 : Vec F S1024x768 .fp8e4m3
  o17 : Vec F S1x1 .f32
  o18 : Vec F S1x1024x768 .fp8e5m2
  o19 : Vec F S1x1 .f32
  m20 : Vec F S4096x768 .fp8e4m3
  m21 : Vec F S1024x768 .f32
  m22 : Vec F S4096x768 .f32
  m23 : Vec F S16x1024 .bf16
  m24 : Vec F S8x768 .f32
  m25 : Vec F S16x768 .bf16
  m26 : Vec F S6 .f32

/-- The blocks of the six operands that a grid point sees. -/
structure Inp (F : FTy → Type) where
  x : Vec F S1x1024x1024 .bf16
  w : Vec F S1024x768 .f32
  dy : Vec F S1x1024x768 .bf16
  hx : Vec F S1x16 .f32
  hw : Vec F S1x16 .f32
  hdy : Vec F S1x16 .f32

/-- The six scale words, from the three histories: the scales of x, w, dy, then their reciprocals. -/
def scaleWords (hx hw hdy : Vec F S1x16 .f32) : Vec F S6 .f32 := fun j =>
  match (j 0).val with
  | 0 => k0_pay10 (k0_pay7 hx)
  | 1 => k0_pay14 (k0_pay12 hw) 127#32
  | 2 => k0_pay22 (k0_pay16 hdy) (k0_pay17 hdy) k0_pay18 k0_pay19
  | 3 => k0_pay11 (k0_pay8 hx) k0_pay9
  | 4 => k0_pay15 (k0_pay12 hw)
  | _ => k0_pay23 (k0_pay16 hdy) (k0_pay17 hdy) k0_pay18 k0_pay19

/-- The place of the `k`-th scale word. -/
def wordAt (k : Fin 6) : S6.Idx := fun | ⟨0, _⟩ => k

/-- The row block of the long scratch buffers that point `i` works on. -/
abbrev rowBlock (i : grid0.Coords) : Rect S4096x768 := Rect.unit (s := S4096x768) (k0_off2 i) S1024x768.size (k0_off2_inb i)

theorem eq_wordAt (j : S6.Idx) : ∃ k : Fin 6, j = wordAt k := ⟨j 0, funext fun | ⟨0, _⟩ => rfl⟩

theorem readAt_word {κ : Kind} {sp : Space} (v : View sig κ sp S6 .f32) (g : v.ty.Contents (Elt F)) (k : Fin 6) (o : Fin 1 → ℕ)
    (h : ∀ a, o a + S1.size a ≤ S6.size a) (ho : o 0 = k.val) (x) :
    v.readAt (Elt F) (Rect.unit (s := S6) o S1.size h).toLoadRect g x = v.read (Elt F) g (wordAt k) := by
  rw [View.readAt_eq_ld]
  show v.read (Elt F) g _ = _
  congr 1
  funext a
  match a with
  | ⟨0, _⟩ =>
    apply Fin.ext
    have hx : (x 0).val < 1 := (x 0).isLt
    show o 0 + 1 * (x 0).val = k.val
    omega

theorem readAt_word0 {κ : Kind} {sp : Space} (v : View sig κ sp S6 .f32) (g : v.ty.Contents (Elt F))
    (h : ∀ a, (![0] : Fin 1 → ℕ) a + S1.size a ≤ S6.size a) (x) :
    v.readAt (Elt F) (Rect.unit (s := S6) ![0] S1.size h).toLoadRect g x = v.read (Elt F) g (wordAt 0) := readAt_word v g 0 _ h rfl x
theorem readAt_word1 {κ : Kind} {sp : Space} (v : View sig κ sp S6 .f32) (g : v.ty.Contents (Elt F))
    (h : ∀ a, (![1] : Fin 1 → ℕ) a + S1.size a ≤ S6.size a) (x) :
    v.readAt (Elt F) (Rect.unit (s := S6) ![1] S1.size h).toLoadRect g x = v.read (Elt F) g (wordAt 1) := readAt_word v g 1 _ h rfl x
theorem readAt_word2 {κ : Kind} {sp : Space} (v : View sig κ sp S6 .f32) (g : v.ty.Contents (Elt F))
    (h : ∀ a, (![2] : Fin 1 → ℕ) a + S1.size a ≤ S6.size a) (x) :
    v.readAt (Elt F) (Rect.unit (s := S6) ![2] S1.size h).toLoadRect g x = v.read (Elt F) g (wordAt 2) := readAt_word v g 2 _ h rfl x
theorem readAt_word3 {κ : Kind} {sp : Space} (v : View sig κ sp S6 .f32) (g : v.ty.Contents (Elt F))
    (h : ∀ a, (![3] : Fin 1 → ℕ) a + S1.size a ≤ S6.size a) (x) :
    v.readAt (Elt F) (Rect.unit (s := S6) ![3] S1.size h).toLoadRect g x = v.read (Elt F) g (wordAt 3) := readAt_word v g 3 _ h rfl x
theorem readAt_word4 {κ : Kind} {sp : Space} (v : View sig κ sp S6 .f32) (g : v.ty.Contents (Elt F))
    (h : ∀ a, (![4] : Fin 1 → ℕ) a + S1.size a ≤ S6.size a) (x) :
    v.readAt (Elt F) (Rect.unit (s := S6) ![4] S1.size h).toLoadRect g x = v.read (Elt F) g (wordAt 4) := readAt_word v g 4 _ h rfl x
theorem readAt_word5 {κ : Kind} {sp : Space} (v : View sig κ sp S6 .f32) (g : v.ty.Contents (Elt F))
    (h : ∀ a, (![5] : Fin 1 → ℕ) a + S1.size a ≤ S6.size a) (x) :
    v.readAt (Elt F) (Rect.unit (s := S6) ![5] S1.size h).toLoadRect g x = v.read (Elt F) g (wordAt 5) := readAt_word v g 5 _ h rfl x
theorem readAt_lit_S1x1024x1024 {κ : Kind} {sp : Space} {e : EltTy} (v : View sig κ sp S1x1024x1024 e) (g : v.ty.Contents (Elt F))
    (h : ∀ a, (![0, 0, 0] : Fin 3 → ℕ) a + (![1, 1024, 1024] : Fin 3 → ℕ) a ≤ S1x1024x1024.size a) :
    v.readAt (Elt F) (Rect.unit (s := S1x1024x1024) ![0, 0, 0] ![1, 1024, 1024] h).toLoadRect g = v.read (Elt F) g := readAt_whole v g _ h
theorem readAt_lit_S1024x768 {κ : Kind} {sp : Space} {e : EltTy} (v : View sig κ sp S1024x768 e) (g : v.ty.Contents (Elt F))
    (h : ∀ a, (![0, 0] : Fin 2 → ℕ) a + (![1024, 768] : Fin 2 → ℕ) a ≤ S1024x768.size a) :
    v.readAt (Elt F) (Rect.unit (s := S1024x768) ![0, 0] ![1024, 768] h).toLoadRect g = v.read (Elt F) g := readAt_whole v g _ h
theorem readAt_lit_S1x1024x768 {κ : Kind} {sp : Space} {e : EltTy} (v : View sig κ sp S1x1024x768 e) (g : v.ty.Contents (Elt F))
    (h : ∀ a, (![0, 0, 0] : Fin 3 → ℕ) a + (![1, 1024, 768] : Fin 3 → ℕ) a ≤ S1x1024x768.size a) :
    v.readAt (Elt F) (Rect.unit (s := S1x1024x768) ![0, 0, 0] ![1, 1024, 768] h).toLoadRect g = v.read (Elt F) g := readAt_whole v g _ h
theorem readAt_lit_S1x16 {κ : Kind} {sp : Space} {e : EltTy} (v : View sig κ sp S1x16 e) (g : v.ty.Contents (Elt F))
    (h : ∀ a, (![0, 0] : Fin 2 → ℕ) a + (![1, 16] : Fin 2 → ℕ) a ≤ S1x16.size a) :
    v.readAt (Elt F) (Rect.unit (s := S1x16) ![0, 0] ![1, 16] h).toLoadRect g = v.read (Elt F) g := readAt_whole v g _ h
theorem readAt_lit_S16x1024 {κ : Kind} {sp : Space} {e : EltTy} (v : View sig κ sp S16x1024 e) (g : v.ty.Contents (Elt F))
    (h : ∀ a, (![0, 0] : Fin 2 → ℕ) a + (![16, 1024] : Fin 2 → ℕ) a ≤ S16x1024.size a) :
    v.readAt (Elt F) (Rect.unit (s := S16x1024) ![0, 0] ![16, 1024] h).toLoadRect g = v.read (Elt F) g := readAt_whole v g _ h
theorem readAt_lit_S8x768 {κ : Kind} {sp : Space} {e : EltTy} (v : View sig κ sp S8x768 e) (g : v.ty.Contents (Elt F))
    (h : ∀ a, (![0, 0] : Fin 2 → ℕ) a + (![8, 768] : Fin 2 → ℕ) a ≤ S8x768.size a) :
    v.readAt (Elt F) (Rect.unit (s := S8x768) ![0, 0] ![8, 768] h).toLoadRect g = v.read (Elt F) g := readAt_whole v g _ h
theorem readAt_lit_S16x768 {κ : Kind} {sp : Space} {e : EltTy} (v : View sig κ sp S16x768 e) (g : v.ty.Contents (Elt F))
    (h : ∀ a, (![0, 0] : Fin 2 → ℕ) a + (![16, 768] : Fin 2 → ℕ) a ≤ S16x768.size a) :
    v.readAt (Elt F) (Rect.unit (s := S16x768) ![0, 0] ![16, 768] h).toLoadRect g = v.read (Elt F) g := readAt_whole v g _ h
theorem readAt_wordlit0 {κ : Kind} {sp : Space} (v : View sig κ sp S6 .f32) (g : v.ty.Contents (Elt F))
    (h : ∀ a, (![0] : Fin 1 → ℕ) a + (![1] : Fin 1 → ℕ) a ≤ S6.size a) (x) :
    v.readAt (Elt F) (Rect.unit (s := S6) ![0] ![1] h).toLoadRect g x = v.read (Elt F) g (wordAt 0) := readAt_word v g 0 _ h rfl x
theorem readAt_wordlit1 {κ : Kind} {sp : Space} (v : View sig κ sp S6 .f32) (g : v.ty.Contents (Elt F))
    (h : ∀ a, (![1] : Fin 1 → ℕ) a + (![1] : Fin 1 → ℕ) a ≤ S6.size a) (x) :
    v.readAt (Elt F) (Rect.unit (s := S6) ![1] ![1] h).toLoadRect g x = v.read (Elt F) g (wordAt 1) := readAt_word v g 1 _ h rfl x
theorem readAt_wordlit2 {κ : Kind} {sp : Space} (v : View sig κ sp S6 .f32) (g : v.ty.Contents (Elt F))
    (h : ∀ a, (![2] : Fin 1 → ℕ) a + (![1] : Fin 1 → ℕ) a ≤ S6.size a) (x) :
    v.readAt (Elt F) (Rect.unit (s := S6) ![2] ![1] h).toLoadRect g x = v.read (Elt F) g (wordAt 2) := readAt_word v g 2 _ h rfl x
theorem readAt_wordlit3 {κ : Kind} {sp : Space} (v : View sig κ sp S6 .f32) (g : v.ty.Contents (Elt F))
    (h : ∀ a, (![3] : Fin 1 → ℕ) a + (![1] : Fin 1 → ℕ) a ≤ S6.size a) (x) :
    v.readAt (Elt F) (Rect.unit (s := S6) ![3] ![1] h).toLoadRect g x = v.read (Elt F) g (wordAt 3) := readAt_word v g 3 _ h rfl x
theorem readAt_wordlit4 {κ : Kind} {sp : Space} (v : View sig κ sp S6 .f32) (g : v.ty.Contents (Elt F))
    (h : ∀ a, (![4] : Fin 1 → ℕ) a + (![1] : Fin 1 → ℕ) a ≤ S6.size a) (x) :
    v.readAt (Elt F) (Rect.unit (s := S6) ![4] ![1] h).toLoadRect g x = v.read (Elt F) g (wordAt 4) := readAt_word v g 4 _ h rfl x
theorem readAt_wordlit5 {κ : Kind} {sp : Space} (v : View sig κ sp S6 .f32) (g : v.ty.Contents (Elt F))
    (h : ∀ a, (![5] : Fin 1 → ℕ) a + (![1] : Fin 1 → ℕ) a ≤ S6.size a) (x) :
    v.readAt (Elt F) (Rect.unit (s := S6) ![5] ![1] h).toLoadRect g x = v.read (Elt F) g (wordAt 5) := readAt_word v g 5 _ h rfl x

/-- What the word buffer reads after its six stores, in the order in which the kernel makes them. -/
theorem read_six {κ : Kind} {sp : Space} (v : View sig κ sp S6 .f32) (g : v.ty.Contents (Elt F))
    (h0 : ∀ a, (![0] : Fin 1 → ℕ) a + S1.size a ≤ S6.size a) (h1 : ∀ a, (![1] : Fin 1 → ℕ) a + S1.size a ≤ S6.size a)
    (h2 : ∀ a, (![2] : Fin 1 → ℕ) a + S1.size a ≤ S6.size a) (h3 : ∀ a, (![3] : Fin 1 → ℕ) a + S1.size a ≤ S6.size a)
    (h4 : ∀ a, (![4] : Fin 1 → ℕ) a + S1.size a ≤ S6.size a) (h5 : ∀ a, (![5] : Fin 1 → ℕ) a + S1.size a ≤ S6.size a)
    (w0 w1 w2 w3 w4 w5 : Elt F .f32) (k : Fin 6) :
    v.read (Elt F) (v.writes (Elt F) g [⟨Rect.unit (s := S6) ![5] S1.size h5, fun _ => w5⟩, ⟨Rect.unit (s := S6) ![2] S1.size h2, fun _ => w2⟩,
      ⟨Rect.unit (s := S6) ![4] S1.size h4, fun _ => w4⟩, ⟨Rect.unit (s := S6) ![1] S1.size h1, fun _ => w1⟩,
      ⟨Rect.unit (s := S6) ![3] S1.size h3, fun _ => w3⟩, ⟨Rect.unit (s := S6) ![0] S1.size h0, fun _ => w0⟩]) (wordAt k)
      = match k.val with | 0 => w0 | 1 => w1 | 2 => w2 | 3 => w3 | 4 => w4 | _ => w5 := by
  have hit : ∀ (o : Fin 1 → ℕ) (h : ∀ a, o a + S1.size a ≤ S6.size a) (w : Elt F .f32) (L) (k : Fin 6), o 0 = k.val →
      v.read (Elt F) (v.writes (Elt F) g (⟨Rect.unit (s := S6) o S1.size h, fun _ => w⟩ :: L)) (wordAt k) = w := fun o h w L k hk =>
    v.read_writes_cons_hit_of_coords g (Rect.unit (s := S6) o S1.size h) (fun _ => w) L (fun | ⟨0, _⟩ => (0 : Fin 1)) _
      (fun | ⟨0, _⟩ => hk.symm)
  have miss : ∀ (o : Fin 1 → ℕ) (h : ∀ a, o a + S1.size a ≤ S6.size a) (w : Elt F .f32) (L) (k : Fin 6), o 0 ≠ k.val →
      v.read (Elt F) (v.writes (Elt F) g (⟨Rect.unit (s := S6) o S1.size h, fun _ => w⟩ :: L)) (wordAt k)
        = v.read (Elt F) (v.writes (Elt F) g L) (wordAt k) := fun o h w L k hk =>
    v.read_writes_cons_miss_of_axis g ⟨Rect.unit (s := S6) o S1.size h, fun _ => w⟩ L (wordAt k) 0 (o 0) 1 rfl rfl rfl
      (by show k.val < o 0 ∨ o 0 + 1 ≤ k.val; omega)
  fin_cases k
  · refine (miss _ _ _ _ _ (by decide)).trans ((miss _ _ _ _ _ (by decide)).trans ((miss _ _ _ _ _ (by decide)).trans ((miss _ _ _ _ _ (by decide)).trans ((miss _ _ _ _ _ (by decide)).trans (hit _ _ _ _ _ rfl)))))
  · refine (miss _ _ _ _ _ (by decide)).trans ((miss _ _ _ _ _ (by decide)).trans ((miss _ _ _ _ _ (by decide)).trans (hit _ _ _ _ _ rfl)))
  · refine (miss _ _ _ _ _ (by decide)).trans (hit _ _ _ _ _ rfl)
  · refine (miss _ _ _ _ _ (by decide)).trans ((miss _ _ _ _ _ (by decide)).trans ((miss _ _ _ _ _ (by decide)).trans ((miss _ _ _ _ _ (by decide)).trans (hit _ _ _ _ _ rfl))))
  · refine (miss _ _ _ _ _ (by decide)).trans ((miss _ _ _ _ _ (by decide)).trans (hit _ _ _ _ _ rfl))
  · exact hit _ _ _ _ _ rfl

variable (f r0 c0 r2 c3 l : Bool) (i : grid0.Coords) (p : Inp F) (M : Mem F)

/-- The scale words after the point. -/
def words : Vec F S6 .f32 := bif f then scaleWords p.hx p.hw p.hdy else M.m26
/-- The coded weight after the point. -/
def codedW : Vec F S4096x768 .fp8e4m3 :=
  bif r0 then (rowBlock i).overlay M.m20 (k0_pay30 p.w (words f p M (wordAt 4))) else M.m20
/-- The coded dy of the point. -/
def codedDy : Vec F S1x1024x768 .fp8e5m2 := bif c0 then k0_pay34 p.dy (words f p M (wordAt 5)) else M.o18
/-- The scaled x of the point. -/
def scaledX : FVec F S1024x1024 .bf16 := k0_pay38 p.x (words f p M (wordAt 3))
/-- The sum of y after the point. -/
def sumY : Vec F S1024x768 .f32 :=
  k0_pay43 (scaledX f p M) k0_pay39 (part (rowBlock i) (codedW f r0 i p M)) (bif c0 then k0_pay35 else M.m21)
/-- The sums of dw before the point's product. -/
def sumDw0 : Vec F S4096x768 .f32 := bif r0 then (rowBlock i).overlay M.m22 k0_pay31 else M.m22
/-- The sums of dw after the point. -/
def sumDw : Vec F S4096x768 .f32 :=
  (rowBlock i).overlay (sumDw0 r0 i M)
    (k0_pay45 (scaledX f p M) k0_pay39 (codedDy f c0 p M) (part (rowBlock i) (sumDw0 r0 i M)))
/-- The running maximum of x after the point. -/
def maxX : Vec F S16x1024 .bf16 := k0_pay37 p.x (bif f then k0_pay24 else M.m23)
/-- The running maximum of w after the point. -/
def maxW : Vec F S8x768 .f32 :=
  bif r0 then k0_pay28 p.w (bif f then k0_pay25 else M.m24) else (bif f then k0_pay25 else M.m24)
/-- The running maximum of dy after the point. -/
def maxDy : Vec F S16x768 .bf16 :=
  bif c0 then k0_pay33 p.dy (bif f then k0_pay27 k0_pay26 else M.m25) else (bif f then k0_pay27 k0_pay26 else M.m25)

/-- One point of the kernel as a function of what it finds: `f` says it is the first point, `r0`/`r2` that it is in the first/last
    round of tokens, `c0`/`c3` in the first/last column block, `l` that it is the last point. -/
def step : Mem F where
  o8 := bif c3 then k0_pay2 (sumY f r0 c0 i p M) (words f p M (wordAt 0)) (words f p M (wordAt 1)) else M.o8
  o9 := k0_pay44 (part (rowBlock i) (codedW f r0 i p M)) (codedDy f c0 p M) (words f p M (wordAt 2)) (words f p M (wordAt 1))
  o10 := bif r2 then k0_pay1 (part (rowBlock i) (sumDw f r0 c0 i p M)) (words f p M (wordAt 0)) (words f p M (wordAt 2)) else M.o10
  o11 := bif l then k0_pay3 (maxX f p M) p.hx else M.o11
  o12 := bif l then k0_pay4 (maxW f r0 p M) p.hw else M.o12
  o13 := bif l then k0_pay5 (maxDy f c0 p M) p.hdy else M.o13
  o14 := k0_pay41 (scaledX f p M) k0_pay39
  o15 := bif f then k0_pay7 p.hx else M.o15
  o16 := bif r0 then k0_pay29 p.w (words f p M (wordAt 4)) else M.o16
  o17 := bif f then k0_pay13 (k0_pay12 p.hw) 127#32 else M.o17
  o18 := codedDy f c0 p M
  o19 := bif f then k0_pay21 (k0_pay16 p.hdy) (k0_pay17 p.hdy) k0_pay18 k0_pay19 else M.o19
  m20 := codedW f r0 i p M
  m21 := sumY f r0 c0 i p M
  m22 := sumDw f r0 c0 i p M
  m23 := maxX f p M
  m24 := maxW f r0 p M
  m25 := maxDy f c0 p M
  m26 := words f p M

end Cert.KernelIdeal.Hand
end
-- ==== Proof.KernelIdeal.Inv.lean ====
/-
  What the kernel's buffers hold before each grid point, as functions of the operands' blocks: the running sums and maxima, the
  coded blocks kept between the points, and the step from one point to the next.
-/
module
public import proofs.«01_k».proof.Proof.KernelIdeal.Step
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
variable {F : FTy → Type} [FloatOps F]

/-- The grid point of number `n`. -/
def pt (n : ℕ) : Fin cfg0.N := ⟨n % 12, Nat.mod_lt _ (by decide)⟩

/-- The row block of the long scratch buffers that point `n` works on. -/
abbrev row (n : ℕ) : Rect S4096x768 := rowBlock (grid0.coords (pt n))

theorem off_row : ∀ t : Fin grid0.N, k0_off2 (grid0.coords t) = ![1024 * (t.val % 4), 0] := by decide +kernel

theorem off_row0 (n : ℕ) (hn : n < 12) : k0_off2 (grid0.coords (pt n)) 0 = 1024 * (n % 4) := by
  rw [off_row]; show 1024 * (n % 12 % 4) = _; rw [Nat.mod_eq_of_lt hn]
theorem off_row1 (n : ℕ) : k0_off2 (grid0.coords (pt n)) 1 = 0 := by rw [off_row]; rfl

/-- Points of the same column block work on the same rows. -/
theorem part_row {e : EltTy} (n : ℕ) (hn : n < 12) (X : Vec F S4096x768 e) :
    (part (row n) X : Vec F S1024x768 e) = part (row (n % 4)) X := by
  funext x
  show X _ = X _
  congr 1
  funext a
  apply Fin.ext
  show k0_off2 (grid0.coords (pt n)) a + 1 * (x a).val = k0_off2 (grid0.coords (pt (n % 4))) a + 1 * (x a).val
  congr 1
  match a with
  | ⟨0, _⟩ => exact (off_row0 n hn).trans ((off_row0 (n % 4) (by omega)).trans (by rw [Nat.mod_mod])).symm
  | ⟨1, _⟩ => exact (off_row1 n).trans (off_row1 _).symm

/-- Points of different column blocks work on different rows. -/
theorem row_disjoint (j n : ℕ) (hj : j < 4) (hn : n < 12) (h : j ≠ n % 4) (x : (row j).shape.Idx) : (row j).emb x ∉ (row n).set := by
  intro hm
  obtain ⟨y, hy⟩ := (row n).exists_idx_of_mem hm
  have h0 := congrArg (fun z : S4096x768.Idx => (z 0).val) hy
  have e0 : k0_off2 (grid0.coords (pt n)) 0 + 1 * (y 0).val = k0_off2 (grid0.coords (pt j)) 0 + 1 * (x 0).val := h0
  rw [off_row0 n hn, off_row0 j (by omega), Nat.mod_eq_of_lt hj] at e0
  have hx : (x 0).val < 1024 := (x 0).isLt
  have hy : (y 0).val < 1024 := (y 0).isLt
  omega

theorem part_overlay_row {e : EltTy} (n : ℕ) (X : Vec F S4096x768 e) (w : Vec F S1024x768 e) :
    (part (row n) ((row n).overlay X w) : Vec F S1024x768 e) = w := part_overlay (row n) X w
theorem part_overlay_other {e : EltTy} (j n : ℕ) (hj : j < 4) (hn : n < 12) (h : j ≠ n % 4) (X : Vec F S4096x768 e) (w : Vec F S1024x768 e) :
    (part (row j) ((row n).overlay X w) : Vec F S1024x768 e) = part (row j) X :=
  part_overlay_of_disjoint (row j) (row n) X w (row_disjoint j n hj hn h)

variable (p : ℕ → Inp F)

/-- The six scale words. -/
def SW (k : Fin 6) : Elt F .f32 := scaleWords (p 0).hx (p 0).hw (p 0).hdy (wordAt k)
/-- The coded weight of row block `k`. -/
def WQ (k : ℕ) : Vec F S1024x768 .fp8e4m3 := k0_pay30 (p k).w (SW p 4)
/-- The coded dy of token block `r`. -/
def DQ (r : ℕ) : Vec F S1x1024x768 .fp8e5m2 := k0_pay34 (p (4 * r)).dy (SW p 5)
/-- The scaled x of point `n`. -/
def SX (n : ℕ) : FVec F S1024x1024 .bf16 := k0_pay38 (p n).x (SW p 3)
/-- The sum of y of token block `r` over the first column blocks. -/
def YP (r : ℕ) : ℕ → Vec F S1024x768 .f32
  | 0 => k0_pay35
  | k + 1 => k0_pay43 (SX p (4 * r + k)) k0_pay39 (WQ p k) (YP r k)
/-- The sum of dw of row block `k` over the first token blocks. -/
def DWP (k : ℕ) : ℕ → Vec F S1024x768 .f32
  | 0 => k0_pay31
  | r + 1 => k0_pay45 (SX p (4 * r + k)) k0_pay39 (DQ p r) (DWP k r)
/-- The running maximum of x over the first points. -/
def AX : ℕ → Vec F S16x1024 .bf16
  | 0 => k0_pay24
  | n + 1 => k0_pay37 (p n).x (AX n)
/-- The running maximum of w over the first row blocks. -/
def AW : ℕ → Vec F S8x768 .f32
  | 0 => k0_pay25
  | n + 1 => k0_pay28 (p n).w (AW n)
/-- The running maximum of dy over the first token blocks. -/
def ADY : ℕ → Vec F S16x768 .bf16
  | 0 => k0_pay27 k0_pay26
  | r + 1 => k0_pay33 (p (4 * r)).dy (ADY r)

/-- What holds of the buffers before point `n`. -/
structure Good (n : ℕ) (M : Mem F) : Prop where
  words : 1 ≤ n → ∀ k, M.m26 (wordAt k) = SW p k
  wq : ∀ k, k < 4 → k < n → (part (row k) M.m20 : Vec F S1024x768 .fp8e4m3) = WQ p k
  y : n % 4 ≠ 0 → M.m21 = YP p (n / 4) (n % 4)
  dw : ∀ k, k < 4 → k < n → (part (row k) M.m22 : Vec F S1024x768 .f32) = DWP p k ((n + 3 - k) / 4)
  ax : 1 ≤ n → M.m23 = AX p n
  aw : 1 ≤ n → M.m24 = AW p (min n 4)
  ady : 1 ≤ n → M.m25 = ADY p ((n + 3) / 4)

/-- The step of point `n`. -/
def stepAt (n : ℕ) (M : Mem F) : Mem F :=
  step (decide (n = 0)) (decide (n < 4)) (decide (n % 4 = 0)) (decide (8 ≤ n)) (decide (n % 4 = 3)) (decide (n = 11))
    (grid0.coords (pt n)) (p n) M

variable {p} {n : ℕ} {M : Mem F} (hn : n < 12) (hG : Good p n M) (hD : n % 4 ≠ 0 → M.o18 = DQ p (n / 4))
include hn hG

omit hn in
theorem words_eq (k : Fin 6) : words (decide (n = 0)) (p n) M (wordAt k) = SW p k := by
  unfold words
  by_cases h : n = 0
  · subst h; rfl
  · rw [decide_eq_false h]; exact hG.words (by omega) k

theorem wq_after (k : ℕ) (hk : k < 4) (hkn : k < n + 1) :
    (part (row k) (codedW (decide (n = 0)) (decide (n < 4)) (grid0.coords (pt n)) (p n) M) : Vec F S1024x768 .fp8e4m3) = WQ p k := by
  unfold codedW
  rw [words_eq hG]
  by_cases h : n < 4
  · rw [decide_eq_true h, cond_true]
    by_cases e : k = n
    · subst e; exact part_overlay_row k _ _
    · exact (part_overlay_other k n hk hn (by omega) _ _).trans (hG.wq k hk (by omega))
  · rw [decide_eq_false h, cond_false]
    exact hG.wq k hk (by omega)

theorem chunk_eq :
    (part (row n) (codedW (decide (n = 0)) (decide (n < 4)) (grid0.coords (pt n)) (p n) M) : Vec F S1024x768 .fp8e4m3) = WQ p (n % 4) :=
  (part_row n hn _).trans (wq_after hn hG (n % 4) (by omega) (by omega))

omit hn in
theorem scaledX_eq : scaledX (decide (n = 0)) (p n) M = SX p n := by
  unfold scaledX SX; rw [words_eq hG]

include hD in
omit hn in
theorem codedDy_eq : codedDy (decide (n = 0)) (decide (n % 4 = 0)) (p n) M = DQ p (n / 4) := by
  unfold codedDy
  rw [words_eq hG]
  by_cases h : n % 4 = 0
  · rw [decide_eq_true h, cond_true]; unfold DQ; rw [show 4 * (n / 4) = n by omega]
  · rw [decide_eq_false h, cond_false]; exact hD h

theorem sumY_eq : sumY (decide (n = 0)) (decide (n < 4)) (decide (n % 4 = 0)) (grid0.coords (pt n)) (p n) M = YP p (n / 4) (n % 4 + 1) := by
  unfold sumY
  have hc := chunk_eq hn hG
  rw [scaledX_eq hG]
  show _ = k0_pay43 (SX p (4 * (n / 4) + n % 4)) k0_pay39 (WQ p (n % 4)) (YP p (n / 4) (n % 4))
  rw [show 4 * (n / 4) + n % 4 = n by omega]
  rw [show k0_pay43 (SX p n) k0_pay39 (part (row n) (codedW (decide (n = 0)) (decide (n < 4)) (grid0.coords (pt n)) (p n) M)) (bif decide (n % 4 = 0) then k0_pay35 else M.m21)
    = k0_pay43 (SX p n) k0_pay39 (WQ p (n % 4)) (bif decide (n % 4 = 0) then k0_pay35 else M.m21) from congrArg (fun z => k0_pay43 (SX p n) k0_pay39 z _) hc]
  congr 1
  by_cases h : n % 4 = 0
  · rw [decide_eq_true h, cond_true, h]; rfl
  · rw [decide_eq_false h, cond_false]; exact hG.y h

theorem sumDw0_eq : (part (row n) (sumDw0 (decide (n < 4)) (grid0.coords (pt n)) M) : Vec F S1024x768 .f32) = DWP p (n % 4) (n / 4) := by
  unfold sumDw0
  by_cases h : n < 4
  · rw [decide_eq_true h, cond_true, show n / 4 = 0 by omega]; exact part_overlay_row n _ _
  · rw [decide_eq_false h, cond_false]
    refine (part_row n hn _).trans ((hG.dw (n % 4) (by omega) (by omega)).trans ?_)
    rw [show (n + 3 - n % 4) / 4 = n / 4 by omega]

include hD in
theorem sumDw_eq : (part (row n) (sumDw (decide (n = 0)) (decide (n < 4)) (decide (n % 4 = 0)) (grid0.coords (pt n)) (p n) M) : Vec F S1024x768 .f32)
    = DWP p (n % 4) (n / 4 + 1) := by
  unfold sumDw
  refine (part_overlay_row n _ _).trans ?_
  rw [scaledX_eq hG, codedDy_eq hG hD]
  show _ = k0_pay45 (SX p (4 * (n / 4) + n % 4)) k0_pay39 (DQ p (n / 4)) (DWP p (n % 4) (n / 4))
  rw [show 4 * (n / 4) + n % 4 = n by omega]
  exact congrArg (fun z => k0_pay45 (SX p n) k0_pay39 (DQ p (n / 4)) z) (sumDw0_eq hn hG)

include hD in
theorem dw_after (k : ℕ) (hk : k < 4) (hkn : k < n + 1) :
    (part (row k) (sumDw (decide (n = 0)) (decide (n < 4)) (decide (n % 4 = 0)) (grid0.coords (pt n)) (p n) M) : Vec F S1024x768 .f32)
      = DWP p k ((n + 1 + 3 - k) / 4) := by
  by_cases e : k = n % 4
  · subst e
    rw [show (n + 1 + 3 - n % 4) / 4 = n / 4 + 1 by omega]
    exact (part_row n hn _).symm.trans (sumDw_eq hn hG hD)
  · unfold sumDw
    refine (part_overlay_other k n hk hn e _ _).trans ?_
    rw [show (n + 1 + 3 - k) / 4 = (n + 3 - k) / 4 by omega]
    unfold sumDw0
    by_cases h : n < 4
    · rw [decide_eq_true h, cond_true]
      exact (part_overlay_other k n hk hn e _ _).trans (hG.dw k hk (by omega))
    · rw [decide_eq_false h, cond_false]
      exact hG.dw k hk (by omega)

omit hn in
theorem maxX_eq : maxX (decide (n = 0)) (p n) M = AX p (n + 1) := by
  unfold maxX
  show _ = k0_pay37 (p n).x (AX p n)
  congr 1
  by_cases h : n = 0
  · subst h; rfl
  · rw [decide_eq_false h, cond_false]; exact hG.ax (by omega)

omit hn in
theorem maxW_eq : maxW (decide (n = 0)) (decide (n < 4)) (p n) M = AW p (min (n + 1) 4) := by
  have h0 : (bif decide (n = 0) then k0_pay25 else M.m24) = AW p (min n 4) := by
    by_cases h : n = 0
    · subst h; rfl
    · rw [decide_eq_false h, cond_false]; exact hG.aw (by omega)
  unfold maxW
  rw [h0]
  by_cases h : n < 4
  · rw [decide_eq_true h, cond_true, show min n 4 = n by omega, show min (n + 1) 4 = n + 1 by omega]; rfl
  · rw [decide_eq_false h, cond_false, show min n 4 = 4 by omega, show min (n + 1) 4 = 4 by omega]

omit hn in
theorem maxDy_eq : maxDy (decide (n = 0)) (decide (n % 4 = 0)) (p n) M = ADY p ((n + 1 + 3) / 4) := by
  have h0 : (bif decide (n = 0) then k0_pay27 k0_pay26 else M.m25) = ADY p ((n + 3) / 4) := by
    by_cases h : n = 0
    · subst h; rfl
    · rw [decide_eq_false h, cond_false]; exact hG.ady (by omega)
  unfold maxDy
  rw [h0]
  by_cases h : n % 4 = 0
  · rw [decide_eq_true h, cond_true, show (n + 1 + 3) / 4 = (n + 3) / 4 + 1 by omega]
    show _ = k0_pay33 (p (4 * ((n + 3) / 4))).dy _
    rw [show 4 * ((n + 3) / 4) = n by omega]
  · rw [decide_eq_false h, cond_false, show (n + 1 + 3) / 4 = (n + 3) / 4 by omega]

omit hn hG in
theorem stepAt_m20 : (stepAt p n M).m20 = codedW (decide (n = 0)) (decide (n < 4)) (grid0.coords (pt n)) (p n) M := by simp only [stepAt, step]
omit hn hG in
theorem stepAt_m21 : (stepAt p n M).m21 = sumY (decide (n = 0)) (decide (n < 4)) (decide (n % 4 = 0)) (grid0.coords (pt n)) (p n) M := by simp only [stepAt, step]
omit hn hG in
theorem stepAt_m22 : (stepAt p n M).m22 = sumDw (decide (n = 0)) (decide (n < 4)) (decide (n % 4 = 0)) (grid0.coords (pt n)) (p n) M := by simp only [stepAt, step]
omit hn hG in
theorem stepAt_m23 : (stepAt p n M).m23 = maxX (decide (n = 0)) (p n) M := by simp only [stepAt, step]
omit hn hG in
theorem stepAt_m24 : (stepAt p n M).m24 = maxW (decide (n = 0)) (decide (n < 4)) (p n) M := by simp only [stepAt, step]
omit hn hG in
theorem stepAt_m25 : (stepAt p n M).m25 = maxDy (decide (n = 0)) (decide (n % 4 = 0)) (p n) M := by simp only [stepAt, step]
omit hn hG in
theorem stepAt_m26 : (stepAt p n M).m26 = words (decide (n = 0)) (p n) M := by simp only [stepAt, step]

include hD in
/-- The step keeps what holds of the buffers. -/
theorem good_step : Good p (n + 1) (stepAt p n M) := by
  refine ⟨fun _ k => ?_, fun k hk hkn => ?_, fun h => ?_, fun k hk hkn => ?_, fun _ => ?_, fun _ => ?_, fun _ => ?_⟩
  · rw [stepAt_m26]; exact words_eq hG k
  · rw [stepAt_m20]; exact wq_after hn hG k hk hkn
  · rw [stepAt_m21, sumY_eq hn hG, show (n + 1) / 4 = n / 4 by omega, show (n + 1) % 4 = n % 4 + 1 by omega]
  · rw [stepAt_m22]; exact dw_after hn hG hD k hk hkn
  · rw [stepAt_m23]; exact maxX_eq hG
  · rw [stepAt_m24]; exact maxW_eq hG
  · rw [stepAt_m25]; exact maxDy_eq hG

/-! ## What a point leaves in the result windows -/

theorem out_y (h : n % 4 = 3) : (stepAt p n M).o8 = k0_pay2 (YP p (n / 4) 4) (SW p 0) (SW p 1) := by
  show (bif decide (n % 4 = 3) then _ else _) = _
  rw [decide_eq_true h, cond_true, sumY_eq hn hG, words_eq hG, words_eq hG, h]
include hD in
theorem out_dx : (stepAt p n M).o9 = k0_pay44 (WQ p (n % 4)) (DQ p (n / 4)) (SW p 2) (SW p 1) := by
  show k0_pay44 _ (codedDy _ _ _ _) (words _ _ _ _) (words _ _ _ _) = _
  rw [codedDy_eq hG hD, words_eq hG, words_eq hG]
  exact congrArg (fun z => k0_pay44 z (DQ p (n / 4)) (SW p 2) (SW p 1)) (chunk_eq hn hG)
include hD in
theorem out_dw (h : 8 ≤ n) : (stepAt p n M).o10 = k0_pay1 (DWP p (n % 4) 3) (SW p 0) (SW p 2) := by
  show (bif decide (8 ≤ n) then _ else _) = _
  rw [decide_eq_true h, cond_true, words_eq hG, words_eq hG]
  have e := sumDw_eq hn hG hD
  rw [show n / 4 + 1 = 3 by omega] at e
  exact congrArg (fun z => k0_pay1 z (SW p 0) (SW p 2)) e
omit hn in
theorem out_nhx (h : n = 11) : (stepAt p n M).o11 = k0_pay3 (AX p 12) (p 11).hx := by
  show (bif decide (n = 11) then _ else _) = _
  rw [decide_eq_true h, cond_true, maxX_eq hG, h]
omit hn in
theorem out_nhw (h : n = 11) : (stepAt p n M).o12 = k0_pay4 (AW p 4) (p 11).hw := by
  show (bif decide (n = 11) then _ else _) = _
  rw [decide_eq_true h, cond_true, maxW_eq hG, h]; rfl
omit hn in
theorem out_nhdy (h : n = 11) : (stepAt p n M).o13 = k0_pay5 (ADY p 3) (p 11).hdy := by
  show (bif decide (n = 11) then _ else _) = _
  rw [decide_eq_true h, cond_true, maxDy_eq hG, h]
omit hn in
theorem out_xq : (stepAt p n M).o14 = k0_pay41 (SX p n) k0_pay39 := by
  show k0_pay41 (scaledX _ _ _) _ = _
  rw [scaledX_eq hG]
omit hn in
theorem out_wq (h : n < 4) : (stepAt p n M).o16 = k0_pay29 (p n).w (SW p 4) := by
  show (bif decide (n < 4) then _ else _) = _
  rw [decide_eq_true h, cond_true, words_eq hG]
include hD in
omit hn in
theorem out_dyq : (stepAt p n M).o18 = DQ p (n / 4) := codedDy_eq hG hD

end Cert.KernelIdeal.Hand
end
-- ==== Proof.KernelIdeal.Dats.lean ====
/-
  The proof data of the kernel: what each window holds after each point, and that a point leaves it so.
-/
module
public import proofs.«01_k».proof.Proof.KernelIdeal.Inv
public import Idealize.ShloMosaic.Lib.Pipeline.TableIdle
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The operands' blocks at point `n`. -/
def pin (c : Dev nD) (n : ℕ) : Inp F :=
  ⟨iblk m c 0 (pt n), iblk m c 1 (pt n), iblk m c 2 (pt n), iblk m c 3 (pt n), iblk m c 4 (pt n), iblk m c 5 (pt n)⟩

theorem pt_val (t : Fin cfg0.N) : pt t.val = t := Fin.ext (Nat.mod_eq_of_lt t.isLt)

theorem pin_x (c : Dev nD) (t : Fin cfg0.N) : (pin m c t.val).x = iblk m c 0 t := by
  have h : ∀ s : Fin cfg0.N, s = t → (Inp.mk (iblk m c 0 s) (iblk m c 1 s) (iblk m c 2 s) (iblk m c 3 s) (iblk m c 4 s) (iblk m c 5 s)).x = iblk m c 0 t := by
    rintro _ rfl; rfl
  exact h _ (pt_val t)
theorem pin_w (c : Dev nD) (t : Fin cfg0.N) : (pin m c t.val).w = iblk m c 1 t := by
  have h : ∀ s : Fin cfg0.N, s = t → (Inp.mk (iblk m c 0 s) (iblk m c 1 s) (iblk m c 2 s) (iblk m c 3 s) (iblk m c 4 s) (iblk m c 5 s)).w = iblk m c 1 t := by
    rintro _ rfl; rfl
  exact h _ (pt_val t)
theorem pin_dy (c : Dev nD) (t : Fin cfg0.N) : (pin m c t.val).dy = iblk m c 2 t := by
  have h : ∀ s : Fin cfg0.N, s = t → (Inp.mk (iblk m c 0 s) (iblk m c 1 s) (iblk m c 2 s) (iblk m c 3 s) (iblk m c 4 s) (iblk m c 5 s)).dy = iblk m c 2 t := by
    rintro _ rfl; rfl
  exact h _ (pt_val t)
theorem pin_hx (c : Dev nD) (t : Fin cfg0.N) : (pin m c t.val).hx = iblk m c 3 t := by
  have h : ∀ s : Fin cfg0.N, s = t → (Inp.mk (iblk m c 0 s) (iblk m c 1 s) (iblk m c 2 s) (iblk m c 3 s) (iblk m c 4 s) (iblk m c 5 s)).hx = iblk m c 3 t := by
    rintro _ rfl; rfl
  exact h _ (pt_val t)
theorem pin_hw (c : Dev nD) (t : Fin cfg0.N) : (pin m c t.val).hw = iblk m c 4 t := by
  have h : ∀ s : Fin cfg0.N, s = t → (Inp.mk (iblk m c 0 s) (iblk m c 1 s) (iblk m c 2 s) (iblk m c 3 s) (iblk m c 4 s) (iblk m c 5 s)).hw = iblk m c 4 t := by
    rintro _ rfl; rfl
  exact h _ (pt_val t)
theorem pin_hdy (c : Dev nD) (t : Fin cfg0.N) : (pin m c t.val).hdy = iblk m c 5 t := by
  have h : ∀ s : Fin cfg0.N, s = t → (Inp.mk (iblk m c 0 s) (iblk m c 1 s) (iblk m c 2 s) (iblk m c 3 s) (iblk m c 4 s) (iblk m c 5 s)).hdy = iblk m c 5 t := by
    rintro _ rfl; rfl
  exact h _ (pt_val t)

/-- The seven scratch buffers at the contents `M` says. -/
def scratch (c : Dev nD) (M : Mem F) : sProp 𝕄 :=
  iprop(owns (c : Thread nD τ) (Memref.whole cc0_scratch0) fullShare M.m20 ∗ owns (c : Thread nD τ) (Memref.whole cc0_scratch1) fullShare M.m21 ∗ owns (c : Thread nD τ) (Memref.whole cc0_scratch2) fullShare M.m22 ∗ owns (c : Thread nD τ) (Memref.whole cc0_scratch3) fullShare M.m23 ∗ owns (c : Thread nD τ) (Memref.whole cc0_scratch4) fullShare M.m24 ∗ owns (c : Thread nD τ) (Memref.whole cc0_scratch5) fullShare M.m25 ∗ owns (c : Thread nD τ) (Memref.whole cc0_scratch6) fullShare M.m26)

/-- The proof data: each operand's buffer at its block, each result's at what the point leaves there, the scratch buffers at
    contents of which `Good` holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay2 (YP (pin m c) (t.val / 4) 4) (SW (pin m c) 0) (SW (pin m c) 1)
    | ⟨7, _⟩ => k0_pay44 (WQ (pin m c) (t.val % 4)) (DQ (pin m c) (t.val / 4)) (SW (pin m c) 2) (SW (pin m c) 1)
    | ⟨8, _⟩ => k0_pay1 (DWP (pin m c) (t.val % 4) 3) (SW (pin m c) 0) (SW (pin m c) 2)
    | ⟨9, _⟩ => k0_pay3 (AX (pin m c) 12) (pin m c 11).hx
    | ⟨10, _⟩ => k0_pay4 (AW (pin m c) 4) (pin m c 11).hw
    | ⟨11, _⟩ => k0_pay5 (ADY (pin m c) 3) (pin m c 11).hdy
    | ⟨12, _⟩ => k0_pay41 (SX (pin m c) t.val) k0_pay39
    | ⟨13, _⟩ => k0_pay7 (pin m c 0).hx
    | ⟨14, _⟩ => k0_pay29 (pin m c (min t.val 3)).w (SW (pin m c) 4)
    | ⟨15, _⟩ => k0_pay13 (k0_pay12 (pin m c 0).hw) 127#32
    | ⟨16, _⟩ => DQ (pin m c) (t.val / 4)
    | ⟨17, _⟩ => k0_pay21 (k0_pay16 (pin m c 0).hdy) (k0_pay17 (pin m c 0).hdy) k0_pay18 k0_pay19
    | ⟨_ + 18, h⟩ => absurd h (Nat.not_lt.2 (Nat.le_add_left _ _))
  Φ t := iprop(∃ M : Mem F, ⌜Good (pin m c) t.val M⌝ ∗ scratch c M ∗ ∃ r, prngReg c r)
  q _ := fullShare
  owed _ := 0

theorem A_eq (c : Dev nD) (w : Fin cfg0.W) : (dats m 0 c).A w = V m c (Pipeline.arrRef spec0 w) := by
  dsimp only [dats]
theorem Φ_eq (c : Dev nD) (t) : (dats m 0 c).Φ t = iprop(∃ M : Mem F, ⌜Good (pin m c) t.val M⌝ ∗ scratch c M ∗ ∃ r, prngReg c r) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = k0_pay2 (YP (pin m c) (t.val / 4) 4) (SW (pin m c) 0) (SW (pin m c) 1) := by dsimp only [dats]
theorem after_7 (c : Dev nD) (t : Fin cfg0.N) : (dats m 0 c).after 7 t = k0_pay44 (WQ (pin m c) (t.val % 4)) (DQ (pin m c) (t.val / 4)) (SW (pin m c) 2) (SW (pin m c) 1) := by dsimp only [dats]
theorem after_8 (c : Dev nD) (t : Fin cfg0.N) : (dats m 0 c).after 8 t = k0_pay1 (DWP (pin m c) (t.val % 4) 3) (SW (pin m c) 0) (SW (pin m c) 2) := by dsimp only [dats]
theorem after_9 (c : Dev nD) (t : Fin cfg0.N) : (dats m 0 c).after 9 t = k0_pay3 (AX (pin m c) 12) (pin m c 11).hx := by dsimp only [dats]
theorem after_10 (c : Dev nD) (t : Fin cfg0.N) : (dats m 0 c).after 10 t = k0_pay4 (AW (pin m c) 4) (pin m c 11).hw := by dsimp only [dats]
theorem after_11 (c : Dev nD) (t : Fin cfg0.N) : (dats m 0 c).after 11 t = k0_pay5 (ADY (pin m c) 3) (pin m c 11).hdy := by dsimp only [dats]
theorem after_12 (c : Dev nD) (t : Fin cfg0.N) : (dats m 0 c).after 12 t = k0_pay41 (SX (pin m c) t.val) k0_pay39 := by dsimp only [dats]
theorem after_13 (c : Dev nD) (t : Fin cfg0.N) : (dats m 0 c).after 13 t = k0_pay7 (pin m c 0).hx := by dsimp only [dats]
theorem after_14 (c : Dev nD) (t : Fin cfg0.N) : (dats m 0 c).after 14 t = k0_pay29 (pin m c (min t.val 3)).w (SW (pin m c) 4) := by dsimp only [dats]
theorem after_15 (c : Dev nD) (t : Fin cfg0.N) : (dats m 0 c).after 15 t = k0_pay13 (k0_pay12 (pin m c 0).hw) 127#32 := by dsimp only [dats]
theorem after_16 (c : Dev nD) (t : Fin cfg0.N) : (dats m 0 c).after 16 t = DQ (pin m c) (t.val / 4) := by dsimp only [dats]
theorem after_17 (c : Dev nD) (t : Fin cfg0.N) : (dats m 0 c).after 17 t = k0_pay21 (k0_pay16 (pin m c 0).hdy) (k0_pay17 (pin m c 0).hdy) k0_pay18 k0_pay19 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## At which points a result window is written and written back -/

theorem idle_6 : ∀ t : Fin cfg0.N, cfg0.idle 6 (cfg0.grid.coords t) = (!decide (t.val % 4 = 3)) :=
  (by decide +kernel : ∀ t : Fin grid0.N, idle0 6 (grid0.coords t) = (!decide (t.val % 4 = 3)))
theorem flush_6 : ∀ t : Fin cfg0.N, (cfg0.win 6).flush t = decide (t.val % 4 = 3) :=
  (by decide +kernel : ∀ t : Fin grid0.N, win0_6.flush t = decide (t.val % 4 = 3))
theorem idle_7 : ∀ t : Fin cfg0.N, cfg0.idle 7 (cfg0.grid.coords t) = (false) :=
  (by decide +kernel : ∀ t : Fin grid0.N, idle0 7 (grid0.coords t) = (false))
theorem flush_7 : ∀ t : Fin cfg0.N, (cfg0.win 7).flush t = true :=
  (by decide +kernel : ∀ t : Fin grid0.N, win0_7.flush t = true)
theorem idle_8 : ∀ t : Fin cfg0.N, cfg0.idle 8 (cfg0.grid.coords t) = (!decide (8 ≤ t.val)) :=
  (by decide +kernel : ∀ t : Fin grid0.N, idle0 8 (grid0.coords t) = (!decide (8 ≤ t.val)))
theorem flush_8 : ∀ t : Fin cfg0.N, (cfg0.win 8).flush t = decide (8 ≤ t.val) :=
  (by decide +kernel : ∀ t : Fin grid0.N, win0_8.flush t = decide (8 ≤ t.val))
theorem idle_9 : ∀ t : Fin cfg0.N, cfg0.idle 9 (cfg0.grid.coords t) = (!decide (t.val = 11)) :=
  (by decide +kernel : ∀ t : Fin grid0.N, idle0 9 (grid0.coords t) = (!decide (t.val = 11)))
theorem flush_9 : ∀ t : Fin cfg0.N, (cfg0.win 9).flush t = decide (t.val = 11) :=
  (by decide +kernel : ∀ t : Fin grid0.N, win0_9.flush t = decide (t.val = 11))
theorem idle_10 : ∀ t : Fin cfg0.N, cfg0.idle 10 (cfg0.grid.coords t) = (!decide (t.val = 11)) :=
  (by decide +kernel : ∀ t : Fin grid0.N, idle0 10 (grid0.coords t) = (!decide (t.val = 11)))
theorem flush_10 : ∀ t : Fin cfg0.N, (cfg0.win 10).flush t = decide (t.val = 11) :=
  (by decide +kernel : ∀ t : Fin grid0.N, win0_10.flush t = decide (t.val = 11))
theorem idle_11 : ∀ t : Fin cfg0.N, cfg0.idle 11 (cfg0.grid.coords t) = (!decide (t.val = 11)) :=
  (by decide +kernel : ∀ t : Fin grid0.N, idle0 11 (grid0.coords t) = (!decide (t.val = 11)))
theorem flush_11 : ∀ t : Fin cfg0.N, (cfg0.win 11).flush t = decide (t.val = 11) :=
  (by decide +kernel : ∀ t : Fin grid0.N, win0_11.flush t = decide (t.val = 11))
theorem idle_12 : ∀ t : Fin cfg0.N, cfg0.idle 12 (cfg0.grid.coords t) = (false) :=
  (by decide +kernel : ∀ t : Fin grid0.N, idle0 12 (grid0.coords t) = (false))
theorem flush_12 : ∀ t : Fin cfg0.N, (cfg0.win 12).flush t = true :=
  (by decide +kernel : ∀ t : Fin grid0.N, win0_12.flush t = true)
theorem idle_13 : ∀ t : Fin cfg0.N, cfg0.idle 13 (cfg0.grid.coords t) = (!decide (t.val = 0)) :=
  (by decide +kernel : ∀ t : Fin grid0.N, idle0 13 (grid0.coords t) = (!decide (t.val = 0)))
theorem flush_13 : ∀ t : Fin cfg0.N, (cfg0.win 13).flush t = decide (t.val = 11) :=
  (by decide +kernel : ∀ t : Fin grid0.N, win0_13.flush t = decide (t.val = 11))
theorem idle_14 : ∀ t : Fin cfg0.N, cfg0.idle 14 (cfg0.grid.coords t) = (!decide (t.val < 4)) :=
  (by decide +kernel : ∀ t : Fin grid0.N, idle0 14 (grid0.coords t) = (!decide (t.val < 4)))
theorem flush_14 : ∀ t : Fin cfg0.N, (cfg0.win 14).flush t = decide (t.val < 3 ∨ t.val = 11) :=
  (by decide +kernel : ∀ t : Fin grid0.N, win0_14.flush t = decide (t.val < 3 ∨ t.val = 11))
theorem idle_15 : ∀ t : Fin cfg0.N, cfg0.idle 15 (cfg0.grid.coords t) = (!decide (t.val = 0)) :=
  (by decide +kernel : ∀ t : Fin grid0.N, idle0 15 (grid0.coords t) = (!decide (t.val = 0)))
theorem flush_15 : ∀ t : Fin cfg0.N, (cfg0.win 15).flush t = decide (t.val = 11) :=
  (by decide +kernel : ∀ t : Fin grid0.N, win0_15.flush t = decide (t.val = 11))
theorem idle_16 : ∀ t : Fin cfg0.N, cfg0.idle 16 (cfg0.grid.coords t) = (!decide (t.val % 4 = 0)) :=
  (by decide +kernel : ∀ t : Fin grid0.N, idle0 16 (grid0.coords t) = (!decide (t.val % 4 = 0)))
theorem flush_16 : ∀ t : Fin cfg0.N, (cfg0.win 16).flush t = decide (t.val % 4 = 3) :=
  (by decide +kernel : ∀ t : Fin grid0.N, win0_16.flush t = decide (t.val % 4 = 3))
theorem idle_17 : ∀ t : Fin cfg0.N, cfg0.idle 17 (cfg0.grid.coords t) = (!decide (t.val = 0)) :=
  (by decide +kernel : ∀ t : Fin grid0.N, idle0 17 (grid0.coords t) = (!decide (t.val = 0)))
theorem flush_17 : ∀ t : Fin cfg0.N, (cfg0.win 17).flush t = decide (t.val = 11) :=
  (by decide +kernel : ∀ t : Fin grid0.N, win0_17.flush t = decide (t.val = 11))
theorem fresh_13 (t : Fin cfg0.N) : cfg0.fresh 13 t.val = decide (t.val % 12 = 0) :=
  cfg0.fresh_tab 13 (fun n => decide (n % 12 = 0)) rfl (fun t => by
    rw [flush_13, idle_13]
    exact (by decide : ∀ t : Fin 12, decide ((t.val + 1) % 12 = 0) = (decide (t.val = 11) || ((!decide (t.val = 0)) && decide (t.val % 12 = 0)))) t) t.val (Nat.le_of_lt t.isLt)
theorem fresh_14 (t : Fin cfg0.N) : cfg0.fresh 14 t.val = decide (t.val < 4 ∨ t.val = 12) :=
  cfg0.fresh_tab 14 (fun n => decide (n < 4 ∨ n = 12)) rfl (fun t => by
    rw [flush_14, idle_14]
    exact (by decide : ∀ t : Fin 12, decide ((t.val + 1) < 4 ∨ (t.val + 1) = 12) = (decide (t.val < 3 ∨ t.val = 11) || ((!decide (t.val < 4)) && decide (t.val < 4 ∨ t.val = 12)))) t) t.val (Nat.le_of_lt t.isLt)
theorem fresh_15 (t : Fin cfg0.N) : cfg0.fresh 15 t.val = decide (t.val % 12 = 0) :=
  cfg0.fresh_tab 15 (fun n => decide (n % 12 = 0)) rfl (fun t => by
    rw [flush_15, idle_15]
    exact (by decide : ∀ t : Fin 12, decide ((t.val + 1) % 12 = 0) = (decide (t.val = 11) || ((!decide (t.val = 0)) && decide (t.val % 12 = 0)))) t) t.val (Nat.le_of_lt t.isLt)
theorem fresh_16 (t : Fin cfg0.N) : cfg0.fresh 16 t.val = decide (t.val % 4 = 0) :=
  cfg0.fresh_tab 16 (fun n => decide (n % 4 = 0)) rfl (fun t => by
    rw [flush_16, idle_16]
    exact (by decide : ∀ t : Fin 12, decide ((t.val + 1) % 4 = 0) = (decide (t.val % 4 = 3) || ((!decide (t.val % 4 = 0)) && decide (t.val % 4 = 0)))) t) t.val (Nat.le_of_lt t.isLt)
theorem fresh_17 (t : Fin cfg0.N) : cfg0.fresh 17 t.val = decide (t.val % 12 = 0) :=
  cfg0.fresh_tab 17 (fun n => decide (n % 12 = 0)) rfl (fun t => by
    rw [flush_17, idle_17]
    exact (by decide : ∀ t : Fin 12, decide ((t.val + 1) % 12 = 0) = (decide (t.val = 11) || ((!decide (t.val = 0)) && decide (t.val % 12 = 0)))) t) t.val (Nat.le_of_lt t.isLt)

/-! ## What the body finds in the result windows it reads back or leaves as found -/

theorem before_13 (c : Dev nD) (t : Fin cfg0.N) (d) : (dats m 0 c).before 13 t d
    = if cfg0.fresh 13 t.val then d else (dats m 0 c).after 13 ⟨t.val - 1, Nat.lt_of_le_of_lt (Nat.sub_le _ _) t.isLt⟩ :=
  (dats m 0 c).before_out_traj 13 rfl (fun _ _ => rfl) (fun t ht hi _ => by
      rw [after_13, after_13]) t.val t rfl d
theorem before_14 (c : Dev nD) (t : Fin cfg0.N) (d) : (dats m 0 c).before 14 t d
    = if cfg0.fresh 14 t.val then d else (dats m 0 c).after 14 ⟨t.val - 1, Nat.lt_of_le_of_lt (Nat.sub_le _ _) t.isLt⟩ :=
  (dats m 0 c).before_out_traj 14 rfl (fun _ _ => rfl) (fun t ht hi _ => by
      rw [after_14, after_14]
      rw [idle_14] at hi
      rw [show min t.val 3 = 3 by simp at hi; omega, show min (t.val - 1) 3 = 3 by simp at hi; omega]) t.val t rfl d
theorem before_15 (c : Dev nD) (t : Fin cfg0.N) (d) : (dats m 0 c).before 15 t d
    = if cfg0.fresh 15 t.val then d else (dats m 0 c).after 15 ⟨t.val - 1, Nat.lt_of_le_of_lt (Nat.sub_le _ _) t.isLt⟩ :=
  (dats m 0 c).before_out_traj 15 rfl (fun _ _ => rfl) (fun t ht hi _ => by
      rw [after_15, after_15]) t.val t rfl d
theorem before_16 (c : Dev nD) (t : Fin cfg0.N) (d) : (dats m 0 c).before 16 t d
    = if cfg0.fresh 16 t.val then d else (dats m 0 c).after 16 ⟨t.val - 1, Nat.lt_of_le_of_lt (Nat.sub_le _ _) t.isLt⟩ :=
  (dats m 0 c).before_out_traj 16 rfl (fun _ _ => rfl) (fun t ht hi _ => by
      rw [after_16, after_16]
      rw [idle_16] at hi
      rw [show (t.val - 1) / 4 = t.val / 4 by simp at hi; omega]) t.val t rfl d
theorem before_17 (c : Dev nD) (t : Fin cfg0.N) (d) : (dats m 0 c).before 17 t d
    = if cfg0.fresh 17 t.val then d else (dats m 0 c).after 17 ⟨t.val - 1, Nat.lt_of_le_of_lt (Nat.sub_le _ _) t.isLt⟩ :=
  (dats m 0 c).before_out_traj 17 rfl (fun _ _ => rfl) (fun t ht hi _ => by
      rw [after_17, after_17]) t.val t rfl d

/-- What a window's buffer may hold after the body's run at a point. -/
def Left (c : Dev nD) (w : Fin cfg0.W) (t : Fin cfg0.N) (X : (cfg0.win w).block.Idx → Elt F (cfg0.win w).elt) : Prop :=
  match cfg0.idle w (cfg0.grid.coords t) with
  | true => match (cfg0.win w).flush t with
    | false => ∃ d, X = (dats m 0 c).before w t d
    | true => X = (dats m 0 c).after w t
  | false => X = (dats m 0 c).after w t

/-- What a window's buffer is returned at. -/
def leftAt (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem owns_left (c : Dev nD) (w : Fin cfg0.W) (t : Fin cfg0.N) (X) (h : Left m c w t X) :
    (owns (c : Thread nD τ) ((cfg0.win w).stage (cfg0.slots t w)) fullShare X : sProp 𝕄) ⊢ leftAt m c w t := by
  unfold Left at h
  unfold leftAt
  revert h
  cases cfg0.idle w (cfg0.grid.coords t)
  · intro h; rw [h]
  · cases (cfg0.win w).flush t
    · rintro ⟨d, rfl⟩
      iintro H
      iexists d; iexact H
    · intro h; rw [h]

theorem left_of_eq (c : Dev nD) (w : Fin cfg0.W) (t : Fin cfg0.N) (X) (h : X = (dats m 0 c).after w t) (hi : cfg0.idle w (cfg0.grid.coords t) = false ∨ (cfg0.win w).flush t = true) : Left m c w t X := by
  unfold Left
  rcases hi with hi | hi
  · rw [hi]; exact h
  · rw [hi]; cases cfg0.idle w (cfg0.grid.coords t) <;> exact h
theorem left_of_found (c : Dev nD) (w : Fin cfg0.W) (t : Fin cfg0.N) (X) (d) (h : X = (dats m 0 c).before w t d) (hi : cfg0.idle w (cfg0.grid.coords t) = true)
    (hf : (cfg0.win w).flush t = false) : Left m c w t X := by
  unfold Left; rw [hi, hf]; exact ⟨d, h⟩

section
variable {m} {c : Dev nD} {t : Fin cfg0.N} {M : Mem F} (hG : Good (pin m c) t.val M) {d : Mem F}

/-- The buffer of the coded dy is read back within a row of the grid. -/
theorem found_dyq {d} (h16 : M.o18 = (dats m 0 c).before 16 t d) (h : t.val % 4 ≠ 0) : M.o18 = DQ (pin m c) (t.val / 4) := by
  rw [h16, before_16, fresh_16, decide_eq_false h, if_neg Bool.false_ne_true, after_16, show (t.val - 1) / 4 = t.val / 4 by omega]
include hG
theorem left_6 {d} (hd : M.o8 = (dats m 0 c).before 6 t d) : Left m c 6 t (stepAt (pin m c) t.val M).o8 := by
  by_cases h : t.val % 4 = 3
  · exact left_of_eq m c 6 t _ ((out_y t.isLt hG h).trans (after_6 m c t).symm) (.inr (by rw [flush_6]; exact decide_eq_true h))
  · refine left_of_found m c 6 t _ d ?_ (by rw [idle_6, decide_eq_false h]; rfl) (by rw [flush_6]; exact decide_eq_false h)
    refine Eq.trans ?_ hd
    show (bif decide (t.val % 4 = 3) then _ else _) = _
    rw [decide_eq_false h, cond_false]
theorem left_8 {d16} (h16 : M.o18 = (dats m 0 c).before 16 t d16) {d} (hd : M.o10 = (dats m 0 c).before 8 t d) : Left m c 8 t (stepAt (pin m c) t.val M).o10 := by
  by_cases h : 8 ≤ t.val
  · exact left_of_eq m c 8 t _ ((out_dw t.isLt hG (found_dyq h16) h).trans (after_8 m c t).symm) (.inr (by rw [flush_8]; exact decide_eq_true h))
  · refine left_of_found m c 8 t _ d ?_ (by rw [idle_8, decide_eq_false h]; rfl) (by rw [flush_8]; exact decide_eq_false h)
    refine Eq.trans ?_ hd
    show (bif decide (8 ≤ t.val) then _ else _) = _
    rw [decide_eq_false h, cond_false]
theorem left_9 {d} (hd : M.o11 = (dats m 0 c).before 9 t d) : Left m c 9 t (stepAt (pin m c) t.val M).o11 := by
  by_cases h : t.val = 11
  · exact left_of_eq m c 9 t _ ((out_nhx hG h).trans (after_9 m c t).symm) (.inr (by rw [flush_9]; exact decide_eq_true h))
  · refine left_of_found m c 9 t _ d ?_ (by rw [idle_9, decide_eq_false h]; rfl) (by rw [flush_9]; exact decide_eq_false h)
    refine Eq.trans ?_ hd
    show (bif decide (t.val = 11) then _ else _) = _
    rw [decide_eq_false h, cond_false]
theorem left_10 {d} (hd : M.o12 = (dats m 0 c).before 10 t d) : Left m c 10 t (stepAt (pin m c) t.val M).o12 := by
  by_cases h : t.val = 11
  · exact left_of_eq m c 10 t _ ((out_nhw hG h).trans (after_10 m c t).symm) (.inr (by rw [flush_10]; exact decide_eq_true h))
  · refine left_of_found m c 10 t _ d ?_ (by rw [idle_10, decide_eq_false h]; rfl) (by rw [flush_10]; exact decide_eq_false h)
    refine Eq.trans ?_ hd
    show (bif decide (t.val = 11) then _ else _) = _
    rw [decide_eq_false h, cond_false]
theorem left_11 {d} (hd : M.o13 = (dats m 0 c).before 11 t d) : Left m c 11 t (stepAt (pin m c) t.val M).o13 := by
  by_cases h : t.val = 11
  · exact left_of_eq m c 11 t _ ((out_nhdy hG h).trans (after_11 m c t).symm) (.inr (by rw [flush_11]; exact decide_eq_true h))
  · refine left_of_found m c 11 t _ d ?_ (by rw [idle_11, decide_eq_false h]; rfl) (by rw [flush_11]; exact decide_eq_false h)
    refine Eq.trans ?_ hd
    show (bif decide (t.val = 11) then _ else _) = _
    rw [decide_eq_false h, cond_false]
theorem left_7 {d} (h16 : M.o18 = (dats m 0 c).before 16 t d) : Left m c 7 t (stepAt (pin m c) t.val M).o9 :=
  left_of_eq m c 7 t _ ((out_dx t.isLt hG (found_dyq h16)).trans (after_7 m c t).symm) (.inl (idle_7 t))
theorem left_12 : Left m c 12 t (stepAt (pin m c) t.val M).o14 :=
  left_of_eq m c 12 t _ ((out_xq hG).trans (after_12 m c t).symm) (.inl (idle_12 t))
theorem left_16 {d} (h16 : M.o18 = (dats m 0 c).before 16 t d) : Left m c 16 t (stepAt (pin m c) t.val M).o18 := by
  by_cases h : t.val % 4 = 0
  · exact left_of_eq m c 16 t _ ((out_dyq hG (found_dyq h16)).trans (after_16 m c t).symm) (.inl (by rw [idle_16, decide_eq_true h]; rfl))
  by_cases h3 : t.val % 4 = 3
  · exact left_of_eq m c 16 t _ ((out_dyq hG (found_dyq h16)).trans (after_16 m c t).symm) (.inr (by rw [flush_16]; exact decide_eq_true h3))
  refine left_of_found m c 16 t _ d ?_ (by rw [idle_16, decide_eq_false h]; rfl) (by rw [flush_16]; exact decide_eq_false h3)
  refine Eq.trans ?_ h16
  show (bif decide (t.val % 4 = 0) then _ else _) = _
  rw [decide_eq_false h, cond_false]
theorem left_14 {d} (hd : M.o16 = (dats m 0 c).before 14 t d) : Left m c 14 t (stepAt (pin m c) t.val M).o16 := by
  by_cases h : t.val < 4
  · refine left_of_eq m c 14 t _ ((out_wq hG h).trans ?_) (.inl (by rw [idle_14, decide_eq_true h]; rfl))
    rw [after_14, show min t.val 3 = t.val by omega]
  have e : (stepAt (pin m c) t.val M).o16 = M.o16 := by
    show (bif decide (t.val < 4) then _ else _) = _
    rw [decide_eq_false h, cond_false]
  by_cases h3 : t.val = 11
  · refine left_of_eq m c 14 t _ (e.trans (hd.trans ?_)) (.inr (by rw [flush_14]; exact decide_eq_true (.inr h3)))
    rw [before_14, fresh_14, decide_eq_false (by omega), if_neg Bool.false_ne_true, after_14, after_14, show min t.val 3 = 3 by omega,
      show min (t.val - 1) 3 = 3 by omega]
  · exact left_of_found m c 14 t _ d (e.trans hd) (by rw [idle_14, decide_eq_false h]; rfl) (by rw [flush_14]; exact decide_eq_false (by omega))
omit hG in
theorem left_13 {d} (hd : M.o15 = (dats m 0 c).before 13 t d) : Left m c 13 t (stepAt (pin m c) t.val M).o15 := by
  by_cases h : t.val = 0
  · refine left_of_eq m c 13 t _ (Eq.trans ?_ (after_13 m c t).symm) (.inl (by rw [idle_13, decide_eq_true h]; rfl))
    show (bif decide (t.val = 0) then _ else _) = _
    rw [decide_eq_true h, cond_true, h]
  have e : (stepAt (pin m c) t.val M).o15 = M.o15 := by
    show (bif decide (t.val = 0) then _ else _) = _
    rw [decide_eq_false h, cond_false]
  by_cases h3 : t.val = 11
  · refine left_of_eq m c 13 t _ (e.trans (hd.trans ?_)) (.inr (by rw [flush_13]; exact decide_eq_true h3))
    rw [before_13, fresh_13, decide_eq_false (by omega), if_neg Bool.false_ne_true, after_13, after_13]
  · exact left_of_found m c 13 t _ d (e.trans hd) (by rw [idle_13, decide_eq_false h]; rfl) (by rw [flush_13]; exact decide_eq_false h3)
omit hG in
theorem left_15 {d} (hd : M.o17 = (dats m 0 c).before 15 t d) : Left m c 15 t (stepAt (pin m c) t.val M).o17 := by
  by_cases h : t.val = 0
  · refine left_of_eq m c 15 t _ (Eq.trans ?_ (after_15 m c t).symm) (.inl (by rw [idle_15, decide_eq_true h]; rfl))
    show (bif decide (t.val = 0) then _ else _) = _
    rw [decide_eq_true h, cond_true, h]
  have e : (stepAt (pin m c) t.val M).o17 = M.o17 := by
    show (bif decide (t.val = 0) then _ else _) = _
    rw [decide_eq_false h, cond_false]
  by_cases h3 : t.val = 11
  · refine left_of_eq m c 15 t _ (e.trans (hd.trans ?_)) (.inr (by rw [flush_15]; exact decide_eq_true h3))
    rw [before_15, fresh_15, decide_eq_false (by omega), if_neg Bool.false_ne_true, after_15, after_15]
  · exact left_of_found m c 15 t _ d (e.trans hd) (by rw [idle_15, decide_eq_false h]; rfl) (by rw [flush_15]; exact decide_eq_false h3)
omit hG in
theorem left_17 {d} (hd : M.o19 = (dats m 0 c).before 17 t d) : Left m c 17 t (stepAt (pin m c) t.val M).o19 := by
  by_cases h : t.val = 0
  · refine left_of_eq m c 17 t _ (Eq.trans ?_ (after_17 m c t).symm) (.inl (by rw [idle_17, decide_eq_true h]; rfl))
    show (bif decide (t.val = 0) then _ else _) = _
    rw [decide_eq_true h, cond_true, h]
  have e : (stepAt (pin m c) t.val M).o19 = M.o19 := by
    show (bif decide (t.val = 0) then _ else _) = _
    rw [decide_eq_false h, cond_false]
  by_cases h3 : t.val = 11
  · refine left_of_eq m c 17 t _ (e.trans (hd.trans ?_)) (.inr (by rw [flush_17]; exact decide_eq_true h3))
    rw [before_17, fresh_17, decide_eq_false (by omega), if_neg Bool.false_ne_true, after_17, after_17]
  · exact left_of_found m c 17 t _ d (e.trans hd) (by rw [idle_17, decide_eq_false h]; rfl) (by rw [flush_17]; exact decide_eq_false h3)
end

end Cert.KernelIdeal.Hand
end
-- ==== Proof.KernelIdeal.Body0.lean ====
/-
  The body's runs: at each kind of grid point the kernel does what `step` says.
-/
module
public import proofs.«01_k».proof.Proof.KernelIdeal.Step
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at the first point. -/
theorem body_first (c : Dev nD) (E : Set ℕ) (i : grid0.Coords) (hc1 : (k0_cond1 i = 1#1)) (hc2 : (k0_cond2 i = 1#1)) (hc3 : (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step true true true false false false i p M).o8 ∗ owns (c : Thread nD τ) arg9 fullShare (step true true true false false false i p M).o9 ∗ owns (c : Thread nD τ) arg10 fullShare (step true true true false false false i p M).o10 ∗ owns (c : Thread nD τ) arg11 fullShare (step true true true false false false i p M).o11 ∗ owns (c : Thread nD τ) arg12 fullShare (step true true true false false false i p M).o12 ∗ owns (c : Thread nD τ) arg13 fullShare (step true true true false false false i p M).o13 ∗ owns (c : Thread nD τ) arg14 fullShare (step true true true false false false i p M).o14 ∗ owns (c : Thread nD τ) arg15 fullShare (step true true true false false false i p M).o15 ∗ owns (c : Thread nD τ) arg16 fullShare (step true true true false false false i p M).o16 ∗ owns (c : Thread nD τ) arg17 fullShare (step true true true false false false i p M).o17 ∗ owns (c : Thread nD τ) arg18 fullShare (step true true true false false false i p M).o18 ∗ owns (c : Thread nD τ) arg19 fullShare (step true true true false false false i p M).o19 ∗ owns (c : Thread nD τ) arg20 fullShare (step true true true false false false i p M).m20 ∗ owns (c : Thread nD τ) arg21 fullShare (step true true true false false false i p M).m21 ∗ owns (c : Thread nD τ) arg22 fullShare (step true true true false false false i p M).m22 ∗ owns (c : Thread nD τ) arg23 fullShare (step true true true false false false i p M).m23 ∗ owns (c : Thread nD τ) arg24 fullShare (step true true true false false false i p M).m24 ∗ owns (c : Thread nD τ) arg25 fullShare (step true true true false false false i p M).m25 ∗ owns (c : Thread nD τ) arg26 fullShare (step true true true false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists _; isplitr
    swap; · iexact H15
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H16]
  · iexists _; isplitr
    swap; · iexact H16
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H17]
  · iexists _; isplitr
    swap; · iexact H17
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H18]
  · iexists _; isplitr
    swap; · iexact H18
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H19]
  · iexists _; isplitr
    swap; · iexact H19
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H20]
  · iexists _; isplitr
    swap; · iexact H20
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists _; isplitr
    swap; · iexact H24
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H25]
  · iexists _; isplitr
    swap; · iexact H25
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  · iexists _; isplitr
    swap; · iexact H26
    ipureintro
    funext j
    obtain ⟨k, rfl⟩ := eq_wordAt j
    refine (read_six _ _ _ _ _ _ _ _ _ _ _ _ _ _ k).trans ?_
    sl_open_run
    try delta k0_off1
    try delta k0_off2
    try delta k0_off3
    try simp (proj := false) only [readAt_whole, View.readCov_cons_toLoadRect, readAt_word0, readAt_word1, readAt_word2, readAt_word3, readAt_word4, readAt_word5, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    rfl

end Cert.KernelIdeal.Hand
end
-- ==== Proof.KernelIdeal.Body1.lean ====
/-
  The body's runs: at each kind of grid point the kernel does what `step` says.
-/
module
public import proofs.«01_k».proof.Proof.KernelIdeal.Step
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at a point of the first round away from its ends. -/
theorem body_r0mid (c : Dev nD) (E : Set ℕ) (i : grid0.Coords) (hc1 : ¬ (k0_cond1 i = 1#1)) (hc2 : (k0_cond2 i = 1#1)) (hc3 : ¬ (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false true false false false false i p M).o8 ∗ owns (c : Thread nD τ) arg9 fullShare (step false true false false false false i p M).o9 ∗ owns (c : Thread nD τ) arg10 fullShare (step false true false false false false i p M).o10 ∗ owns (c : Thread nD τ) arg11 fullShare (step false true false false false false i p M).o11 ∗ owns (c : Thread nD τ) arg12 fullShare (step false true false false false false i p M).o12 ∗ owns (c : Thread nD τ) arg13 fullShare (step false true false false false false i p M).o13 ∗ owns (c : Thread nD τ) arg14 fullShare (step false true false false false false i p M).o14 ∗ owns (c : Thread nD τ) arg15 fullShare (step false true false false false false i p M).o15 ∗ owns (c : Thread nD τ) arg16 fullShare (step false true false false false false i p M).o16 ∗ owns (c : Thread nD τ) arg17 fullShare (step false true false false false false i p M).o17 ∗ owns (c : Thread nD τ) arg18 fullShare (step false true false false false false i p M).o18 ∗ owns (c : Thread nD τ) arg19 fullShare (step false true false false false false i p M).o19 ∗ owns (c : Thread nD τ) arg20 fullShare (step false true false false false false i p M).m20 ∗ owns (c : Thread nD τ) arg21 fullShare (step false true false false false false i p M).m21 ∗ owns (c : Thread nD τ) arg22 fullShare (step false true false false false false i p M).m22 ∗ owns (c : Thread nD τ) arg23 fullShare (step false true false false false false i p M).m23 ∗ owns (c : Thread nD τ) arg24 fullShare (step false true false false false false i p M).m24 ∗ owns (c : Thread nD τ) arg25 fullShare (step false true false false false false i p M).m25 ∗ owns (c : Thread nD τ) arg26 fullShare (step false true false false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists _; isplitr
    swap; · iexact H16
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists _; isplitr
    swap; · iexact H24
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H25]
  · iexists f25; isplitr; · ipureintro; rfl
    iexact H25
  · iexists f26; isplitr; · ipureintro; rfl
    iexact H26

/-- The body at the last point of the first round. -/
theorem body_r0end (c : Dev nD) (E : Set ℕ) (i : grid0.Coords) (hc1 : ¬ (k0_cond1 i = 1#1)) (hc2 : (k0_cond2 i = 1#1)) (hc3 : ¬ (k0_cond3 i = 1#1)) (hc4 : ¬ (k0_cond4 i = 1#1)) (hc5 : (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false true false false true false i p M).o8 ∗ owns (c : Thread nD τ) arg9 fullShare (step false true false false true false i p M).o9 ∗ owns (c : Thread nD τ) arg10 fullShare (step false true false false true false i p M).o10 ∗ owns (c : Thread nD τ) arg11 fullShare (step false true false false true false i p M).o11 ∗ owns (c : Thread nD τ) arg12 fullShare (step false true false false true false i p M).o12 ∗ owns (c : Thread nD τ) arg13 fullShare (step false true false false true false i p M).o13 ∗ owns (c : Thread nD τ) arg14 fullShare (step false true false false true false i p M).o14 ∗ owns (c : Thread nD τ) arg15 fullShare (step false true false false true false i p M).o15 ∗ owns (c : Thread nD τ) arg16 fullShare (step false true false false true false i p M).o16 ∗ owns (c : Thread nD τ) arg17 fullShare (step false true false false true false i p M).o17 ∗ owns (c : Thread nD τ) arg18 fullShare (step false true false false true false i p M).o18 ∗ owns (c : Thread nD τ) arg19 fullShare (step false true false false true false i p M).o19 ∗ owns (c : Thread nD τ) arg20 fullShare (step false true false false true false i p M).m20 ∗ owns (c : Thread nD τ) arg21 fullShare (step false true false false true false i p M).m21 ∗ owns (c : Thread nD τ) arg22 fullShare (step false true false false true false i p M).m22 ∗ owns (c : Thread nD τ) arg23 fullShare (step false true false false true false i p M).m23 ∗ owns (c : Thread nD τ) arg24 fullShare (step false true false false true false i p M).m24 ∗ owns (c : Thread nD τ) arg25 fullShare (step false true false false true false i p M).m25 ∗ owns (c : Thread nD τ) arg26 fullShare (step false true false false true false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists _; isplitr
    swap; · iexact H16
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists _; isplitr
    swap; · iexact H24
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H25]
  · iexists f25; isplitr; · ipureintro; rfl
    iexact H25
  · iexists f26; isplitr; · ipureintro; rfl
    iexact H26

end Cert.KernelIdeal.Hand
end
-- ==== Proof.KernelIdeal.Body2.lean ====
/-
  The body's runs: at each kind of grid point the kernel does what `step` says.
-/
module
public import proofs.«01_k».proof.Proof.KernelIdeal.Step
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at the first point of the middle round. -/
theorem body_r1start (c : Dev nD) (E : Set ℕ) (i : grid0.Coords) (hc1 : ¬ (k0_cond1 i = 1#1)) (hc2 : ¬ (k0_cond2 i = 1#1)) (hc3 : (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false true false false false i p M).o8 ∗ owns (c : Thread nD τ) arg9 fullShare (step false false true false false false i p M).o9 ∗ owns (c : Thread nD τ) arg10 fullShare (step false false true false false false i p M).o10 ∗ owns (c : Thread nD τ) arg11 fullShare (step false false true false false false i p M).o11 ∗ owns (c : Thread nD τ) arg12 fullShare (step false false true false false false i p M).o12 ∗ owns (c : Thread nD τ) arg13 fullShare (step false false true false false false i p M).o13 ∗ owns (c : Thread nD τ) arg14 fullShare (step false false true false false false i p M).o14 ∗ owns (c : Thread nD τ) arg15 fullShare (step false false true false false false i p M).o15 ∗ owns (c : Thread nD τ) arg16 fullShare (step false false true false false false i p M).o16 ∗ owns (c : Thread nD τ) arg17 fullShare (step false false true false false false i p M).o17 ∗ owns (c : Thread nD τ) arg18 fullShare (step false false true false false false i p M).o18 ∗ owns (c : Thread nD τ) arg19 fullShare (step false false true false false false i p M).o19 ∗ owns (c : Thread nD τ) arg20 fullShare (step false false true false false false i p M).m20 ∗ owns (c : Thread nD τ) arg21 fullShare (step false false true false false false i p M).m21 ∗ owns (c : Thread nD τ) arg22 fullShare (step false false true false false false i p M).m22 ∗ owns (c : Thread nD τ) arg23 fullShare (step false false true false false false i p M).m23 ∗ owns (c : Thread nD τ) arg24 fullShare (step false false true false false false i p M).m24 ∗ owns (c : Thread nD τ) arg25 fullShare (step false false true false false false i p M).m25 ∗ owns (c : Thread nD τ) arg26 fullShare (step false false true false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists _; isplitr
    swap; · iexact H25
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  · iexists f26; isplitr; · ipureintro; rfl
    iexact H26

/-- The body at a point of the middle round away from its ends. -/
theorem body_r1mid (c : Dev nD) (E : Set ℕ) (i : grid0.Coords) (hc1 : ¬ (k0_cond1 i = 1#1)) (hc2 : ¬ (k0_cond2 i = 1#1)) (hc3 : ¬ (k0_cond3 i = 1#1)) (hc4 : ¬ (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false false false false i p M).o8 ∗ owns (c : Thread nD τ) arg9 fullShare (step false false false false false false i p M).o9 ∗ owns (c : Thread nD τ) arg10 fullShare (step false false false false false false i p M).o10 ∗ owns (c : Thread nD τ) arg11 fullShare (step false false false false false false i p M).o11 ∗ owns (c : Thread nD τ) arg12 fullShare (step false false false false false false i p M).o12 ∗ owns (c : Thread nD τ) arg13 fullShare (step false false false false false false i p M).o13 ∗ owns (c : Thread nD τ) arg14 fullShare (step false false false false false false i p M).o14 ∗ owns (c : Thread nD τ) arg15 fullShare (step false false false false false false i p M).o15 ∗ owns (c : Thread nD τ) arg16 fullShare (step false false false false false false i p M).o16 ∗ owns (c : Thread nD τ) arg17 fullShare (step false false false false false false i p M).o17 ∗ owns (c : Thread nD τ) arg18 fullShare (step false false false false false false i p M).o18 ∗ owns (c : Thread nD τ) arg19 fullShare (step false false false false false false i p M).o19 ∗ owns (c : Thread nD τ) arg20 fullShare (step false false false false false false i p M).m20 ∗ owns (c : Thread nD τ) arg21 fullShare (step false false false false false false i p M).m21 ∗ owns (c : Thread nD τ) arg22 fullShare (step false false false false false false i p M).m22 ∗ owns (c : Thread nD τ) arg23 fullShare (step false false false false false false i p M).m23 ∗ owns (c : Thread nD τ) arg24 fullShare (step false false false false false false i p M).m24 ∗ owns (c : Thread nD τ) arg25 fullShare (step false false false false false false i p M).m25 ∗ owns (c : Thread nD τ) arg26 fullShare (step false false false false false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

/-- The body at the last point of the middle round. -/
theorem body_r1end (c : Dev nD) (E : Set ℕ) (i : grid0.Coords) (hc1 : ¬ (k0_cond1 i = 1#1)) (hc2 : ¬ (k0_cond2 i = 1#1)) (hc3 : ¬ (k0_cond3 i = 1#1)) (hc4 : ¬ (k0_cond4 i = 1#1)) (hc5 : (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false false true false i p M).o8 ∗ owns (c : Thread nD τ) arg9 fullShare (step false false false false true false i p M).o9 ∗ owns (c : Thread nD τ) arg10 fullShare (step false false false false true false i p M).o10 ∗ owns (c : Thread nD τ) arg11 fullShare (step false false false false true false i p M).o11 ∗ owns (c : Thread nD τ) arg12 fullShare (step false false false false true false i p M).o12 ∗ owns (c : Thread nD τ) arg13 fullShare (step false false false false true false i p M).o13 ∗ owns (c : Thread nD τ) arg14 fullShare (step false false false false true false i p M).o14 ∗ owns (c : Thread nD τ) arg15 fullShare (step false false false false true false i p M).o15 ∗ owns (c : Thread nD τ) arg16 fullShare (step false false false false true false i p M).o16 ∗ owns (c : Thread nD τ) arg17 fullShare (step false false false false true false i p M).o17 ∗ owns (c : Thread nD τ) arg18 fullShare (step false false false false true false i p M).o18 ∗ owns (c : Thread nD τ) arg19 fullShare (step false false false false true false i p M).o19 ∗ owns (c : Thread nD τ) arg20 fullShare (step false false false false true false i p M).m20 ∗ owns (c : Thread nD τ) arg21 fullShare (step false false false false true false i p M).m21 ∗ owns (c : Thread nD τ) arg22 fullShare (step false false false false true false i p M).m22 ∗ owns (c : Thread nD τ) arg23 fullShare (step false false false false true false i p M).m23 ∗ owns (c : Thread nD τ) arg24 fullShare (step false false false false true false i p M).m24 ∗ owns (c : Thread nD τ) arg25 fullShare (step false false false false true false i p M).m25 ∗ owns (c : Thread nD τ) arg26 fullShare (step false false false false true false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

end Cert.KernelIdeal.Hand
end
-- ==== Proof.KernelIdeal.Body3.lean ====
/-
  The body's runs: at each kind of grid point the kernel does what `step` says.
-/
module
public import proofs.«01_k».proof.Proof.KernelIdeal.Step
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ

/-- The body at the first point of the last round. -/
theorem body_r2start (c : Dev nD) (E : Set ℕ) (i : grid0.Coords) (hc1 : ¬ (k0_cond1 i = 1#1)) (hc2 : ¬ (k0_cond2 i = 1#1)) (hc3 : (k0_cond3 i = 1#1)) (hc4 : (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false true true false false i p M).o8 ∗ owns (c : Thread nD τ) arg9 fullShare (step false false true true false false i p M).o9 ∗ owns (c : Thread nD τ) arg10 fullShare (step false false true true false false i p M).o10 ∗ owns (c : Thread nD τ) arg11 fullShare (step false false true true false false i p M).o11 ∗ owns (c : Thread nD τ) arg12 fullShare (step false false true true false false i p M).o12 ∗ owns (c : Thread nD τ) arg13 fullShare (step false false true true false false i p M).o13 ∗ owns (c : Thread nD τ) arg14 fullShare (step false false true true false false i p M).o14 ∗ owns (c : Thread nD τ) arg15 fullShare (step false false true true false false i p M).o15 ∗ owns (c : Thread nD τ) arg16 fullShare (step false false true true false false i p M).o16 ∗ owns (c : Thread nD τ) arg17 fullShare (step false false true true false false i p M).o17 ∗ owns (c : Thread nD τ) arg18 fullShare (step false false true true false false i p M).o18 ∗ owns (c : Thread nD τ) arg19 fullShare (step false false true true false false i p M).o19 ∗ owns (c : Thread nD τ) arg20 fullShare (step false false true true false false i p M).m20 ∗ owns (c : Thread nD τ) arg21 fullShare (step false false true true false false i p M).m21 ∗ owns (c : Thread nD τ) arg22 fullShare (step false false true true false false i p M).m22 ∗ owns (c : Thread nD τ) arg23 fullShare (step false false true true false false i p M).m23 ∗ owns (c : Thread nD τ) arg24 fullShare (step false false true true false false i p M).m24 ∗ owns (c : Thread nD τ) arg25 fullShare (step false false true true false false i p M).m25 ∗ owns (c : Thread nD τ) arg26 fullShare (step false false true true false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists _; isplitr
    swap; · iexact H10
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists _; isplitr
    swap; · iexact H25
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  · iexists f26; isplitr; · ipureintro; rfl
    iexact H26

/-- The body at a point of the last round away from its ends. -/
theorem body_r2mid (c : Dev nD) (E : Set ℕ) (i : grid0.Coords) (hc1 : ¬ (k0_cond1 i = 1#1)) (hc2 : ¬ (k0_cond2 i = 1#1)) (hc3 : ¬ (k0_cond3 i = 1#1)) (hc4 : (k0_cond4 i = 1#1)) (hc5 : ¬ (k0_cond5 i = 1#1)) (hc6 : ¬ (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false true false false i p M).o8 ∗ owns (c : Thread nD τ) arg9 fullShare (step false false false true false false i p M).o9 ∗ owns (c : Thread nD τ) arg10 fullShare (step false false false true false false i p M).o10 ∗ owns (c : Thread nD τ) arg11 fullShare (step false false false true false false i p M).o11 ∗ owns (c : Thread nD τ) arg12 fullShare (step false false false true false false i p M).o12 ∗ owns (c : Thread nD τ) arg13 fullShare (step false false false true false false i p M).o13 ∗ owns (c : Thread nD τ) arg14 fullShare (step false false false true false false i p M).o14 ∗ owns (c : Thread nD τ) arg15 fullShare (step false false false true false false i p M).o15 ∗ owns (c : Thread nD τ) arg16 fullShare (step false false false true false false i p M).o16 ∗ owns (c : Thread nD τ) arg17 fullShare (step false false false true false false i p M).o17 ∗ owns (c : Thread nD τ) arg18 fullShare (step false false false true false false i p M).o18 ∗ owns (c : Thread nD τ) arg19 fullShare (step false false false true false false i p M).o19 ∗ owns (c : Thread nD τ) arg20 fullShare (step false false false true false false i p M).m20 ∗ owns (c : Thread nD τ) arg21 fullShare (step false false false true false false i p M).m21 ∗ owns (c : Thread nD τ) arg22 fullShare (step false false false true false false i p M).m22 ∗ owns (c : Thread nD τ) arg23 fullShare (step false false false true false false i p M).m23 ∗ owns (c : Thread nD τ) arg24 fullShare (step false false false true false false i p M).m24 ∗ owns (c : Thread nD τ) arg25 fullShare (step false false false true false false i p M).m25 ∗ owns (c : Thread nD τ) arg26 fullShare (step false false false true false false i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists _; isplitr
    swap; · iexact H10
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

/-- The body at the last point. -/
theorem body_last (c : Dev nD) (E : Set ℕ) (i : grid0.Coords) (hc1 : ¬ (k0_cond1 i = 1#1)) (hc2 : ¬ (k0_cond2 i = 1#1)) (hc3 : ¬ (k0_cond3 i = 1#1)) (hc4 : (k0_cond4 i = 1#1)) (hc5 : (k0_cond5 i = 1#1)) (hc6 : (k0_cond6 i = 1#1)) (arg2 : Memref sig .tc .vmem S1x1024x1024 .bf16) (harg2 : arg2.IsWhole) (arg3 : Memref sig .tc .vmem S1024x768 .f32) (harg3 : arg3.IsWhole) (arg4 : Memref sig .tc .vmem S1x1024x768 .bf16) (harg4 : arg4.IsWhole) (arg5 : Memref sig .tc .vmem S1x16 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S128x8x768 .bf16) (harg8 : arg8.IsWhole) (arg9 : Memref sig .tc .vmem S128x8x1024 .bf16) (harg9 : arg9.IsWhole) (arg10 : Memref sig .tc .vmem S1024x768 .f32) (harg10 : arg10.IsWhole) (arg11 : Memref sig .tc .vmem S1x16 .f32) (harg11 : arg11.IsWhole) (arg12 : Memref sig .tc .vmem S1x16 .f32) (harg12 : arg12.IsWhole) (arg13 : Memref sig .tc .vmem S1x16 .f32) (harg13 : arg13.IsWhole) (arg14 : Memref sig .tc .vmem S1x1024x1024 .fp8e4m3) (harg14 : arg14.IsWhole) (arg15 : Memref sig .tc .vmem S1x1 .f32) (harg15 : arg15.IsWhole) (arg16 : Memref sig .tc .vmem S1024x768 .fp8e4m3) (harg16 : arg16.IsWhole) (arg17 : Memref sig .tc .vmem S1x1 .f32) (harg17 : arg17.IsWhole) (arg18 : Memref sig .tc .vmem S1x1024x768 .fp8e5m2) (harg18 : arg18.IsWhole) (arg19 : Memref sig .tc .vmem S1x1 .f32) (harg19 : arg19.IsWhole) (arg20 : Memref sig .tc .vmem S4096x768 .fp8e4m3) (harg20 : arg20.IsWhole) (arg21 : Memref sig .tc .vmem S1024x768 .f32) (harg21 : arg21.IsWhole) (arg22 : Memref sig .tc .vmem S4096x768 .f32) (harg22 : arg22.IsWhole) (arg23 : Memref sig .tc .vmem S16x1024 .bf16) (harg23 : arg23.IsWhole) (arg24 : Memref sig .tc .vmem S8x768 .f32) (harg24 : arg24.IsWhole) (arg25 : Memref sig .tc .vmem S16x768 .bf16) (harg25 : arg25.IsWhole) (arg26 : Memref sig .tc .smem S6 .f32) (harg26 : arg26.IsWhole)
    (p : Inp F) (M : Mem F) (K : PUnit → sProp 𝕄) :
    iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare M.o8 ∗ owns (c : Thread nD τ) arg9 fullShare M.o9 ∗ owns (c : Thread nD τ) arg10 fullShare M.o10 ∗ owns (c : Thread nD τ) arg11 fullShare M.o11 ∗ owns (c : Thread nD τ) arg12 fullShare M.o12 ∗ owns (c : Thread nD τ) arg13 fullShare M.o13 ∗ owns (c : Thread nD τ) arg14 fullShare M.o14 ∗ owns (c : Thread nD τ) arg15 fullShare M.o15 ∗ owns (c : Thread nD τ) arg16 fullShare M.o16 ∗ owns (c : Thread nD τ) arg17 fullShare M.o17 ∗ owns (c : Thread nD τ) arg18 fullShare M.o18 ∗ owns (c : Thread nD τ) arg19 fullShare M.o19 ∗ owns (c : Thread nD τ) arg20 fullShare M.m20 ∗ owns (c : Thread nD τ) arg21 fullShare M.m21 ∗ owns (c : Thread nD τ) arg22 fullShare M.m22 ∗ owns (c : Thread nD τ) arg23 fullShare M.m23 ∗ owns (c : Thread nD τ) arg24 fullShare M.m24 ∗ owns (c : Thread nD τ) arg25 fullShare M.m25 ∗ owns (c : Thread nD τ) arg26 fullShare M.m26
        ∗ (iprop(owns (c : Thread nD τ) arg2 fullShare p.x ∗ owns (c : Thread nD τ) arg3 fullShare p.w ∗ owns (c : Thread nD τ) arg4 fullShare p.dy ∗ owns (c : Thread nD τ) arg5 fullShare p.hx ∗ owns (c : Thread nD τ) arg6 fullShare p.hw ∗ owns (c : Thread nD τ) arg7 fullShare p.hdy ∗ owns (c : Thread nD τ) arg8 fullShare (step false false false true true true i p M).o8 ∗ owns (c : Thread nD τ) arg9 fullShare (step false false false true true true i p M).o9 ∗ owns (c : Thread nD τ) arg10 fullShare (step false false false true true true i p M).o10 ∗ owns (c : Thread nD τ) arg11 fullShare (step false false false true true true i p M).o11 ∗ owns (c : Thread nD τ) arg12 fullShare (step false false false true true true i p M).o12 ∗ owns (c : Thread nD τ) arg13 fullShare (step false false false true true true i p M).o13 ∗ owns (c : Thread nD τ) arg14 fullShare (step false false false true true true i p M).o14 ∗ owns (c : Thread nD τ) arg15 fullShare (step false false false true true true i p M).o15 ∗ owns (c : Thread nD τ) arg16 fullShare (step false false false true true true i p M).o16 ∗ owns (c : Thread nD τ) arg17 fullShare (step false false false true true true i p M).o17 ∗ owns (c : Thread nD τ) arg18 fullShare (step false false false true true true i p M).o18 ∗ owns (c : Thread nD τ) arg19 fullShare (step false false false true true true i p M).o19 ∗ owns (c : Thread nD τ) arg20 fullShare (step false false false true true true i p M).m20 ∗ owns (c : Thread nD τ) arg21 fullShare (step false false false true true true i p M).m21 ∗ owns (c : Thread nD τ) arg22 fullShare (step false false false true true true i p M).m22 ∗ owns (c : Thread nD τ) arg23 fullShare (step false false false true true true i p M).m23 ∗ owns (c : Thread nD τ) arg24 fullShare (step false false false true true true i p M).m24 ∗ owns (c : Thread nD τ) arg25 fullShare (step false false false true true true i p M).m25 ∗ owns (c : Thread nD τ) arg26 fullShare (step false false false true true true i p M).m26) -∗ K PUnit.unit))
      ⊢ wp frame (wpE (defs₀ (F := F)) Variants.none c none) E (cc0_fp8_linear_fwd_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x2, x3, x4, x5, x6, x7⟩ := p
  obtain ⟨x8, x9, x10, x11, x12, x13, x14, x15, x16, x17, x18, x19, x20, x21, x22, x23, x24, x25, x26⟩ := M
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, Hk⟩
  subst hf2 hf3 hf4 hf5 hf6 hf7 hf8 hf9 hf10 hf11 hf12 hf13 hf14 hf15 hf16 hf17 hf18 hf19 hf20 hf21 hf22 hf23 hf24 hf25 hf26
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H9]
  · iexists _; isplitr
    swap; · iexact H9
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H10]
  · iexists _; isplitr
    swap; · iexact H10
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H11]
  · iexists _; isplitr
    swap; · iexact H11
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H12]
  · iexists _; isplitr
    swap; · iexact H12
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H13]
  · iexists _; isplitr
    swap; · iexact H13
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H14]
  · iexists _; isplitr
    swap; · iexact H14
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H22]
  · iexists _; isplitr
    swap; · iexact H22
    ipureintro
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H23]
  · iexists _; isplitr
    swap; · iexact H23
    ipureintro
    refine (read_writes_whole _ _ _ _ _ _).trans ?_
    sl_open_run
    try delta k0_off1
    try delta k0_off2
    try delta k0_off3
    simp only [read_writes_overlay, View.writes_nil, View.readCov_cons_toLoadRect, step, words, codedW, codedDy, scaledX, sumY, sumDw0, sumDw, maxX, maxW, maxDy, rowBlock, cond_true, cond_false, part_overlay, readAt_lit_S1x1024x1024, readAt_lit_S1024x768, readAt_lit_S1x1024x768, readAt_lit_S1x16, readAt_lit_S16x1024, readAt_lit_S8x768, readAt_lit_S16x768, readAt_wordlit0, readAt_wordlit1, readAt_wordlit2, readAt_wordlit3, readAt_wordlit4, readAt_wordlit5]
    try simp only [readAt_part]
    try rfl
  isplitl [H24]
  · iexists f24; isplitr; · ipureintro; rfl
    iexact H24
  isplitl [H25]
  · iexists f25; isplitr; · ipureintro; rfl
    iexact H25
  · iexists f26; isplitr; · ipureintro; rfl
    iexact H26

end Cert.KernelIdeal.Hand
end
-- ==== Proof.KernelIdeal.Run.lean ====
/-
  The body obligation, the run of the launch and the frame.
-/
module
public import Idealize.ShloMosaic.Lib.Claim
public import proofs.«01_k».proof.Proof.KernelIdeal.Dats
public import proofs.«01_k».proof.Proof.KernelIdeal.Body0
public import proofs.«01_k».proof.Proof.KernelIdeal.Body1
public import proofs.«01_k».proof.Proof.KernelIdeal.Body2
public import proofs.«01_k».proof.Proof.KernelIdeal.Body3
@[expose] public section
set_option maxRecDepth 16384
noncomputable section
namespace Cert.KernelIdeal.Hand
open Cert.KernelIdeal Cert.KernelIdeal.Gen Cert.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The body at any point: it does what `stepAt` says. -/
theorem body_at (c : Dev nD) (t : Fin cfg0.N) (M : Mem F) (K : PUnit → sProp 𝕄) :
    iprop(owns (c : Thread nD τ) (st0_0 t) fullShare (pin m c t.val).x ∗ owns (c : Thread nD τ) (st0_1 t) fullShare (pin m c t.val).w ∗ owns (c : Thread nD τ) (st0_2 t) fullShare (pin m c t.val).dy ∗ owns (c : Thread nD τ) (st0_3 t) fullShare (pin m c t.val).hx ∗ owns (c : Thread nD τ) (st0_4 t) fullShare (pin m c t.val).hw ∗ owns (c : Thread nD τ) (st0_5 t) fullShare (pin m c t.val).hdy ∗ owns (c : Thread nD τ) (st0_6 t) fullShare M.o8 ∗ owns (c : Thread nD τ) (st0_7 t) fullShare M.o9 ∗ owns (c : Thread nD τ) (st0_8 t) fullShare M.o10 ∗ owns (c : Thread nD τ) (st0_9 t) fullShare M.o11 ∗ owns (c : Thread nD τ) (st0_10 t) fullShare M.o12 ∗ owns (c : Thread nD τ) (st0_11 t) fullShare M.o13 ∗ owns (c : Thread nD τ) (st0_12 t) fullShare M.o14 ∗ owns (c : Thread nD τ) (st0_13 t) fullShare M.o15 ∗ owns (c : Thread nD τ) (st0_14 t) fullShare M.o16 ∗ owns (c : Thread nD τ) (st0_15 t) fullShare M.o17 ∗ owns (c : Thread nD τ) (st0_16 t) fullShare M.o18 ∗ owns (c : Thread nD τ) (st0_17 t) fullShare M.o19 ∗ owns (c : Thread nD τ) (Memref.whole cc0_scratch0) fullShare M.m20 ∗ owns (c : Thread nD τ) (Memref.whole cc0_scratch1) fullShare M.m21 ∗ owns (c : Thread nD τ) (Memref.whole cc0_scratch2) fullShare M.m22 ∗ owns (c : Thread nD τ) (Memref.whole cc0_scratch3) fullShare M.m23 ∗ owns (c : Thread nD τ) (Memref.whole cc0_scratch4) fullShare M.m24 ∗ owns (c : Thread nD τ) (Memref.whole cc0_scratch5) fullShare M.m25 ∗ owns (c : Thread nD τ) (Memref.whole cc0_scratch6) fullShare M.m26
        ∗ (iprop(owns (c : Thread nD τ) (st0_0 t) fullShare (pin m c t.val).x ∗ owns (c : Thread nD τ) (st0_1 t) fullShare (pin m c t.val).w ∗ owns (c : Thread nD τ) (st0_2 t) fullShare (pin m c t.val).dy ∗ owns (c : Thread nD τ) (st0_3 t) fullShare (pin m c t.val).hx ∗ owns (c : Thread nD τ) (st0_4 t) fullShare (pin m c t.val).hw ∗ owns (c : Thread nD τ) (st0_5 t) fullShare (pin m c t.val).hdy ∗ owns (c : Thread nD τ) (st0_6 t) fullShare (stepAt (pin m c) t.val M).o8 ∗ owns (c : Thread nD τ) (st0_7 t) fullShare (stepAt (pin m c) t.val M).o9 ∗ owns (c : Thread nD τ) (st0_8 t) fullShare (stepAt (pin m c) t.val M).o10 ∗ owns (c : Thread nD τ) (st0_9 t) fullShare (stepAt (pin m c) t.val M).o11 ∗ owns (c : Thread nD τ) (st0_10 t) fullShare (stepAt (pin m c) t.val M).o12 ∗ owns (c : Thread nD τ) (st0_11 t) fullShare (stepAt (pin m c) t.val M).o13 ∗ owns (c : Thread nD τ) (st0_12 t) fullShare (stepAt (pin m c) t.val M).o14 ∗ owns (c : Thread nD τ) (st0_13 t) fullShare (stepAt (pin m c) t.val M).o15 ∗ owns (c : Thread nD τ) (st0_14 t) fullShare (stepAt (pin m c) t.val M).o16 ∗ owns (c : Thread nD τ) (st0_15 t) fullShare (stepAt (pin m c) t.val M).o17 ∗ owns (c : Thread nD τ) (st0_16 t) fullShare (stepAt (pin m c) t.val M).o18 ∗ owns (c : Thread nD τ) (st0_17 t) fullShare (stepAt (pin m c) t.val M).o19 ∗ owns (c : Thread nD τ) (Memref.whole cc0_scratch0) fullShare (stepAt (pin m c) t.val M).m20 ∗ owns (c : Thread nD τ) (Memref.whole cc0_scratch1) fullShare (stepAt (pin m c) t.val M).m21 ∗ owns (c : Thread nD τ) (Memref.whole cc0_scratch2) fullShare (stepAt (pin m c) t.val M).m22 ∗ owns (c : Thread nD τ) (Memref.whole cc0_scratch3) fullShare (stepAt (pin m c) t.val M).m23 ∗ owns (c : Thread nD τ) (Memref.whole cc0_scratch4) fullShare (stepAt (pin m c) t.val M).m24 ∗ owns (c : Thread nD τ) (Memref.whole cc0_scratch5) fullShare (stepAt (pin m c) t.val M).m25 ∗ owns (c : Thread nD τ) (Memref.whole cc0_scratch6) fullShare (stepAt (pin m c) t.val M).m26) -∗ K PUnit.unit))
      ⊢ wp frame (wpE (defs₀ (F := F)) Variants.none c none) Set.univ (bodyAt0 t) K := by
  rcases fin_N0 t with rfl | rfl | rfl | rfl | rfl | rfl | rfl | rfl | rfl | rfl | rfl | rfl
  · exact body_first c Set.univ (grid0.coords t0_0) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 0) M K
  · exact body_r0mid c Set.univ (grid0.coords t0_1) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 1) M K
  · exact body_r0mid c Set.univ (grid0.coords t0_2) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 2) M K
  · exact body_r0end c Set.univ (grid0.coords t0_3) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 3) M K
  · exact body_r1start c Set.univ (grid0.coords t0_4) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 4) M K
  · exact body_r1mid c Set.univ (grid0.coords t0_5) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 5) M K
  · exact body_r1mid c Set.univ (grid0.coords t0_6) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 6) M K
  · exact body_r1end c Set.univ (grid0.coords t0_7) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 7) M K
  · exact body_r2start c Set.univ (grid0.coords t0_8) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 8) M K
  · exact body_r2mid c Set.univ (grid0.coords t0_9) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 9) M K
  · exact body_r2mid c Set.univ (grid0.coords t0_10) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 10) M K
  · exact body_last c Set.univ (grid0.coords t0_11) (by decide +kernel) (by decide +kernel) (by decide +kernel) (by decide +kernel) (by decide +kernel) (by decide +kernel) _ _ _ _ _ _ _ _ _ _ _ _ _ _ _ _ _ _ _ _ _ _ _ _ _ _ _ _ _ _ _ _ _ _ _ _ _ _ _ _ _ _ _ _ _ _ _ _ _ _ (pin m c 11) M K

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ leftAt m c 0 t
    ∗ leftAt m c 1 t
    ∗ leftAt m c 2 t
    ∗ leftAt m c 3 t
    ∗ leftAt m c 4 t
    ∗ leftAt m c 5 t
    ∗ leftAt m c 6 t
    ∗ leftAt m c 7 t
    ∗ leftAt m c 8 t
    ∗ leftAt m c 9 t
    ∗ leftAt m c 10 t
    ∗ leftAt m c 11 t
    ∗ leftAt m c 12 t
    ∗ leftAt m c 13 t
    ∗ leftAt m c 14 t
    ∗ leftAt m c 15 t
    ∗ leftAt m c 16 t
    ∗ leftAt m c 17 t)

/-- The body at any point, from what the launch hands it to what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).owesAt () t.succ = (dats m 0 c).owesAt () t.castSucc from rfl, Φ_eq, Φ_eq]
  iintro ⟨⟨%N, %hG, HS, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  unfold scratch
  icases HS with ⟨S20, S21, S22, S23, S24, S25, S26⟩
  obtain ⟨_, _, _, _, _, _, _, _, _, _, _, _, x20, x21, x22, x23, x24, x25, x26⟩ := N
  let M : Mem F := ⟨(dats m 0 c).before 6 t d6, (dats m 0 c).before 7 t d7, (dats m 0 c).before 8 t d8, (dats m 0 c).before 9 t d9, (dats m 0 c).before 10 t d10, (dats m 0 c).before 11 t d11, (dats m 0 c).before 12 t d12, (dats m 0 c).before 13 t d13, (dats m 0 c).before 14 t d14, (dats m 0 c).before 15 t d15, (dats m 0 c).before 16 t d16, (dats m 0 c).before 17 t d17, x20, x21, x22, x23, x24, x25, x26⟩
  have hM : Good (pin m c) t.val M := ⟨hG.words, hG.wq, hG.y, hG.dw, hG.ax, hG.aw, hG.ady⟩
  have h16 : M.o18 = (dats m 0 c).before 16 t d16 := rfl
  iapply (body_at m c t M _)
  isplitl [H0]; · rw [pin_x]; iexact H0
  isplitl [H1]; · rw [pin_w]; iexact H1
  isplitl [H2]; · rw [pin_dy]; iexact H2
  isplitl [H3]; · rw [pin_hx]; iexact H3
  isplitl [H4]; · rw [pin_hw]; iexact H4
  isplitl [H5]; · rw [pin_hdy]; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S20]; · iexact S20
  isplitl [S21]; · iexact S21
  isplitl [S22]; · iexact S22
  isplitl [S23]; · iexact S23
  isplitl [S24]; · iexact S24
  isplitl [S25]; · iexact S25
  isplitl [S26]; · iexact S26
  iintro ⟨H0, H1, H2, H3, H4, H5, H6, H7, H8, H9, H10, H11, H12, H13, H14, H15, H16, H17, S20, S21, S22, S23, S24, S25, S26⟩
  isplitl [HR S20 S21 S22 S23 S24 S25 S26]
  · iexists (stepAt (pin m c) t.val M)
    isplitr; · ipureintro; exact good_step t.isLt hM (found_dyq h16)
    isplitr [HR]
    · isplitl [S20]; · iexact S20
      isplitl [S21]; · iexact S21
      isplitl [S22]; · iexact S22
      isplitl [S23]; · iexact S23
      isplitl [S24]; · iexact S24
      isplitl [S25]; · iexact S25
      iexact S26
    iexact HR
  isplitl [Ho]; · iexact Ho
  isplitl [H0]; · iapply (owns_left m c 0 t _ (left_of_eq m c 0 t _ ((pin_x m c t).trans (after_0 m c t).symm) (.inl rfl))); iexact H0
  isplitl [H1]; · iapply (owns_left m c 1 t _ (left_of_eq m c 1 t _ ((pin_w m c t).trans (after_1 m c t).symm) (.inl rfl))); iexact H1
  isplitl [H2]; · iapply (owns_left m c 2 t _ (left_of_eq m c 2 t _ ((pin_dy m c t).trans (after_2 m c t).symm) (.inl rfl))); iexact H2
  isplitl [H3]; · iapply (owns_left m c 3 t _ (left_of_eq m c 3 t _ ((pin_hx m c t).trans (after_3 m c t).symm) (.inl rfl))); iexact H3
  isplitl [H4]; · iapply (owns_left m c 4 t _ (left_of_eq m c 4 t _ ((pin_hw m c t).trans (after_4 m c t).symm) (.inl rfl))); iexact H4
  isplitl [H5]; · iapply (owns_left m c 5 t _ (left_of_eq m c 5 t _ ((pin_hdy m c t).trans (after_5 m c t).symm) (.inl rfl))); iexact H5
  isplitl [H6]; · iapply (owns_left m c 6 t _ (left_6 hM rfl)); iexact H6
  isplitl [H7]; · iapply (owns_left m c 7 t _ (left_7 hM h16)); iexact H7
  isplitl [H8]; · iapply (owns_left m c 8 t _ (left_8 hM h16 rfl)); iexact H8
  isplitl [H9]; · iapply (owns_left m c 9 t _ (left_9 hM rfl)); iexact H9
  isplitl [H10]; · iapply (owns_left m c 10 t _ (left_10 hM rfl)); iexact H10
  isplitl [H11]; · iapply (owns_left m c 11 t _ (left_11 hM rfl)); iexact H11
  isplitl [H12]; · iapply (owns_left m c 12 t _ (left_12 hM)); iexact H12
  isplitl [H13]; · iapply (owns_left m c 13 t _ (left_13 (M := M) rfl)); iexact H13
  isplitl [H14]; · iapply (owns_left m c 14 t _ (left_14 hM rfl)); iexact H14
  isplitl [H15]; · iapply (owns_left m c 15 t _ (left_15 (M := M) rfl)); iexact H15
  isplitl [H16]; · iapply (owns_left m c 16 t _ (left_16 hM h16)); iexact H16
  iapply (owns_left m c 17 t _ (left_17 (M := M) rfl)); iexact H17

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch buffers hold anything. -/
theorem hin (c : Dev nD) : Pipeline.ΦA spec0 c ⊢ (dats m 0 c).Φ 0 := by
  rw [Φ_eq]
  unfold Pipeline.ΦA scratch
  rw [scopedRest0_eq]
  simp only [owns_whole]
  iintro ⟨⟨⟨%f20, S20⟩, ⟨%f21, S21⟩, ⟨%f22, S22⟩, ⟨%f23, S23⟩, ⟨%f24, S24⟩, ⟨%f25, S25⟩, ⟨%f26, S26⟩⟩, HR⟩
  iexists (⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), f20, f21, f22, f23, f24, f25, f26⟩ : Mem F)
  isplitr
  · ipureintro
    exact ⟨fun h => absurd h (by decide), fun k _ h => absurd h (Nat.not_lt_zero k), fun h => absurd rfl h, fun k _ h => absurd h (Nat.not_lt_zero k),
      fun h => absurd h (by decide), fun h => absurd h (by decide), fun h => absurd h (by decide)⟩
  isplitr [HR]
  · isplitl [S20]; · iexact S20
    isplitl [S21]; · iexact S21
    isplitl [S22]; · iexact S22
    isplitl [S23]; · iexact S23
    isplitl [S24]; · iexact S24
    isplitl [S25]; · iexact S25
    iexact S26
  iexact HR

/-- After the last point what they hold is forgotten. -/
theorem hout (c : Dev nD) : (dats m 0 c).Φ (Fin.last cfg0.N) ⊢ Pipeline.ΦA spec0 c := by
  rw [Φ_eq]
  unfold Pipeline.ΦA scratch
  rw [scopedRest0_eq]
  simp only [owns_whole]
  iintro ⟨%M, -, ⟨S20, S21, S22, S23, S24, S25, S26⟩, HR⟩
  isplitr [HR]
  · isplitl [S20]; · iexists _; iexact S20
    isplitl [S21]; · iexists _; iexact S21
    isplitl [S22]; · iexists _; iexact S22
    isplitl [S23]; · iexists _; iexact S23
    isplitl [S24]; · iexists _; iexact S24
    isplitl [S25]; · iexists _; iexact S25
    iexists _; iexact S26
  iexact HR

set_option backward.isDefEq.respectTransparency.types false in
set_option maxHeartbeats 800000 in
/-- The launch ends, every window's array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand
end
-- ==== Proof.Value.Scale.lean ====
module

public import Idealize.ShloMosaic.Lib.Pointwise
public import Idealize.ShloMosaic.PureOps.Ideal.Laws

/-! The delayed scale, over the extended reals and free of either program: the exponent read off a
    history of absolute maxima as a COUNT of powers of two, and the two searches that find it. -/

@[expose] public section

noncomputable section

namespace Cert.Val

open Idealize.ShloMosaic Idealize.SL.Sem Idealize.ShloMosaic.Pointwise

/-- The power of two `2 ^ (k - 125)`, as an extended real. -/
def pow2 (k : ℕ) : EReal := (((2 : ℝ) ^ ((k : ℤ) - 125) : ℝ) : EReal)

theorem pow2_mono {a b : ℕ} (h : a ≤ b) : pow2 a ≤ pow2 b := by
  unfold pow2
  exact EReal.coe_le_coe_iff.2 (zpow_le_zpow_right₀ (by norm_num) (by omega))

/-- Of the powers of two from `2 ^ -125` on, those at most `q` are a prefix: there is a count. -/
theorem exists_count (q : EReal) (N : ℕ) : ∃ n ≤ N, ∀ k < N, pow2 k ≤ q ↔ k < n := by
  induction N with
  | zero => exact ⟨0, le_rfl, fun k hk => absurd hk (by omega)⟩
  | succ N ih =>
    obtain ⟨n, hn, h⟩ := ih
    by_cases hN : pow2 N ≤ q
    · refine ⟨N + 1, le_rfl, fun k hk => ⟨fun _ => hk, fun _ => (pow2_mono (by omega)).trans hN⟩⟩
    · refine ⟨n, by omega, fun k hk => ?_⟩
      rcases Nat.lt_succ_iff_lt_or_eq.1 hk with h' | rfl
      · exact h k h'
      · exact ⟨fun h' => absurd h' hN, fun h' => absurd h' (by omega)⟩

/-- How many of the 251 powers `2 ^ -125 … 2 ^ 125` are at most `q`. -/
def count (q : EReal) : ℕ := (exists_count q 251).choose

theorem count_le (q : EReal) : count q ≤ 251 := (exists_count q 251).choose_spec.1

theorem count_iff (q : EReal) {k : ℕ} (hk : k < 251) : pow2 k ≤ q ↔ k < count q :=
  (exists_count q 251).choose_spec.2 k hk

/-- The f32 pattern with exponent field `n` and no fraction is the power of two `2 ^ (n - 127)`. -/
theorem ofBits_exponent (n : ℕ) (h1 : 1 ≤ n) (h2 : n ≤ 254) :
    Ideal.ofBits .f32 (BitVec.ofNat 32 n <<< 23) = (((2 : ℝ) ^ ((n : ℤ) - 127) : ℝ) : EReal) := by
  have key : ∀ n : Fin 255, ((BitVec.ofNat 32 n.val <<< 23).extractLsb' 31 1 == 1#1) = false
      ∧ ((BitVec.ofNat 32 n.val <<< 23).extractLsb' 23 8).toNat = n.val
      ∧ ((BitVec.ofNat 32 n.val <<< 23).extractLsb' 0 23).toNat = 0 := by decide +kernel
  obtain ⟨a, b, c⟩ := key ⟨n, by omega⟩
  simp only at a b c
  unfold Ideal.ofBits Ideal.ieee
  simp only [a, b, c]
  rw [if_neg (by omega), if_neg (by omega)]
  rw [EReal.coe_eq_coe_iff, show ((n : ℤ) - 127) = 23 + ((n : ℤ) - (2 ^ (8 - 1) - 1) - ((23 : ℕ) : ℤ)) by norm_num,
    zpow_add₀ (by norm_num)]
  generalize (2 : ℝ) ^ ((n : ℤ) - (2 ^ (8 - 1) - 1) - ((23 : ℕ) : ℤ)) = r
  norm_num

/-- The signed maximum of words is the maximum of the integers they read as. -/
theorem toInt_maxsi (a b : BitVec 32) : (IntOp.maxsi a b).toInt = max a.toInt b.toInt := by
  unfold IntOp.maxsi
  simp only [BitVec.slt]
  split <;> rename_i h <;> simp at h <;> omega

/-- The fold of the signed maximum over lanes, read as integers, is the fold of `max`. -/
theorem toInt_fold_maxsi {n : ℕ} (b : BitVec 32) (f : Fin n → BitVec 32) :
    (Finset.univ.fold IntOp.maxsi b f).toInt = Finset.univ.fold max b.toInt (fun k => (f k).toInt) :=
  (Finset.fold_hom (m := BitVec.toInt) (op := IntOp.maxsi) (op' := max) toInt_maxsi).symm

/-- The words the lane search compares with and takes: lane `k` holds the exponent field `min (k + 2) 252`, and
    offers the exponent `min k 250 - 124`. -/
theorem lane_words : ∀ k : Fin 256,
    IntOp.shli ArithUnit.vector (IntOp.minsi (252#32) (IntOp.maxsi (2#32) (IntOp.addi (BitVec.ofNat 32 k.val) 2#32))) 23#32
      = BitVec.ofNat 32 (min k.val 250 + 2) <<< 23
    ∧ (IntOp.subi (IntOp.minsi (BitVec.ofNat 32 k.val) 250#32) 124#32).toInt = (min k.val 250 : ℕ) - (124 : ℤ) := by
  decide +kernel

/-- The lane search for the exponent: the greatest `k - 124` whose power `2 ^ (k - 125)` is at most `q`, from
    -125, is the count less 125. -/
theorem lane_search (q : EReal) :
    (Finset.univ.fold IntOp.maxsi (2147483648#32) (fun x : Fin 256 =>
      if Ideal.ofBits FTy.f32 (IntOp.shli ArithUnit.vector
          (IntOp.minsi (252#32) (IntOp.maxsi (2#32) (IntOp.addi (BitVec.ofNat 32 x.val) 2#32))) 23#32) ≤ q
      then IntOp.subi (IntOp.minsi (BitVec.ofNat 32 x.val) 250#32) 124#32
      else 4294967171#32)) = BitVec.ofInt 32 ((count q : ℤ) - 125) := by
  have hc := count_le q
  apply BitVec.eq_of_toInt_eq
  have h1 : (BitVec.ofInt 32 ((count q : ℤ) - 125)).toInt = (count q : ℤ) - 125 := by
    rw [BitVec.toInt_ofInt]; exact Int.bmod_eq_of_le (by norm_num; omega) (by norm_num; omega)
  rw [toInt_fold_maxsi, h1]
  have hf : ∀ x : Fin 256, (if Ideal.ofBits FTy.f32 (IntOp.shli ArithUnit.vector
          (IntOp.minsi (252#32) (IntOp.maxsi (2#32) (IntOp.addi (BitVec.ofNat 32 x.val) 2#32))) 23#32) ≤ q
      then IntOp.subi (IntOp.minsi (BitVec.ofNat 32 x.val) 250#32) 124#32
      else 4294967171#32).toInt = if min x.val 250 < count q then ((min x.val 250 : ℕ) : ℤ) - 124 else -125 := by
    intro x
    obtain ⟨hw, hv⟩ := lane_words x
    rw [hw, ofBits_exponent _ (by omega) (by omega)]
    have e : ((((2 : ℝ) ^ (((min x.val 250 + 2 : ℕ) : ℤ) - 127) : ℝ) : EReal) ≤ q) ↔ min x.val 250 < count q := by
      rw [← count_iff q (by omega : min x.val 250 < 251), pow2]
      rw [show (((min x.val 250 + 2 : ℕ) : ℤ) - 127) = ((min x.val 250 : ℕ) : ℤ) - 125 by push_cast; ring]
    by_cases hp : min x.val 250 < count q
    · rw [if_pos (e.2 hp), if_pos hp, hv]
    · rw [if_neg (fun h => hp (e.1 h)), if_neg hp]; decide
  rw [Finset.fold_congr (fun x _ => hf x)]
  apply le_antisymm
  · rw [Finset.fold_max_le]
    refine ⟨by have : (2147483648#32 : BitVec 32).toInt = -2147483648 := by decide
               omega, fun x _ => ?_⟩
    split <;> omega
  · rw [Finset.le_fold_max]
    right
    rcases Nat.eq_zero_or_pos (count q) with h | h
    · exact ⟨0, Finset.mem_univ _, by rw [h, if_neg (by omega)]; norm_num⟩
    · exact ⟨⟨count q - 1, by omega⟩, Finset.mem_univ _, by
        simp only
        rw [if_pos (by omega)]; omega⟩

/-- The plain search for the exponent: the least `e` from -125 to 126 with `2 ^ e` greater than `q` is the count
    less 125. -/
theorem plain_search (q : EReal) (f : Fin 252 → EReal) (hf : ∀ k, f k = (((k.val : ℤ) - 125 : ℤ) : ℝ)) (b m : EReal)
    (hb : b = ⊤) (hm : m = ((126 : ℝ) : EReal)) :
    (Finset.univ.fold min b (fun k : Fin 252 => if q < Ideal.exp2 (f k) then f k else m))
      = ((((count q : ℤ) - 125 : ℤ) : ℝ) : EReal) := by
  have hc := count_le q
  subst hb hm
  have hx : ∀ k : Fin 252, Ideal.exp2 (f k) = pow2 k.val := by
    intro k
    rw [hf k, Ideal.exp2_coe, pow2]
    rw [EReal.coe_eq_coe_iff]
    exact Real.rpow_intCast 2 _
  have hg : ∀ k : Fin 252, (if q < Ideal.exp2 (f k) then f k else ((126 : ℝ) : EReal))
      = if q < pow2 k.val then ((((k.val : ℤ) - 125 : ℤ) : ℝ) : EReal) else ((126 : ℝ) : EReal) := by
    intro k; rw [hx k, hf k]
  rw [Finset.fold_congr (fun x _ => hg x)]
  apply le_antisymm
  · rw [Finset.fold_min_le]
    right
    refine ⟨⟨count q, by omega⟩, Finset.mem_univ _, ?_⟩
    simp only
    split
    · exact le_rfl
    · rename_i h
      rcases Nat.lt_or_ge (count q) 251 with h' | h'
      · exact absurd ((count_iff q h').1 (not_lt.1 h)) (by omega)
      · have : count q = 251 := by omega
        rw [this]; norm_num
  · rw [Finset.le_fold_min]
    refine ⟨le_top, fun k _ => ?_⟩
    split
    · rename_i h
      refine EReal.coe_le_coe_iff.2 ?_
      have : count q ≤ k.val := by
        by_contra h'
        exact absurd ((count_iff q (by omega)).2 (by omega : k.val < count q)) (not_le.2 h)
      exact_mod_cast (by omega : ((count q : ℤ) - 125) ≤ (k.val : ℤ) - 125)
    · refine EReal.coe_le_coe_iff.2 ?_
      exact_mod_cast (by omega : ((count q : ℤ) - 125) ≤ 126)

/-- The greatest entry of a history (from `-∞`). -/
def top (h : (⟨2, ![1, 16]⟩ : Shape).Idx → EReal) : EReal :=
  Finset.univ.fold max (Ideal.ofBits .f32 0xFF800000#32) (fun k : Fin 16 => h (ix2 0 k))

/-- The delayed scale's exponent: zero for an empty history, otherwise the count for the greatest entry times
    `c` (the reciprocal of the format's greatest value), less 125. -/
def expo (c : BitVec 32) (h : (⟨2, ![1, 16]⟩ : Shape).Idx → EReal) : ℤ :=
  if top h = 0 then 0 else (count (FloatOps.absf (F := Ideal) (φ := .f32) (top h * Ideal.ofBits .f32 c)) : ℤ) - 125

theorem expo_ge (c : BitVec 32) (h) : -125 ≤ expo c h := by
  unfold expo; split <;> omega

theorem expo_le (c : BitVec 32) (h) : expo c h ≤ 126 := by
  have := count_le (FloatOps.absf (F := Ideal) (φ := .f32) (top h * Ideal.ofBits .f32 c))
  unfold expo; split <;> omega

/-- The delayed scale `2 ^ e`. -/
def scale (c : BitVec 32) (h : (⟨2, ![1, 16]⟩ : Shape).Idx → EReal) : EReal := (((2 : ℝ) ^ expo c h : ℝ) : EReal)

/-- Its reciprocal `2 ^ -e`. -/
def inv (c : BitVec 32) (h : (⟨2, ![1, 16]⟩ : Shape).Idx → EReal) : EReal := (((2 : ℝ) ^ (-expo c h) : ℝ) : EReal)

/-- The word whose exponent field is an exponent plus 127, read as an f32, is the power of two. -/
theorem ofBits_shift (w : BitVec 32) (e : ℤ) (hw : w = BitVec.ofInt 32 e) (h1 : -126 ≤ e) (h2 : e ≤ 126) :
    Ideal.ofBits .f32 (IntOp.shli ArithUnit.vector (IntOp.addi w 127#32) 23#32) = (((2 : ℝ) ^ e : ℝ) : EReal) := by
  subst hw
  obtain ⟨n, rfl⟩ : ∃ n : ℕ, e = (n : ℤ) - 127 := ⟨(e + 127).toNat, by omega⟩
  have key : ∀ n : Fin 255, IntOp.shli ArithUnit.vector (IntOp.addi (BitVec.ofInt 32 ((n.val : ℤ) - 127)) 127#32) 23#32
      = BitVec.ofNat 32 n.val <<< 23 := by decide +kernel
  rw [key ⟨n, by omega⟩]
  exact ofBits_exponent n (by omega) (by omega)

/-- The negated exponent's word. -/
theorem neg_word (e : ℤ) (h1 : -126 ≤ e) (h2 : e ≤ 126) : IntOp.subi 0#32 (BitVec.ofInt 32 e) = BitVec.ofInt 32 (-e) := by
  obtain ⟨n, rfl⟩ : ∃ n : ℕ, e = (n : ℤ) - 127 := ⟨(e + 127).toNat, by omega⟩
  have key : ∀ n : Fin 255, IntOp.subi 0#32 (BitVec.ofInt 32 ((n.val : ℤ) - 127)) = BitVec.ofInt 32 (-((n.val : ℤ) - 127)) := by
    decide +kernel
  exact key ⟨n, by omega⟩

end Cert.Val
-- ==== Proof.Value.Spec.lean ====
module

public import proofs.«01_k».proof.Proof.Value.Scale

/-! The twelve results over the extended reals, index by index, free of either program. -/

@[expose] public section

noncomputable section

namespace Cert.Val

open Idealize.ShloMosaic Idealize.SL.Sem Idealize.ShloMosaic.Pointwise

/-- A rank-2 array of extended reals. -/
abbrev A2 (a b : ℕ) : Type := (⟨2, ![a, b]⟩ : Shape).Idx → EReal

/-- A rank-3 array of extended reals. -/
abbrev A3 (a b c : ℕ) : Type := (⟨3, ![a, b, c]⟩ : Shape).Idx → EReal

/-- The reciprocal of 448 and of 57344, as f32 words. -/
def c43 : BitVec 32 := 0x3B124925#32
def c52 : BitVec 32 := 0x37924925#32

/-- Clipping to ±448. -/
def clip43 (v : EReal) : EReal := min (Ideal.ofBits .f32 0x43E00000#32) (max (Ideal.ofBits .f32 0xC3E00000#32) v)

/-- Clipping to ±57344. -/
def clip52 (v : EReal) : EReal := min (Ideal.ofBits .f32 0x47600000#32) (max (Ideal.ofBits .f32 0xC7600000#32) v)

/-- The absolute value, as the programs take it. -/
def abs' (v : EReal) : EReal := FloatOps.absf (F := Ideal) (φ := .f32) v

/-- The greatest absolute value of an array. -/
def amax {s : Shape} (x : s.Idx → EReal) : EReal := Finset.univ.sup fun i => abs' (x i)

theorem amax_le {s : Shape} (x : s.Idx → EReal) (b : EReal) : amax x ≤ b ↔ ∀ i, abs' (x i) ≤ b := by
  unfold amax; rw [Finset.sup_le_iff]; exact ⟨fun h i => h i (Finset.mem_univ _), fun h i _ => h i⟩

/-- The history shifted by one, with the new greatest absolute value last. -/
def shifted (h : A2 1 16) (a : EReal) : A2 1 16 :=
  fun j => if hj : (j 1).val < 15 then h (ix2 0 ⟨(j 1).val + 1, Nat.succ_lt_succ hj⟩) else a

/-- The codes of x. -/
def qx (X : A3 3 1024 4096) (hx : A2 1 16) : A3 3 1024 4096 := fun j => clip43 (X j * inv c43 hx)

/-- The codes of w. -/
def qw (W : A2 4096 768) (hw : A2 1 16) : A2 4096 768 := fun j => clip43 (W j * inv c43 hw)

/-- The codes of dy. -/
def qd (D : A3 3 1024 768) (hd : A2 1 16) : A3 3 1024 768 := fun j => clip52 (D j * inv c52 hd)

/-- Token `r` of a (3, 1024, ·) array. -/
def tok {n : ℕ} (q : A3 3 1024 n) (r : ℕ) (hr : r < 3072) (k : Fin n) : EReal :=
  q (ix3 ⟨r / 1024, by omega⟩ ⟨r % 1024, by omega⟩ k)

/-- The forward product, rescaled. -/
def yv (X : A3 3 1024 4096) (W : A2 4096 768) (hx hw : A2 1 16) : A3 384 8 768 := fun j =>
  (∑ k : Fin 4096, tok (qx X hx) ((j 0).val * 8 + (j 1).val) (by
      have h0 : (j 0).val < 384 := (j 0).isLt
      have h1 : (j 1).val < 8 := (j 1).isLt
      omega) k * qw W hw (ix2 k (j 2))) * (scale c43 hx * scale c43 hw)

/-- The gradient of x, rescaled. -/
def dxv (W : A2 4096 768) (D : A3 3 1024 768) (hw hd : A2 1 16) : A3 384 8 4096 := fun j =>
  (∑ k : Fin 768, tok (qd D hd) ((j 0).val * 8 + (j 1).val) (by
      have h0 : (j 0).val < 384 := (j 0).isLt
      have h1 : (j 1).val < 8 := (j 1).isLt
      omega) k * qw W hw (ix2 (j 2) k)) * (scale c52 hd * scale c43 hw)

/-- The gradient of w, rescaled. -/
def dwv (X : A3 3 1024 4096) (D : A3 3 1024 768) (hx hd : A2 1 16) : A2 4096 768 := fun j =>
  (∑ r : Fin 3072, tok (qx X hx) r.val r.isLt (j 0) * tok (qd D hd) r.val r.isLt (j 1)) * (scale c43 hx * scale c52 hd)

end Cert.Val
-- ==== Proof.Value.KPay.lean ====
module

public import proofs.«01_k».proof.Proof.Gen.KernelIdeal.Skeleton
public import proofs.«01_k».proof.Proof.Value.Spec

/-! What the kernel's payloads compute over the extended reals, at an index. -/

@[expose] public section

noncomputable section

namespace Cert.Val

open Idealize.ShloMosaic Idealize.SL.Sem Idealize.ShloMosaic.Pointwise Cert.KernelIdeal Cert.KernelIdeal.Gen

/-- The kernel's exponent word of an E4M3 history is `expo`'s. -/
theorem pay6_eq (h : Vec Ideal S1x16 .f32) : k0_pay6 (F := Ideal) h = fun _ => BitVec.ofInt 32 (expo c43 h) := by
  funext j
  rw [eq_ix2 j]
  pointwise [k0_pay6]
  rw [lane_search]
  unfold expo top c43
  split <;> rfl

/-- The same of w's history. -/
theorem pay12_eq (h : Vec Ideal S1x16 .f32) : k0_pay12 (F := Ideal) h = fun _ => BitVec.ofInt 32 (expo c43 h) := by
  funext j
  rw [eq_ix2 j]
  pointwise [k0_pay12]
  rw [lane_search]
  unfold expo top c43
  split <;> rfl

/-- The same of an E5M2 history. -/
theorem pay20_eq (h : Vec Ideal S1x16 .f32) :
    k0_pay20 (F := Ideal) (k0_pay16 h) (k0_pay17 h) k0_pay18 k0_pay19 = fun _ => BitVec.ofInt 32 (expo c52 h) := by
  funext j
  rw [eq_ix2 j]
  pointwise [k0_pay20, k0_pay16, k0_pay17, k0_pay18, k0_pay19]
  rw [lane_search]
  unfold expo top c52
  split <;> rfl

/-- The exponent's word, shifted into place, is the scale. -/
theorem word_scale (c : BitVec 32) (h : A2 1 16) :
    Ideal.ofBits .f32 (IntOp.shli ArithUnit.vector (IntOp.addi (BitVec.ofInt 32 (expo c h)) 127#32) 23#32) = scale c h := by
  have := expo_ge c h
  exact ofBits_shift _ _ rfl (by omega) (expo_le c h)

/-- The negated exponent's word, shifted into place, is the reciprocal scale. -/
theorem word_inv (c : BitVec 32) (h : A2 1 16) :
    Ideal.ofBits .f32 (IntOp.shli ArithUnit.vector (IntOp.addi (IntOp.subi 0#32 (BitVec.ofInt 32 (expo c h))) 127#32) 23#32)
      = inv c h := by
  have := expo_ge c h
  have := expo_le c h
  rw [neg_word _ (by omega) (by omega)]
  exact ofBits_shift _ _ rfl (by omega) (by omega)

theorem pay7_eq (h : Vec Ideal S1x16 .f32) : k0_pay7 (F := Ideal) h = fun _ => scale c43 h := by
  funext j; rw [eq_ix2 j]; pointwise [k0_pay7, pay6_eq]; exact word_scale _ _

theorem pay10_eq (h : Vec Ideal S1x16 .f32) : k0_pay10 (F := Ideal) (k0_pay7 h) = scale c43 h := by
  rw [pay7_eq]; rfl

theorem pay11_eq (h : Vec Ideal S1x16 .f32) : k0_pay11 (F := Ideal) (k0_pay8 h) k0_pay9 = inv c43 h := by
  unfold k0_pay11 k0_pay8 k0_pay9; rw [pay6_eq]; exact word_inv _ _

theorem pay13_eq (h : Vec Ideal S1x16 .f32) : k0_pay13 (F := Ideal) (k0_pay12 h) 127#32 = fun _ => scale c43 h := by
  funext j; rw [eq_ix2 j]; pointwise [k0_pay13, pay12_eq]; exact word_scale _ _

theorem pay14_eq (h : Vec Ideal S1x16 .f32) : k0_pay14 (F := Ideal) (k0_pay12 h) 127#32 = scale c43 h := by
  unfold k0_pay14; rw [pay13_eq]; rfl

theorem pay15_eq (h : Vec Ideal S1x16 .f32) : k0_pay15 (F := Ideal) (k0_pay12 h) = inv c43 h := by
  unfold k0_pay15; rw [pay12_eq]; exact word_inv _ _

theorem pay21_eq (h : Vec Ideal S1x16 .f32) :
    k0_pay21 (F := Ideal) (k0_pay16 h) (k0_pay17 h) k0_pay18 k0_pay19 = fun _ => scale c52 h := by
  funext j; rw [eq_ix2 j]; pointwise [k0_pay21, pay20_eq]; exact word_scale _ _

theorem pay22_eq (h : Vec Ideal S1x16 .f32) :
    k0_pay22 (F := Ideal) (k0_pay16 h) (k0_pay17 h) k0_pay18 k0_pay19 = scale c52 h := by
  unfold k0_pay22; rw [pay21_eq]; rfl

theorem pay23_eq (h : Vec Ideal S1x16 .f32) :
    k0_pay23 (F := Ideal) (k0_pay16 h) (k0_pay17 h) k0_pay18 k0_pay19 = inv c52 h := by
  unfold k0_pay23; rw [pay20_eq]; exact word_inv _ _

/-! The clipped codes of one block. -/

/-- An index with a leading unit axis. -/
theorem ix3_unit {a b : ℕ} (j : (⟨3, ![1, a, b]⟩ : Shape).Idx) : ix3 0 (j 1) (j 2) = j :=
  (congrArg (fun z => ix3 z (j 1) (j 2)) (Subsingleton.elim (0 : Fin 1) (j 0))).trans (eq_ix3 j).symm

theorem pay29_apply (w : Vec Ideal S1024x768 .f32) (s : EReal) (j : S1024x768.Idx) :
    k0_pay29 (F := Ideal) w s j = clip43 (w j * s) := by
  rw [eq_ix2 j]; pointwise [k0_pay29]; rfl

theorem pay30_apply (w : Vec Ideal S1024x768 .f32) (s : EReal) (j : S1024x768.Idx) :
    k0_pay30 (F := Ideal) w s j = clip43 (w j * s) := by
  rw [eq_ix2 j]; pointwise [k0_pay30]; exact pay29_apply w s _

theorem pay34_apply (d : Vec Ideal S1x1024x768 .bf16) (s : EReal) (j : S1x1024x768.Idx) :
    k0_pay34 (F := Ideal) d s j = clip52 (d j * s) := by
  rw [eq_ix3 j]; pointwise [k0_pay34, k0_pay32]; rfl

theorem pay40_apply (x : Vec Ideal S1x1024x1024 .bf16) (s : EReal) (a b : Fin 1024) :
    k0_pay40 (F := Ideal) (k0_pay38 x s) k0_pay39 (ix2 a b) = clip43 (x (ix3 0 a b) * s) := by
  pointwise [k0_pay40, k0_pay38, k0_pay39, k0_pay36]; rfl

theorem pay41_apply (x : Vec Ideal S1x1024x1024 .bf16) (s : EReal) (j : S1x1024x1024.Idx) :
    k0_pay41 (F := Ideal) (k0_pay38 x s) k0_pay39 j = clip43 (x j * s) := by
  unfold k0_pay41; pointwise []; exact (pay40_apply x s (j 1) (j 2)).trans (congrArg (fun i => clip43 (x i * s)) (ix3_unit j))

/-! The three products of one block. -/

theorem pay43_apply (x : Vec Ideal S1x1024x1024 .bf16) (s : EReal) (q : Vec Ideal S1024x768 .fp8e4m3) (acc : Vec Ideal S1024x768 .f32)
    (a : Fin 1024) (b : Fin 768) :
    k0_pay43 (F := Ideal) (k0_pay38 x s) k0_pay39 q acc (ix2 a b)
      = acc (ix2 a b) + ∑ k : Fin 1024, clip43 (x (ix3 0 a k) * s) * q (ix2 k b) := by
  pointwise [k0_pay43]
  simp only [pay40_apply]

theorem pay44_apply (q : Vec Ideal S1024x768 .fp8e4m3) (d : Vec Ideal S1x1024x768 .fp8e5m2) (s s' : EReal) (j : S128x8x1024.Idx) :
    k0_pay44 (F := Ideal) q d s s' j
      = (∑ k : Fin 768, d (ix3 0 ⟨(j 0).val * 8 + (j 1).val, by
            have h0 : (j 0).val < 128 := (j 0).isLt
            have h1 : (j 1).val < 8 := (j 1).isLt
            omega⟩ k) * q (ix2 (j 2) k)) * (s * s') := by
  rw [eq_ix3 j]; pointwise [k0_pay44, k0_pay42]

theorem pay45_apply (x : Vec Ideal S1x1024x1024 .bf16) (s : EReal) (d : Vec Ideal S1x1024x768 .fp8e5m2) (acc : Vec Ideal S1024x768 .f32)
    (a : Fin 1024) (b : Fin 768) :
    k0_pay45 (F := Ideal) (k0_pay38 x s) k0_pay39 d acc (ix2 a b)
      = acc (ix2 a b) + ∑ r : Fin 1024, clip43 (x (ix3 0 r a) * s) * d (ix3 0 r b) := by
  pointwise [k0_pay45, k0_pay42]
  simp only [pay40_apply]

theorem pay35_apply (j : S1024x768.Idx) : k0_pay35 (F := Ideal) j = 0 := by
  rw [eq_ix2 j]; pointwise [k0_pay35]

theorem pay31_apply (j : S1024x768.Idx) : k0_pay31 (F := Ideal) j = 0 := by
  rw [eq_ix2 j]; pointwise [k0_pay31]

theorem pay1_apply (acc : Vec Ideal S1024x768 .f32) (s s' : EReal) (j : S1024x768.Idx) :
    k0_pay1 (F := Ideal) acc s s' j = acc j * (s * s') := by
  rw [eq_ix2 j]; pointwise [k0_pay1]

theorem pay2_apply (acc : Vec Ideal S1024x768 .f32) (s s' : EReal) (j : S128x8x768.Idx) :
    k0_pay2 (F := Ideal) acc s s' j = acc (ix2 ⟨(j 0).val * 8 + (j 1).val, by
            have h0 : (j 0).val < 128 := (j 0).isLt
            have h1 : (j 1).val < 8 := (j 1).isLt
            omega⟩ (j 2)) * (s * s') := by
  rw [eq_ix3 j]; pointwise [k0_pay2]

end Cert.Val
-- ==== Proof.Value.RPay.lean ====
module

public import proofs.«01_k».proof.Proof.Gen.ReferenceIdeal.Frame
public import proofs.«01_k».proof.Proof.Value.Spec

/-! What the reference's payloads compute over the extended reals. -/

@[expose] public section

noncomputable section

namespace Cert.Val

open Idealize.ShloMosaic Idealize.SL.Sem Idealize.ShloMosaic.Pointwise Cert.ReferenceIdeal Cert.ReferenceIdeal.Gen

theorem bits_top : Ideal.ofBits .f32 0x7F800000#32 = ⊤ := by simp [Ideal.ofBits, Ideal.ieee]
theorem bits_bot : Ideal.ofBits .f32 0xFF800000#32 = ⊥ := by simp [Ideal.ofBits, Ideal.ieee]
theorem bits_125 : Ideal.ofBits .f32 0x42FA0000#32 = ((125 : ℝ) : EReal) := by
  simp [Ideal.ofBits, Ideal.ieee, -EReal.coe_mul]; norm_num
theorem bits_126 : Ideal.ofBits .f32 0x42FC0000#32 = ((126 : ℝ) : EReal) := by
  simp [Ideal.ofBits, Ideal.ieee, -EReal.coe_mul]; norm_num

/-- A candidate exponent of the reference's search. -/
theorem cand (k : Fin 252) : FloatOps.sitofp (F := Ideal) FTy.f32 (BitVec.ofNat 32 k.val) - Ideal.ofBits .f32 0x42FA0000#32
    = ((((k.val : ℤ) - 125 : ℤ) : ℝ) : EReal) := by
  rw [bits_125]
  have h : ∀ k : Fin 252, (BitVec.ofNat 32 k.val).toInt = (k.val : ℤ) := by decide +kernel
  show ((((BitVec.ofNat 32 k.val).toInt : ℤ) : ℝ) : EReal) - ((125 : ℝ) : EReal) = _
  rw [h k, ← EReal.coe_sub, EReal.coe_eq_coe_iff]
  push_cast; ring

/-- The reference's search, at any constant and history. -/
theorem search (c : BitVec 32) (h : A2 1 16) :
    (if top h = 0 then 0 else
      Finset.univ.fold min (Ideal.ofBits FTy.f32 0x7F800000#32) (fun x : Fin 252 =>
        if FloatOps.absf (F := Ideal) (φ := .f32) (top h * Ideal.ofBits .f32 c)
            < FloatOps.exp2 (F := Ideal) (φ := .f32)
              (FloatOps.sitofp (F := Ideal) FTy.f32 (BitVec.ofNat 32 x.val) - Ideal.ofBits .f32 0x42FA0000#32)
        then FloatOps.sitofp (F := Ideal) FTy.f32 (BitVec.ofNat 32 x.val) - Ideal.ofBits .f32 0x42FA0000#32
        else Ideal.ofBits .f32 0x42FC0000#32)) = (((expo c h : ℤ) : ℝ) : EReal) := by
  unfold expo
  by_cases h0 : top h = 0
  · simp only [h0, if_true]; simp
  · simp only [h0, if_false]
    exact plain_search _ (fun x => FloatOps.sitofp (F := Ideal) FTy.f32 (BitVec.ofNat 32 x.val) - Ideal.ofBits .f32 0x42FA0000#32)
      cand _ _ bits_top bits_126

theorem rpay5_eq (h : Vec Ideal S1x16 .f32) : k0_pay5 (F := Ideal) h = fun _ => (((expo c43 h : ℤ) : ℝ) : EReal) := by
  funext j; rw [eq_ix2 j]; pointwise [k0_pay5, k0_pay3]; exact search c43 h

theorem rpay11_eq (h : Vec Ideal S1x16 .f32) : k0_pay11 (F := Ideal) h = fun _ => (((expo c43 h : ℤ) : ℝ) : EReal) := by
  funext j; rw [eq_ix2 j]; pointwise [k0_pay11, k0_pay9]; exact search c43 h

theorem rpay17_eq (h : Vec Ideal S1x16 .f32) : k0_pay17 (F := Ideal) h = fun _ => (((expo c52 h : ℤ) : ℝ) : EReal) := by
  funext j; rw [eq_ix2 j]; pointwise [k0_pay17, k0_pay15]; exact search c52 h

/-- The scale is the power of two of the exponent. -/
theorem exp2_scale (c : BitVec 32) (h : A2 1 16) : Ideal.exp2 (((expo c h : ℤ) : ℝ) : EReal) = scale c h := by
  rw [Ideal.exp2_coe, scale, EReal.coe_eq_coe_iff]; exact Real.rpow_intCast 2 _

/-- The reciprocal scale is the power of two of the negated exponent. -/
theorem exp2_inv (c : BitVec 32) (h : A2 1 16) : Ideal.exp2 (0 - (((expo c h : ℤ) : ℝ) : EReal)) = inv c h := by
  rw [zero_sub, ← EReal.coe_neg, Ideal.exp2_coe, inv, EReal.coe_eq_coe_iff, ← Int.cast_neg]; exact Real.rpow_intCast 2 _

theorem rpay6_eq (h : Vec Ideal S1x16 .f32) : k0_pay6 (F := Ideal) h = fun _ => scale c43 h := by
  funext j; rw [eq_ix2 j]; pointwise [k0_pay6, rpay5_eq]; exact exp2_scale _ _

theorem rpay12_eq (h : Vec Ideal S1x16 .f32) : k0_pay12 (F := Ideal) h = fun _ => scale c43 h := by
  funext j; rw [eq_ix2 j]; pointwise [k0_pay12, rpay11_eq]; exact exp2_scale _ _

theorem rpay18_eq (h : Vec Ideal S1x16 .f32) : k0_pay18 (F := Ideal) h = fun _ => scale c52 h := by
  funext j; rw [eq_ix2 j]; pointwise [k0_pay18, rpay17_eq]; exact exp2_scale _ _

/-! The codes. -/

theorem rpay8_apply (x : Vec Ideal S3x1024x4096 .bf16) (h : Vec Ideal S1x16 .f32) (a : Fin 3072) (b : Fin 4096) :
    k0_pay8 (F := Ideal) (k0_pay7 x h) (Scalar.ofBits .f32 0xC3E00000#32) (ix2 a b) = tok (qx x h) a.val a.isLt b := by
  pointwise [k0_pay7, k0_pay8, k0_pay1, rpay5_eq]
  exact congrArg (fun z => clip43 (_ * z)) (exp2_inv c43 h)

theorem rpay14_eq (w : Vec Ideal S4096x768 .f32) (h : Vec Ideal S1x16 .f32) :
    k0_pay14 (F := Ideal) (Scalar.ofBits .f32 0x43E00000#32) (k0_pay13 w h) = qw w h := by
  funext j; rw [eq_ix2 j]
  pointwise [k0_pay14, k0_pay13, rpay11_eq]
  exact congrArg (fun z => clip43 (_ * z)) (exp2_inv c43 h)

theorem rpay19_apply (d : Vec Ideal S3x1024x768 .bf16) (h : Vec Ideal S1x16 .f32) (a : Fin 3072) (b : Fin 768) :
    k0_pay19 (F := Ideal) (k0_pay2 d) h (ix2 a b) = tok (qd d h) a.val a.isLt b := by
  pointwise [k0_pay19, k0_pay2, rpay17_eq]
  exact congrArg (fun z => clip52 (_ * z)) (exp2_inv c52 h)

/-- A token's row of an array, read back at its two coordinates. -/
theorem tok_row {n : ℕ} (q : A3 3 1024 n) (j : (⟨3, ![3, 1024, n]⟩ : Shape).Idx) (hr) :
    tok q ((j 0).val * 1024 + (j 1).val) hr (j 2) = q j := by
  have h0 : (j 0).val < 3 := (j 0).isLt
  have h1 : (j 1).val < 1024 := (j 1).isLt
  conv_rhs => rw [eq_ix3 j]
  unfold tok
  congr 1
  funext a
  match a with
  | ⟨0, _⟩ => exact Fin.ext (by show ((j 0).val * 1024 + (j 1).val) / 1024 = (j 0).val; omega)
  | ⟨1, _⟩ => exact Fin.ext (by show ((j 0).val * 1024 + (j 1).val) % 1024 = (j 1).val; omega)
  | ⟨2, _⟩ => rfl

theorem rpay25_eq (x : Vec Ideal S3x1024x4096 .bf16) (h : Vec Ideal S1x16 .f32) :
    k0_pay25 (F := Ideal) (k0_pay8 (k0_pay7 x h) (Scalar.ofBits .f32 0xC3E00000#32)) = qx x h := by
  funext j
  conv_lhs => rw [eq_ix3 j]
  pointwise [k0_pay25]
  exact (rpay8_apply x h _ _).trans (tok_row (qx x h) j _)

theorem rpay26_eq (d : Vec Ideal S3x1024x768 .bf16) (h : Vec Ideal S1x16 .f32) :
    k0_pay26 (F := Ideal) (k0_pay19 (k0_pay2 d) h) = qd d h := by
  funext j
  conv_lhs => rw [eq_ix3 j]
  pointwise [k0_pay26]
  exact (rpay19_apply d h _ _).trans (tok_row (qd d h) j _)

/-! The three products. -/

theorem rpay23_eq (x : Vec Ideal S3x1024x4096 .bf16) (w : Vec Ideal S4096x768 .f32) (hx hw : Vec Ideal S1x16 .f32) :
    k0_pay23 (F := Ideal) (k0_pay20 (k0_pay8 (k0_pay7 x hx) (Scalar.ofBits .f32 0xC3E00000#32)) (Scalar.ofBits .f32 0x43E00000#32)
      (k0_pay13 w hw)) (k0_pay21 (k0_pay6 hx) (k0_pay12 hw)) = yv x w hx hw := by
  rw [rpay6_eq, rpay12_eq]
  funext j
  conv_lhs => rw [eq_ix3 j]
  unfold k0_pay23 k0_pay20 k0_pay21
  rw [rpay14_eq]
  pointwise []
  unfold yv
  refine congrArg (· * _) (Finset.sum_congr rfl fun k _ => ?_)
  exact congrArg (· * _) (rpay8_apply x hx _ k)

theorem rpay24_eq (w : Vec Ideal S4096x768 .f32) (d : Vec Ideal S3x1024x768 .bf16) (hw hd : Vec Ideal S1x16 .f32) :
    k0_pay24 (F := Ideal) (k0_pay12 hw) (k0_pay14 (Scalar.ofBits .f32 0x43E00000#32) (k0_pay13 w hw)) (k0_pay18 hd)
      (k0_pay19 (k0_pay2 d) hd) = dxv w d hw hd := by
  rw [rpay12_eq, rpay18_eq, rpay14_eq]
  funext j
  conv_lhs => rw [eq_ix3 j]
  pointwise [k0_pay24]
  unfold dxv
  refine congrArg (· * _) (Finset.sum_congr rfl fun k _ => ?_)
  exact congrArg (· * _) (rpay19_apply d hd _ k)

theorem rpay22_eq (x : Vec Ideal S3x1024x4096 .bf16) (d : Vec Ideal S3x1024x768 .bf16) (hx hd : Vec Ideal S1x16 .f32) :
    k0_pay22 (F := Ideal) (k0_pay6 hx) (k0_pay8 (k0_pay7 x hx) (Scalar.ofBits .f32 0xC3E00000#32)) (k0_pay18 hd)
      (k0_pay19 (k0_pay2 d) hd) = dwv x d hx hd := by
  rw [rpay6_eq, rpay18_eq]
  funext j
  conv_lhs => rw [eq_ix2 j]
  pointwise [k0_pay22]
  unfold dwv
  refine congrArg (· * _) (Finset.sum_congr rfl fun k _ => ?_)
  exact congrArg₂ (· * ·) (rpay8_apply x hx k _) (rpay19_apply d hd k _)

/-! The histories. -/

/-- The greatest absolute value, taken a token at a time. -/
theorem amax_tok {n : ℕ} (x : A3 3 1024 n) :
    Finset.univ.fold max (Ideal.ofBits FTy.f32 0xFF800000#32) (fun a : Fin 3072 =>
      Finset.univ.fold max (Ideal.ofBits FTy.f32 0xFF800000#32) (fun b : Fin n => abs' (tok x a.val a.isLt b))) = amax x := by
  apply eq_of_forall_ge_iff
  intro c
  rw [amax_le]
  simp only [Finset.fold_max_le, bits_bot, bot_le, true_and, Finset.mem_univ, true_implies]
  constructor
  · intro H i
    have h0 : (i 0).val < 3 := (i 0).isLt
    have h1 : (i 1).val < 1024 := (i 1).isLt
    have := H ⟨(i 0).val * 1024 + (i 1).val, by omega⟩ (i 2)
    rwa [tok_row] at this
  · intro H a b
    exact H _

theorem amax_mat (x : A2 4096 768) :
    Finset.univ.fold max (Ideal.ofBits FTy.f32 0xFF800000#32) (fun a : Fin 4096 =>
      Finset.univ.fold max (Ideal.ofBits FTy.f32 0xFF800000#32) (fun b : Fin 768 => abs' (x (ix2 a b)))) = amax x := by
  apply eq_of_forall_ge_iff
  intro c
  rw [amax_le]
  simp only [Finset.fold_max_le, bits_bot, bot_le, true_and, Finset.mem_univ, true_implies]
  constructor
  · intro H i
    rw [eq_ix2 i]
    exact H _ _
  · intro H a b
    exact H _

/-- A shifted history, as the concatenation reads it. -/
theorem shifted_eq (h : A2 1 16) (j : (⟨2, ![1, 16]⟩ : Shape).Idx) (a b : EReal) (hab : a = b) :
    (if hj : (j 1).val < 15 then h (ix2 0 ⟨1 + (j 1).val, by omega⟩) else a) = shifted h b j := by
  subst hab
  unfold shifted
  split
  · congr 2; exact Fin.ext (Nat.add_comm _ _)
  · rfl

theorem rpay4_eq (x : Vec Ideal S3x1024x4096 .bf16) (h : Vec Ideal S1x16 .f32) :
    k0_pay4 (F := Ideal) x h = shifted h (amax x) := by
  funext j
  conv_lhs => rw [eq_ix2 j]
  pointwise [k0_pay4, k0_pay3, k0_pay1]
  exact shifted_eq h j _ _ (amax_tok x)

theorem rpay10_eq (w : Vec Ideal S4096x768 .f32) (h : Vec Ideal S1x16 .f32) :
    k0_pay10 (F := Ideal) w h = shifted h (amax w) := by
  funext j
  conv_lhs => rw [eq_ix2 j]
  pointwise [k0_pay10, k0_pay9]
  exact shifted_eq h j _ _ (amax_mat w)

theorem rpay16_eq (d : Vec Ideal S3x1024x768 .bf16) (h : Vec Ideal S1x16 .f32) :
    k0_pay16 (F := Ideal) (k0_pay2 d) h = shifted h (amax d) := by
  funext j
  conv_lhs => rw [eq_ix2 j]
  pointwise [k0_pay16, k0_pay15, k0_pay2]
  exact shifted_eq h j _ _ (amax_tok d)

end Cert.Val
-- ==== Proof.Value.KAmax.lean ====
module

public import proofs.«01_k».proof.Proof.KernelIdeal.Inv
public import proofs.«01_k».proof.Proof.Value.KPay
public import proofs.«01_k».proof.Proof.Value.RPay

/-! The kernel's running maxima, and the histories it makes of them. -/

@[expose] public section

noncomputable section

namespace Cert.Val

open Idealize.ShloMosaic Idealize.SL.Sem Idealize.ShloMosaic.Pointwise Cert.KernelIdeal Cert.KernelIdeal.Gen Cert.KernelIdeal.Hand

theorem bits_bot16 : Ideal.ofBits .bf16 0xFF80#16 = ⊥ := by simp [Ideal.ofBits, Ideal.ieee]

theorem abs'_nonneg (v : EReal) : 0 ≤ abs' v := by
  show (0 : EReal) ≤ max v (-v)
  rcases le_total 0 v with h | h
  · exact h.trans (le_max_left _ _)
  · exact (EReal.neg_nonneg.2 h).trans (le_max_right _ _)

theorem pay37_le (x : Vec Ideal S1x1024x1024 .bf16) (acc : Vec Ideal S16x1024 .bf16) (a : Fin 16) (b : Fin 1024) (c : EReal) :
    k0_pay37 (F := Ideal) x acc (ix2 a b) ≤ c ↔ acc (ix2 a b) ≤ c ∧ ∀ q : Fin 64, abs' (x (ix3 0 ⟨q.val * 16 + a.val, by omega⟩ b)) ≤ c := by
  pointwise [k0_pay37, k0_pay36]
  rw [max_le_iff, Finset.fold_max_le, bits_bot16]
  simp only [bot_le, true_and, Finset.mem_univ, true_implies]
  exact Iff.rfl

theorem pay28_le (x : Vec Ideal S1024x768 .f32) (acc : Vec Ideal S8x768 .f32) (a : Fin 8) (b : Fin 768) (c : EReal) :
    k0_pay28 (F := Ideal) x acc (ix2 a b) ≤ c ↔ acc (ix2 a b) ≤ c ∧ ∀ q : Fin 128, abs' (x (ix2 ⟨q.val * 8 + a.val, by omega⟩ b)) ≤ c := by
  pointwise [k0_pay28]
  rw [max_le_iff, Finset.fold_max_le, bits_bot]
  simp only [bot_le, true_and, Finset.mem_univ, true_implies]
  exact Iff.rfl

theorem pay33_le (x : Vec Ideal S1x1024x768 .bf16) (acc : Vec Ideal S16x768 .bf16) (a : Fin 16) (b : Fin 768) (c : EReal) :
    k0_pay33 (F := Ideal) x acc (ix2 a b) ≤ c ↔ acc (ix2 a b) ≤ c ∧ ∀ q : Fin 64, abs' (x (ix3 0 ⟨q.val * 16 + a.val, by omega⟩ b)) ≤ c := by
  pointwise [k0_pay33, k0_pay32]
  rw [max_le_iff, Finset.fold_max_le, bits_bot16]
  simp only [bot_le, true_and, Finset.mem_univ, true_implies]
  exact Iff.rfl

theorem pay24_at (a : Fin 16) (b : Fin 1024) : k0_pay24 (F := Ideal) (ix2 a b) = 0 := by pointwise [k0_pay24]
theorem pay25_at (a : Fin 8) (b : Fin 768) : k0_pay25 (F := Ideal) (ix2 a b) = 0 := by pointwise [k0_pay25]
theorem pay27_at (a : Fin 16) (b : Fin 768) : k0_pay27 (F := Ideal) k0_pay26 (ix2 a b) = 0 := by pointwise [k0_pay27, k0_pay26]

variable (p : ℕ → Inp Ideal)

/-- What bounds the running maximum of x: zero, and every element seen so far. -/
theorem AX_le (a : Fin 16) (b : Fin 1024) (c : EReal) : ∀ n : ℕ, AX p n (ix2 a b) ≤ c ↔
    0 ≤ c ∧ ∀ k < n, ∀ q : Fin 64, abs' ((p k).x (ix3 0 ⟨q.val * 16 + a.val, by omega⟩ b)) ≤ c
  | 0 => by
    show k0_pay24 (F := Ideal) (ix2 a b) ≤ c ↔ _
    rw [pay24_at]; exact ⟨fun h => ⟨h, fun k hk => absurd hk (Nat.not_lt_zero k)⟩, fun h => h.1⟩
  | n + 1 => by
    show k0_pay37 (F := Ideal) (p n).x (AX p n) (ix2 a b) ≤ c ↔ _
    rw [pay37_le, AX_le a b c n]
    constructor
    · rintro ⟨⟨h0, h1⟩, h2⟩
      refine ⟨h0, fun k hk => ?_⟩
      rcases Nat.lt_succ_iff_lt_or_eq.1 hk with h | rfl
      · exact h1 k h
      · exact h2
    · rintro ⟨h0, h1⟩
      exact ⟨⟨h0, fun k hk => h1 k (Nat.lt_succ_of_lt hk)⟩, h1 n (Nat.lt_succ_self n)⟩

/-- The same of w. -/
theorem AW_le (a : Fin 8) (b : Fin 768) (c : EReal) : ∀ n : ℕ, AW p n (ix2 a b) ≤ c ↔
    0 ≤ c ∧ ∀ k < n, ∀ q : Fin 128, abs' ((p k).w (ix2 ⟨q.val * 8 + a.val, by omega⟩ b)) ≤ c
  | 0 => by
    show k0_pay25 (F := Ideal) (ix2 a b) ≤ c ↔ _
    rw [pay25_at]; exact ⟨fun h => ⟨h, fun k hk => absurd hk (Nat.not_lt_zero k)⟩, fun h => h.1⟩
  | n + 1 => by
    show k0_pay28 (F := Ideal) (p n).w (AW p n) (ix2 a b) ≤ c ↔ _
    rw [pay28_le, AW_le a b c n]
    constructor
    · rintro ⟨⟨h0, h1⟩, h2⟩
      refine ⟨h0, fun k hk => ?_⟩
      rcases Nat.lt_succ_iff_lt_or_eq.1 hk with h | rfl
      · exact h1 k h
      · exact h2
    · rintro ⟨h0, h1⟩
      exact ⟨⟨h0, fun k hk => h1 k (Nat.lt_succ_of_lt hk)⟩, h1 n (Nat.lt_succ_self n)⟩

/-- The same of dy. -/
theorem ADY_le (a : Fin 16) (b : Fin 768) (c : EReal) : ∀ n : ℕ, ADY p n (ix2 a b) ≤ c ↔
    0 ≤ c ∧ ∀ k < n, ∀ q : Fin 64, abs' ((p (4 * k)).dy (ix3 0 ⟨q.val * 16 + a.val, by omega⟩ b)) ≤ c
  | 0 => by
    show k0_pay27 (F := Ideal) k0_pay26 (ix2 a b) ≤ c ↔ _
    rw [pay27_at]; exact ⟨fun h => ⟨h, fun k hk => absurd hk (Nat.not_lt_zero k)⟩, fun h => h.1⟩
  | n + 1 => by
    show k0_pay33 (F := Ideal) (p (4 * n)).dy (ADY p n) (ix2 a b) ≤ c ↔ _
    rw [pay33_le, ADY_le a b c n]
    constructor
    · rintro ⟨⟨h0, h1⟩, h2⟩
      refine ⟨h0, fun k hk => ?_⟩
      rcases Nat.lt_succ_iff_lt_or_eq.1 hk with h | rfl
      · exact h1 k h
      · exact h2
    · rintro ⟨h0, h1⟩
      exact ⟨⟨h0, fun k hk => h1 k (Nat.lt_succ_of_lt hk)⟩, h1 n (Nat.lt_succ_self n)⟩

/-- An array at an index given by coordinates that are equal as numbers. -/
theorem ix3_congr {a b c : ℕ} (X : A3 a b c) {i i' : Fin a} {j j' : Fin b} {k k' : Fin c}
    (hi : i.val = i'.val) (hj : j.val = j'.val) (hk : k.val = k'.val) : X (ix3 i j k) = X (ix3 i' j' k') := by
  rw [Fin.ext hi, Fin.ext hj, Fin.ext hk]

theorem ix2_congr {a b : ℕ} (X : A2 a b) {i i' : Fin a} {j j' : Fin b}
    (hi : i.val = i'.val) (hj : j.val = j'.val) : X (ix2 i j) = X (ix2 i' j') := by
  rw [Fin.ext hi, Fin.ext hj]

/-- The history the kernel writes, from what bounds its running maximum. -/
theorem shift_x (A : Vec Ideal S16x1024 .bf16) (h : Vec Ideal S1x16 .f32) (M : EReal)
    (key : ∀ c : EReal, (∀ x : Fin 16 × Fin 1024, A (ix2 x.1 x.2) ≤ c) ↔ M ≤ c) :
    k0_pay3 (F := Ideal) A h = shifted h M := by
  funext j
  conv_lhs => rw [eq_ix2 j]
  pointwise [k0_pay3]
  refine shifted_eq h j _ _ (eq_of_forall_ge_iff fun c => ?_)
  rw [Finset.fold_max_le, bits_bot]
  exact ⟨fun H => (key c).1 fun x => H.2 x (Finset.mem_univ _), fun H => ⟨bot_le, fun x _ => (key c).2 H x⟩⟩

theorem shift_w (A : Vec Ideal S8x768 .f32) (h : Vec Ideal S1x16 .f32) (M : EReal)
    (key : ∀ c : EReal, (∀ x : Fin 8 × Fin 768, A (ix2 x.1 x.2) ≤ c) ↔ M ≤ c) :
    k0_pay4 (F := Ideal) A h = shifted h M := by
  funext j
  conv_lhs => rw [eq_ix2 j]
  pointwise [k0_pay4]
  refine shifted_eq h j _ _ (eq_of_forall_ge_iff fun c => ?_)
  rw [Finset.fold_max_le, bits_bot]
  exact ⟨fun H => (key c).1 fun x => H.2 x (Finset.mem_univ _), fun H => ⟨bot_le, fun x _ => (key c).2 H x⟩⟩

theorem shift_d (A : Vec Ideal S16x768 .bf16) (h : Vec Ideal S1x16 .f32) (M : EReal)
    (key : ∀ c : EReal, (∀ x : Fin 16 × Fin 768, A (ix2 x.1 x.2) ≤ c) ↔ M ≤ c) :
    k0_pay5 (F := Ideal) A h = shifted h M := by
  funext j
  conv_lhs => rw [eq_ix2 j]
  pointwise [k0_pay5]
  refine shifted_eq h j _ _ (eq_of_forall_ge_iff fun c => ?_)
  rw [Finset.fold_max_le, bits_bot]
  exact ⟨fun H => (key c).1 fun x => H.2 x (Finset.mem_univ _), fun H => ⟨bot_le, fun x _ => (key c).2 H x⟩⟩

/-- The blocks of x cover it. -/
theorem key_x (A : Vec Ideal S16x1024 .bf16) (E : ℕ → Vec Ideal S1x1024x1024 .bf16) (hA : ∀ (a : Fin 16) (b : Fin 1024) (c : EReal), A (ix2 a b) ≤ c ↔
    0 ≤ c ∧ ∀ k < 12, ∀ q : Fin 64, abs' (E k (ix3 0 ⟨q.val * 16 + a.val, by omega⟩ b)) ≤ c)
    (X : A3 3 1024 4096) (hX : ∀ k (hk : k < 12) (i : Fin 1024) (b : Fin 1024), E k (ix3 0 i b) = X (ix3 ⟨k / 4, by omega⟩ i
      ⟨1024 * (k % 4) + b.val, by omega⟩)) (c : EReal) :
    (∀ x : Fin 16 × Fin 1024, A (ix2 x.1 x.2) ≤ c) ↔ ∀ i, abs' (X i) ≤ c := by
  constructor
  · intro H i
    have h0 : (i 0).val < 3 := (i 0).isLt
    have h1 : (i 1).val < 1024 := (i 1).isLt
    have h2 : (i 2).val < 4096 := (i 2).isLt
    have hb := ((hA _ _ c).1 (H (⟨(i 1).val % 16, by omega⟩, ⟨(i 2).val % 1024, by omega⟩))).2
      (4 * (i 0).val + (i 2).val / 1024) (by omega) ⟨(i 1).val / 16, by omega⟩
    rw [hX _ (by omega)] at hb
    rw [eq_ix3 i]
    refine le_of_eq_of_le (congrArg abs' (ix3_congr X ?_ ?_ ?_)) hb
    · show (i 0).val = (4 * (i 0).val + (i 2).val / 1024) / 4
      omega
    · show (i 1).val = (i 1).val / 16 * 16 + (i 1).val % 16
      omega
    · show (i 2).val = 1024 * ((4 * (i 0).val + (i 2).val / 1024) % 4) + (i 2).val % 1024
      omega
  · intro H x
    refine (hA _ _ c).2 ⟨(abs'_nonneg _).trans (H (ix3 ⟨0, by omega⟩ ⟨0, by omega⟩ ⟨0, by omega⟩)), fun k hk q => ?_⟩
    rw [hX k hk]
    exact H _

/-- The blocks of w cover it. -/
theorem key_w (A : Vec Ideal S8x768 .f32) (E : ℕ → Vec Ideal S1024x768 .f32) (hA : ∀ (a : Fin 8) (b : Fin 768) (c : EReal), A (ix2 a b) ≤ c ↔
    0 ≤ c ∧ ∀ k < 4, ∀ q : Fin 128, abs' (E k (ix2 ⟨q.val * 8 + a.val, by omega⟩ b)) ≤ c)
    (W : A2 4096 768) (hW : ∀ k (hk : k < 4) (i : Fin 1024) (b : Fin 768), E k (ix2 i b) = W (ix2 ⟨1024 * k + i.val, by omega⟩ b)) (c : EReal) :
    (∀ x : Fin 8 × Fin 768, A (ix2 x.1 x.2) ≤ c) ↔ ∀ i, abs' (W i) ≤ c := by
  constructor
  · intro H i
    have h0 : (i 0).val < 4096 := (i 0).isLt
    have hb := ((hA _ _ c).1 (H (⟨(i 0).val % 8, by omega⟩, i 1))).2
      ((i 0).val / 1024) (by omega) ⟨(i 0).val % 1024 / 8, by omega⟩
    rw [hW _ (by omega)] at hb
    rw [eq_ix2 i]
    refine le_of_eq_of_le (congrArg abs' (ix2_congr W ?_ rfl)) hb
    show (i 0).val = 1024 * ((i 0).val / 1024) + ((i 0).val % 1024 / 8 * 8 + (i 0).val % 8)
    omega
  · intro H x
    refine (hA _ _ c).2 ⟨(abs'_nonneg _).trans (H (ix2 ⟨0, by omega⟩ ⟨0, by omega⟩)), fun k hk q => ?_⟩
    rw [hW k hk]
    exact H _

/-- The blocks of dy cover it. -/
theorem key_d (A : Vec Ideal S16x768 .bf16) (E : ℕ → Vec Ideal S1x1024x768 .bf16) (hA : ∀ (a : Fin 16) (b : Fin 768) (c : EReal), A (ix2 a b) ≤ c ↔
    0 ≤ c ∧ ∀ k < 3, ∀ q : Fin 64, abs' (E k (ix3 0 ⟨q.val * 16 + a.val, by omega⟩ b)) ≤ c)
    (D : A3 3 1024 768) (hD : ∀ k (hk : k < 3) (i : Fin 1024) (b : Fin 768), E k (ix3 0 i b) = D (ix3 ⟨k, hk⟩ i b)) (c : EReal) :
    (∀ x : Fin 16 × Fin 768, A (ix2 x.1 x.2) ≤ c) ↔ ∀ i, abs' (D i) ≤ c := by
  constructor
  · intro H i
    have h0 : (i 0).val < 3 := (i 0).isLt
    have h1 : (i 1).val < 1024 := (i 1).isLt
    have hb := ((hA _ _ c).1 (H (⟨(i 1).val % 16, by omega⟩, i 2))).2 (i 0).val h0 ⟨(i 1).val / 16, by omega⟩
    rw [hD _ h0] at hb
    rw [eq_ix3 i]
    refine le_of_eq_of_le (congrArg abs' (ix3_congr D rfl ?_ rfl)) hb
    show (i 1).val = (i 1).val / 16 * 16 + (i 1).val % 16
    omega
  · intro H x
    refine (hA _ _ c).2 ⟨(abs'_nonneg _).trans (H (ix3 ⟨0, by omega⟩ ⟨0, by omega⟩ ⟨0, by omega⟩)), fun k hk q => ?_⟩
    rw [hD k hk]
    exact H _

/-- x's new history. -/
theorem hist_x (X : A3 3 1024 4096) (hX : ∀ k (hk : k < 12) (i : Fin 1024) (b : Fin 1024), (p k).x (ix3 0 i b) = X (ix3 ⟨k / 4, by omega⟩ i
      ⟨1024 * (k % 4) + b.val, by omega⟩)) (h : Vec Ideal S1x16 .f32) :
    k0_pay3 (F := Ideal) (AX p 12) h = shifted h (amax X) :=
  shift_x _ h _ fun c => (key_x _ (fun k => (p k).x) (fun a b c => AX_le p a b c 12) X hX c).trans (amax_le X c).symm

/-- w's new history. -/
theorem hist_w (W : A2 4096 768) (hW : ∀ k (hk : k < 4) (i : Fin 1024) (b : Fin 768), (p k).w (ix2 i b) = W (ix2 ⟨1024 * k + i.val, by omega⟩ b))
    (h : Vec Ideal S1x16 .f32) :
    k0_pay4 (F := Ideal) (AW p 4) h = shifted h (amax W) :=
  shift_w _ h _ fun c => (key_w _ (fun k => (p k).w) (fun a b c => AW_le p a b c 4) W hW c).trans (amax_le W c).symm

/-- dy's new history. -/
theorem hist_d (D : A3 3 1024 768) (hD : ∀ k (hk : k < 3) (i : Fin 1024) (b : Fin 768), (p (4 * k)).dy (ix3 0 i b) = D (ix3 ⟨k, hk⟩ i b))
    (h : Vec Ideal S1x16 .f32) :
    k0_pay5 (F := Ideal) (ADY p 3) h = shifted h (amax D) :=
  shift_d _ h _ fun c => (key_d _ (fun k => (p (4 * k)).dy) (fun a b c => ADY_le p a b c 3) D hD c).trans (amax_le D c).symm

end Cert.Val
-- ==== Proof.Value.KSum.lean ====
module

public import proofs.«01_k».proof.Proof.Value.KAmax
public import Idealize.ShloMosaic.Lib.Pipeline.ValueKit

/-! What the kernel's blocks amount to, when the operands' blocks are parts of whole arrays. -/

@[expose] public section

noncomputable section

namespace Cert.Val

open Idealize.ShloMosaic Idealize.SL.Sem Cert.KernelIdeal Cert.KernelIdeal.Gen Cert.KernelIdeal.Hand

/-- The operands' blocks at the twelve points are the parts of whole arrays. -/
structure Parts (p : ℕ → Inp Ideal) (X : A3 3 1024 4096) (W : A2 4096 768) (D : A3 3 1024 768) (hx hw hd : A2 1 16) : Prop where
  x : ∀ k (hk : k < 12) (i : Fin 1024) (b : Fin 1024), (p k).x (ix3 0 i b) = X (ix3 ⟨k / 4, by omega⟩ i ⟨1024 * (k % 4) + b.val, by omega⟩)
  w : ∀ k (hk : k < 4) (i : Fin 1024) (b : Fin 768), (p k).w (ix2 i b) = W (ix2 ⟨1024 * k + i.val, by omega⟩ b)
  dy : ∀ k (hk : k < 12) (i : Fin 1024) (b : Fin 768), (p k).dy (ix3 0 i b) = D (ix3 ⟨k / 4, by omega⟩ i b)
  hx : ∀ n, (p n).hx = hx
  hw : ∀ n, (p n).hw = hw
  hdy : ∀ n, (p n).hdy = hd

variable {p : ℕ → Inp Ideal} {X : A3 3 1024 4096} {W : A2 4096 768} {D : A3 3 1024 768} {hx hw hd : A2 1 16} (P : Parts p X W D hx hw hd)

include P

theorem sw0 : SW p 0 = scale c43 hx := by
  have e : SW p 0 = k0_pay10 (F := Ideal) (k0_pay7 (p 0).hx) := rfl
  rw [e, P.hx, pay10_eq]
theorem sw1 : SW p 1 = scale c43 hw := by
  have e : SW p 1 = k0_pay14 (F := Ideal) (k0_pay12 (p 0).hw) 127#32 := rfl
  rw [e, P.hw, pay14_eq]
theorem sw2 : SW p 2 = scale c52 hd := by
  have e : SW p 2 = k0_pay22 (F := Ideal) (k0_pay16 (p 0).hdy) (k0_pay17 (p 0).hdy) k0_pay18 k0_pay19 := rfl
  rw [e, P.hdy, pay22_eq]
theorem sw3 : SW p 3 = inv c43 hx := by
  have e : SW p 3 = k0_pay11 (F := Ideal) (k0_pay8 (p 0).hx) k0_pay9 := rfl
  rw [e, P.hx, pay11_eq]
theorem sw4 : SW p 4 = inv c43 hw := by
  have e : SW p 4 = k0_pay15 (F := Ideal) (k0_pay12 (p 0).hw) := rfl
  rw [e, P.hw, pay15_eq]
theorem sw5 : SW p 5 = inv c52 hd := by
  have e : SW p 5 = k0_pay23 (F := Ideal) (k0_pay16 (p 0).hdy) (k0_pay17 (p 0).hdy) k0_pay18 k0_pay19 := rfl
  rw [e, P.hdy, pay23_eq]

/-- The coded weight of a row block. -/
theorem wq_at (k : ℕ) (hk : k < 4) (i : Fin 1024) (b : Fin 768) :
    WQ p k (ix2 i b) = qw W hw (ix2 ⟨1024 * k + i.val, by omega⟩ b) := by
  unfold WQ qw
  rw [pay30_apply, sw4 P, P.w k hk]

/-- The coded dy of a token block. -/
theorem dq_at (r : ℕ) (hr : r < 3) (i : Fin 1024) (b : Fin 768) :
    DQ p r (ix3 0 i b) = qd D hd (ix3 ⟨r, hr⟩ i b) := by
  unfold DQ qd
  rw [pay34_apply, sw5 P, P.dy (4 * r) (by omega)]
  exact congrArg (fun z => clip52 (z * _)) (ix3_congr D (by show 4 * r / 4 = r; omega) rfl rfl)

/-- The coded x of a point. -/
theorem xq_at (n : ℕ) (hn : n < 12) (i : Fin 1024) (b : Fin 1024) :
    clip43 ((p n).x (ix3 0 i b) * SW p 3) = qx X hx (ix3 ⟨n / 4, by omega⟩ i ⟨1024 * (n % 4) + b.val, by omega⟩) := by
  unfold qx
  rw [sw3 P, P.x n hn]

omit P in
/-- The sum of y as a sum over the column blocks. -/
theorem yp_range (r : ℕ) (a : Fin 1024) (b : Fin 768) : ∀ n : ℕ, YP p r n (ix2 a b)
    = ∑ s ∈ Finset.range n, ∑ k : Fin 1024, clip43 ((p (4 * r + s)).x (ix3 0 a k) * SW p 3) * WQ p s (ix2 k b)
  | 0 => by
    show k0_pay35 (F := Ideal) (ix2 a b) = _
    rw [pay35_apply, Finset.sum_range_zero]
  | n + 1 => by
    show k0_pay43 (F := Ideal) (k0_pay38 (p (4 * r + n)).x (SW p 3)) k0_pay39 (WQ p n) (YP p r n) (ix2 a b) = _
    rw [pay43_apply, yp_range r a b n, Finset.sum_range_succ]

omit P in
/-- The sum of dw as a sum over the token blocks. -/
theorem dwp_range (k : ℕ) (a : Fin 1024) (b : Fin 768) : ∀ n : ℕ, DWP p k n (ix2 a b)
    = ∑ s ∈ Finset.range n, ∑ r : Fin 1024, clip43 ((p (4 * s + k)).x (ix3 0 r a) * SW p 3) * DQ p s (ix3 0 r b)
  | 0 => by
    show k0_pay31 (F := Ideal) (ix2 a b) = _
    rw [pay31_apply, Finset.sum_range_zero]
  | n + 1 => by
    show k0_pay45 (F := Ideal) (k0_pay38 (p (4 * n + k)).x (SW p 3)) k0_pay39 (DQ p n) (DWP p k n) (ix2 a b) = _
    rw [pay45_apply, dwp_range k a b n, Finset.sum_range_succ]

/-- The whole sum of y of a token block. -/
theorem yp_at (r : ℕ) (hr : r < 3) (a : Fin 1024) (b : Fin 768) :
    YP p r 4 (ix2 a b) = ∑ k : Fin 4096, qx X hx (ix3 ⟨r, hr⟩ a k) * qw W hw (ix2 k b) := by
  rw [yp_range, Finset.sum_range]
  refine Fin.sum_mul_add_congr fun s k hl => ?_
  rw [xq_at P _ (by omega), wq_at P _ s.isLt]
  exact congrArg₂ (· * ·)
    (ix3_congr _ (by show (4 * r + s.val) / 4 = r; omega) rfl (by show 1024 * ((4 * r + s.val) % 4) + k.val = s.val * 1024 + k.val; omega))
    (ix2_congr _ (by show 1024 * s.val + k.val = s.val * 1024 + k.val; omega) rfl)

/-- The whole sum of dw of a row block. -/
theorem dwp_at (k : ℕ) (hk : k < 4) (a : Fin 1024) (b : Fin 768) :
    DWP p k 3 (ix2 a b) = ∑ r : Fin 3072, tok (qx X hx) r.val r.isLt ⟨1024 * k + a.val, by omega⟩ * tok (qd D hd) r.val r.isLt b := by
  rw [dwp_range, Finset.sum_range]
  refine Fin.sum_mul_add_congr fun s r hl => ?_
  rw [xq_at P _ (by omega), dq_at P _ s.isLt]
  unfold tok
  exact congrArg₂ (· * ·)
    (ix3_congr _ (by show (4 * s.val + k) / 4 = (s.val * 1024 + r.val) / 1024; omega) (by show r.val = (s.val * 1024 + r.val) % 1024; omega)
      (by show 1024 * ((4 * s.val + k) % 4) + a.val = 1024 * k + a.val; omega))
    (ix3_congr _ (by show s.val = (s.val * 1024 + r.val) / 1024; omega) (by show r.val = (s.val * 1024 + r.val) % 1024; omega) rfl)

end Cert.Val
-- ==== Proof.Value.KArr.lean ====
module

public import proofs.«01_k».proof.Proof.KernelIdeal.Dats
public import proofs.«01_k».proof.Proof.Value.KSum

/-! The kernel's twelve result arrays are the specification's. -/

@[expose] public section

noncomputable section

namespace Cert.Val.K

open Idealize.ShloMosaic Idealize.ShloMosaic.TcCoe Idealize.SL.Sem Cert.KernelIdeal Cert.KernelIdeal.Gen Cert.KernelIdeal.Hand
open Idealize.ShloMosaic.Pipeline (Dat)

theorem lt12 (t : Fin grid0.N) : t.val < 12 := t.isLt

/-! Which block a window is at, at each point. -/

theorem i0 : ∀ t : Fin grid0.N, win0_0.index t 0 = t.val / 4 ∧ win0_0.index t 1 = 0 ∧ win0_0.index t 2 = t.val % 4 := by decide +kernel
theorem i1 : ∀ t : Fin grid0.N, win0_1.index t 0 = min t.val 3 ∧ win0_1.index t 1 = 0 := by decide +kernel
theorem i2 : ∀ t : Fin grid0.N, win0_2.index t 0 = t.val / 4 ∧ win0_2.index t 1 = 0 ∧ win0_2.index t 2 = 0 := by decide +kernel
theorem i6 : ∀ t : Fin grid0.N, win0_6.index t 0 = t.val / 4 ∧ win0_6.index t 1 = 0 ∧ win0_6.index t 2 = 0 := by decide +kernel
theorem i7 : ∀ t : Fin grid0.N, win0_7.index t 0 = t.val / 4 ∧ win0_7.index t 1 = 0 ∧ win0_7.index t 2 = t.val % 4 := by decide +kernel
theorem i8 : ∀ t : Fin grid0.N, 8 ≤ t.val → win0_8.index t 0 = t.val % 4 ∧ win0_8.index t 1 = 0 := by decide +kernel
theorem i12 : ∀ t : Fin grid0.N, win0_12.index t 0 = t.val / 4 ∧ win0_12.index t 1 = 0 ∧ win0_12.index t 2 = t.val % 4 := by decide +kernel
theorem i14 : ∀ t : Fin grid0.N, win0_14.index t 0 = min t.val 3 ∧ win0_14.index t 1 = 0 := by decide +kernel
theorem i16 : ∀ t : Fin grid0.N, win0_16.index t 0 = t.val / 4 ∧ win0_16.index t 1 = 0 ∧ win0_16.index t 2 = 0 := by decide +kernel

/-! Where an element of a block lies in its array. -/

theorem e0 (t : Fin grid0.N) (y : S1x1024x1024.Idx) : ((win0_0.rect t).emb y : S3x1024x4096.Idx)
    = ix3 ⟨t.val / 4, by have := lt12 t; omega⟩ (y 1) ⟨1024 * (t.val % 4) + (y 2).val, by have : (y 2).val < 1024 := (y 2).isLt; omega⟩ := by
  have h0 : (y 0).val < 1 := (y 0).isLt
  funext a
  match a with
  | ⟨0, _⟩ =>
    refine Fin.ext ((Pipeline.Window.rect_emb_val win0_0 t y 0).trans ?_)
    rw [(i0 t).1]; show t.val / 4 * 1 + (y 0).val = t.val / 4; omega
  | ⟨1, _⟩ =>
    refine Fin.ext ((Pipeline.Window.rect_emb_val win0_0 t y 1).trans ?_)
    rw [(i0 t).2.1]; show 0 * 1024 + (y 1).val = (y 1).val; omega
  | ⟨2, _⟩ =>
    refine Fin.ext ((Pipeline.Window.rect_emb_val win0_0 t y 2).trans ?_)
    rw [(i0 t).2.2]; show t.val % 4 * 1024 + (y 2).val = 1024 * (t.val % 4) + (y 2).val; omega

theorem e1 (t : Fin grid0.N) (y : S1024x768.Idx) : ((win0_1.rect t).emb y : S4096x768.Idx)
    = ix2 ⟨1024 * (min t.val 3) + (y 0).val, by have : (y 0).val < 1024 := (y 0).isLt; omega⟩ (y 1) := by
  funext a
  match a with
  | ⟨0, _⟩ =>
    refine Fin.ext ((Pipeline.Window.rect_emb_val win0_1 t y 0).trans ?_)
    rw [(i1 t).1]; show min t.val 3 * 1024 + (y 0).val = 1024 * (min t.val 3) + (y 0).val; omega
  | ⟨1, _⟩ =>
    refine Fin.ext ((Pipeline.Window.rect_emb_val win0_1 t y 1).trans ?_)
    rw [(i1 t).2]; show 0 * 768 + (y 1).val = (y 1).val; omega

theorem e2 (t : Fin grid0.N) (y : S1x1024x768.Idx) : ((win0_2.rect t).emb y : S3x1024x768.Idx)
    = ix3 ⟨t.val / 4, by have := lt12 t; omega⟩ (y 1) (y 2) := by
  have h0 : (y 0).val < 1 := (y 0).isLt
  funext a
  match a with
  | ⟨0, _⟩ =>
    refine Fin.ext ((Pipeline.Window.rect_emb_val win0_2 t y 0).trans ?_)
    rw [(i2 t).1]; show t.val / 4 * 1 + (y 0).val = t.val / 4; omega
  | ⟨1, _⟩ =>
    refine Fin.ext ((Pipeline.Window.rect_emb_val win0_2 t y 1).trans ?_)
    rw [(i2 t).2.1]; show 0 * 1024 + (y 1).val = (y 1).val; omega
  | ⟨2, _⟩ =>
    refine Fin.ext ((Pipeline.Window.rect_emb_val win0_2 t y 2).trans ?_)
    rw [(i2 t).2.2]; show 0 * 768 + (y 2).val = (y 2).val; omega

theorem e6 (t : Fin grid0.N) (y : S128x8x768.Idx) : ((win0_6.rect t).emb y : S384x8x768.Idx)
    = ix3 ⟨128 * (t.val / 4) + (y 0).val, by have := lt12 t; have : (y 0).val < 128 := (y 0).isLt; omega⟩ (y 1) (y 2) := by
  have h0 : (y 0).val < 128 := (y 0).isLt
  funext a
  match a with
  | ⟨0, _⟩ =>
    refine Fin.ext ((Pipeline.Window.rect_emb_val win0_6 t y 0).trans ?_)
    rw [(i6 t).1]; show t.val / 4 * 128 + (y 0).val = 128 * (t.val / 4) + (y 0).val; omega
  | ⟨1, _⟩ =>
    refine Fin.ext ((Pipeline.Window.rect_emb_val win0_6 t y 1).trans ?_)
    rw [(i6 t).2.1]; show 0 * 8 + (y 1).val = (y 1).val; omega
  | ⟨2, _⟩ =>
    refine Fin.ext ((Pipeline.Window.rect_emb_val win0_6 t y 2).trans ?_)
    rw [(i6 t).2.2]; show 0 * 768 + (y 2).val = (y 2).val; omega

theorem e7 (t : Fin grid0.N) (y : S128x8x1024.Idx) : ((win0_7.rect t).emb y : S384x8x4096.Idx)
    = ix3 ⟨128 * (t.val / 4) + (y 0).val, by have := lt12 t; have : (y 0).val < 128 := (y 0).isLt; omega⟩ (y 1) ⟨1024 * (t.val % 4) + (y 2).val, by have : (y 2).val < 1024 := (y 2).isLt; omega⟩ := by
  have h0 : (y 0).val < 128 := (y 0).isLt
  funext a
  match a with
  | ⟨0, _⟩ =>
    refine Fin.ext ((Pipeline.Window.rect_emb_val win0_7 t y 0).trans ?_)
    rw [(i7 t).1]; show t.val / 4 * 128 + (y 0).val = 128 * (t.val / 4) + (y 0).val; omega
  | ⟨1, _⟩ =>
    refine Fin.ext ((Pipeline.Window.rect_emb_val win0_7 t y 1).trans ?_)
    rw [(i7 t).2.1]; show 0 * 8 + (y 1).val = (y 1).val; omega
  | ⟨2, _⟩ =>
    refine Fin.ext ((Pipeline.Window.rect_emb_val win0_7 t y 2).trans ?_)
    rw [(i7 t).2.2]; show t.val % 4 * 1024 + (y 2).val = 1024 * (t.val % 4) + (y 2).val; omega

theorem e8 (t : Fin grid0.N) (ht : 8 ≤ t.val) (y : S1024x768.Idx) : ((win0_8.rect t).emb y : S4096x768.Idx)
    = ix2 ⟨1024 * (t.val % 4) + (y 0).val, by have : (y 0).val < 1024 := (y 0).isLt; omega⟩ (y 1) := by
  funext a
  match a with
  | ⟨0, _⟩ =>
    refine Fin.ext ((Pipeline.Window.rect_emb_val win0_8 t y 0).trans ?_)
    rw [(i8 t ht).1]; show t.val % 4 * 1024 + (y 0).val = 1024 * (t.val % 4) + (y 0).val; omega
  | ⟨1, _⟩ =>
    refine Fin.ext ((Pipeline.Window.rect_emb_val win0_8 t y 1).trans ?_)
    rw [(i8 t ht).2]; show 0 * 768 + (y 1).val = (y 1).val; omega

theorem e12 (t : Fin grid0.N) (y : S1x1024x1024.Idx) : ((win0_12.rect t).emb y : S3x1024x4096.Idx)
    = ix3 ⟨t.val / 4, by have := lt12 t; omega⟩ (y 1) ⟨1024 * (t.val % 4) + (y 2).val, by have : (y 2).val < 1024 := (y 2).isLt; omega⟩ := by
  have h0 : (y 0).val < 1 := (y 0).isLt
  funext a
  match a with
  | ⟨0, _⟩ =>
    refine Fin.ext ((Pipeline.Window.rect_emb_val win0_12 t y 0).trans ?_)
    rw [(i12 t).1]; show t.val / 4 * 1 + (y 0).val = t.val / 4; omega
  | ⟨1, _⟩ =>
    refine Fin.ext ((Pipeline.Window.rect_emb_val win0_12 t y 1).trans ?_)
    rw [(i12 t).2.1]; show 0 * 1024 + (y 1).val = (y 1).val; omega
  | ⟨2, _⟩ =>
    refine Fin.ext ((Pipeline.Window.rect_emb_val win0_12 t y 2).trans ?_)
    rw [(i12 t).2.2]; show t.val % 4 * 1024 + (y 2).val = 1024 * (t.val % 4) + (y 2).val; omega

theorem e14 (t : Fin grid0.N) (y : S1024x768.Idx) : ((win0_14.rect t).emb y : S4096x768.Idx)
    = ix2 ⟨1024 * (min t.val 3) + (y 0).val, by have : (y 0).val < 1024 := (y 0).isLt; omega⟩ (y 1) := by
  funext a
  match a with
  | ⟨0, _⟩ =>
    refine Fin.ext ((Pipeline.Window.rect_emb_val win0_14 t y 0).trans ?_)
    rw [(i14 t).1]; show min t.val 3 * 1024 + (y 0).val = 1024 * (min t.val 3) + (y 0).val; omega
  | ⟨1, _⟩ =>
    refine Fin.ext ((Pipeline.Window.rect_emb_val win0_14 t y 1).trans ?_)
    rw [(i14 t).2]; show 0 * 768 + (y 1).val = (y 1).val; omega

theorem e16 (t : Fin grid0.N) (y : S1x1024x768.Idx) : ((win0_16.rect t).emb y : S3x1024x768.Idx)
    = ix3 ⟨t.val / 4, by have := lt12 t; omega⟩ (y 1) (y 2) := by
  have h0 : (y 0).val < 1 := (y 0).isLt
  funext a
  match a with
  | ⟨0, _⟩ =>
    refine Fin.ext ((Pipeline.Window.rect_emb_val win0_16 t y 0).trans ?_)
    rw [(i16 t).1]; show t.val / 4 * 1 + (y 0).val = t.val / 4; omega
  | ⟨1, _⟩ =>
    refine Fin.ext ((Pipeline.Window.rect_emb_val win0_16 t y 1).trans ?_)
    rw [(i16 t).2.1]; show 0 * 1024 + (y 1).val = (y 1).val; omega
  | ⟨2, _⟩ =>
    refine Fin.ext ((Pipeline.Window.rect_emb_val win0_16 t y 2).trans ?_)
    rw [(i16 t).2.2]; show 0 * 768 + (y 2).val = (y 2).val; omega

variable (m : (ℓ : Loc nD τ sig) → Buf (Elt Ideal) ℓ) (c : Dev nD)

/-! The operands' blocks. -/

theorem blk0 (t : Fin grid0.N) (y : S1x1024x1024.Idx) : (iblk m c 0 t : Vec Ideal S1x1024x1024 .bf16) y
    = (V m c main_arg0 : A3 3 1024 4096) ((win0_0.rect t).emb y) := rfl
theorem blk1 (t : Fin grid0.N) (y : S1024x768.Idx) : (iblk m c 1 t : Vec Ideal S1024x768 .f32) y
    = (V m c main_arg1 : A2 4096 768) ((win0_1.rect t).emb y) := rfl
theorem blk2 (t : Fin grid0.N) (y : S1x1024x768.Idx) : (iblk m c 2 t : Vec Ideal S1x1024x768 .bf16) y
    = (V m c main_arg2 : A3 3 1024 768) ((win0_2.rect t).emb y) := rfl
theorem blk3 (t : Fin cfg0.N) : (iblk m c 3 t : Vec Ideal S1x16 .f32) = V m c main_v0 := by
  have h : ∀ t : Fin grid0.N, ∀ a, win0_3.index t a = 0 := by decide +kernel
  funext j
  show V m c main_v0 ((win0_3.rect t).emb j) = V m c main_v0 j
  congr 1; funext a; apply Fin.ext
  exact Pipeline.Window.rect_emb_val_of_index_zero win0_3 t a (h t a) j
theorem blk4 (t : Fin cfg0.N) : (iblk m c 4 t : Vec Ideal S1x16 .f32) = V m c main_v1 := by
  have h : ∀ t : Fin grid0.N, ∀ a, win0_4.index t a = 0 := by decide +kernel
  funext j
  show V m c main_v1 ((win0_4.rect t).emb j) = V m c main_v1 j
  congr 1; funext a; apply Fin.ext
  exact Pipeline.Window.rect_emb_val_of_index_zero win0_4 t a (h t a) j
theorem blk5 (t : Fin cfg0.N) : (iblk m c 5 t : Vec Ideal S1x16 .f32) = V m c main_v2 := by
  have h : ∀ t : Fin grid0.N, ∀ a, win0_5.index t a = 0 := by decide +kernel
  funext j
  show V m c main_v2 ((win0_5.rect t).emb j) = V m c main_v2 j
  congr 1; funext a; apply Fin.ext
  exact Pipeline.Window.rect_emb_val_of_index_zero win0_5 t a (h t a) j

theorem pt_lt (k : ℕ) (hk : k < 12) : (pt k).val = k := Nat.mod_eq_of_lt hk

/-- The blocks the twelve points are given are the parts of the operands. -/
theorem parts : Parts (pin m c) (V m c main_arg0) (V m c main_arg1) (V m c main_arg2) (V m c main_v0) (V m c main_v1) (V m c main_v2) where
  x k hk i b := by
    refine (blk0 m c (pt k) (ix3 0 i b)).trans ((congrArg (V m c main_arg0 : A3 3 1024 4096) (e0 (pt k) (ix3 0 i b))).trans ?_)
    have e := pt_lt k hk
    exact ix3_congr _ (by show (pt k).val / 4 = k / 4; rw [e]) rfl (by show 1024 * ((pt k).val % 4) + b.val = 1024 * (k % 4) + b.val; rw [e])
  w k hk i b := by
    refine (blk1 m c (pt k) (ix2 i b)).trans ((congrArg (V m c main_arg1 : A2 4096 768) (e1 (pt k) (ix2 i b))).trans ?_)
    have e := pt_lt k (by omega)
    exact ix2_congr _ (by show 1024 * (min (pt k).val 3) + i.val = 1024 * k + i.val; rw [e]; omega) rfl
  dy k hk i b := by
    refine (blk2 m c (pt k) (ix3 0 i b)).trans ((congrArg (V m c main_arg2 : A3 3 1024 768) (e2 (pt k) (ix3 0 i b))).trans ?_)
    have e := pt_lt k hk
    exact ix3_congr _ (by show (pt k).val / 4 = k / 4; rw [e]) rfl rfl
  hx n := blk3 m c (pt n)
  hw n := blk4 m c (pt n)
  hdy n := blk5 m c (pt n)

/-! The results. -/

/-- The kernel's array of y. -/
theorem arr6 : (dats m 0 c).arrAt 6 cfg0.N = (yv (V m c main_arg0) (V m c main_arg1) (V m c main_v0) (V m c main_v1) : S384x8x768.Idx → EReal) := by
  refine (dats m 0 c).arrAt_eq_of_covers 6 _ (by decide +kernel) fun t hf y => ?_
  show (dats m 0 c).after 6 t y = yv (V m c main_arg0) (V m c main_arg1) (V m c main_v0) (V m c main_v1) ((win0_6.rect t).emb y)
  rw [after_6]
  refine (pay2_apply _ _ _ y).trans (Eq.trans ?_ (congrArg (yv (V m c main_arg0) (V m c main_arg1) (V m c main_v0) (V m c main_v1)) (e6 t y)).symm)
  have P := parts m c
  have h := lt12 t
  have h0 : (y 0).val < 128 := (y 0).isLt
  have h1 : (y 1).val < 8 := (y 1).isLt
  rw [sw0 P, sw1 P]
  refine congrArg (· * _) ((yp_at P (t.val / 4) (by omega) _ _).trans (Finset.sum_congr rfl fun k _ => ?_))
  refine congrArg (· * _) (ix3_congr _ ?_ ?_ rfl)
  · show t.val / 4 = ((128 * (t.val / 4) + (y 0).val) * 8 + (y 1).val) / 1024; omega
  · show (y 0).val * 8 + (y 1).val = ((128 * (t.val / 4) + (y 0).val) * 8 + (y 1).val) % 1024; omega

/-- The kernel's array of the gradient of x. -/
theorem arr7 : (dats m 0 c).arrAt 7 cfg0.N = (dxv (V m c main_arg1) (V m c main_arg2) (V m c main_v1) (V m c main_v2) : S384x8x4096.Idx → EReal) := by
  refine (dats m 0 c).arrAt_eq_of_covers 7 _ (by decide +kernel) fun t hf y => ?_
  show (dats m 0 c).after 7 t y = dxv (V m c main_arg1) (V m c main_arg2) (V m c main_v1) (V m c main_v2) ((win0_7.rect t).emb y)
  rw [after_7]
  refine (pay44_apply _ _ _ _ y).trans (Eq.trans ?_ (congrArg (dxv (V m c main_arg1) (V m c main_arg2) (V m c main_v1) (V m c main_v2)) (e7 t y)).symm)
  have P := parts m c
  have h := lt12 t
  have h0 : (y 0).val < 128 := (y 0).isLt
  have h1 : (y 1).val < 8 := (y 1).isLt
  rw [sw2 P, sw1 P]
  refine congrArg (· * _) (Finset.sum_congr rfl fun k _ => ?_)
  refine congrArg₂ (· * ·) ((dq_at P (t.val / 4) (by omega) _ k).trans (ix3_congr _ ?_ ?_ rfl)) (wq_at P (t.val % 4) (by omega) (y 2) k)
  · show t.val / 4 = ((128 * (t.val / 4) + (y 0).val) * 8 + (y 1).val) / 1024; omega
  · show (y 0).val * 8 + (y 1).val = ((128 * (t.val / 4) + (y 0).val) * 8 + (y 1).val) % 1024; omega

/-- The kernel's array of the gradient of w. -/
theorem arr8 : (dats m 0 c).arrAt 8 cfg0.N = (dwv (V m c main_arg0) (V m c main_arg2) (V m c main_v0) (V m c main_v2) : S4096x768.Idx → EReal) := by
  refine (dats m 0 c).arrAt_eq_of_covers 8 _ (by decide +kernel) fun t hf y => ?_
  show (dats m 0 c).after 8 t y = dwv (V m c main_arg0) (V m c main_arg2) (V m c main_v0) (V m c main_v2) ((win0_8.rect t).emb y)
  rw [after_8]
  have ht : 8 ≤ t.val := of_decide_eq_true ((flush_8 t).symm.trans hf)
  refine (pay1_apply _ _ _ y).trans (Eq.trans ?_ (congrArg (dwv (V m c main_arg0) (V m c main_arg2) (V m c main_v0) (V m c main_v2)) (e8 t ht y)).symm)
  have P := parts m c
  rw [sw0 P, sw2 P]
  exact congrArg (· * _) ((congrArg _ (eq_ix2 y)).trans (dwp_at P (t.val % 4) (by omega) (y 0) (y 1)))

/-- The kernel's array of x's history. -/
theorem arr9 : (dats m 0 c).arrAt 9 cfg0.N = (shifted (V m c main_v0) (amax (s := S3x1024x4096) (V m c main_arg0)) : S1x16.Idx → EReal) := by
  refine (dats m 0 c).arrAt_eq_of_after_last 9 t0_11 (by decide +kernel) _ fun j => ?_
  show (dats m 0 c).after 9 t0_11 j = (shifted (V m c main_v0) (amax (s := S3x1024x4096) (V m c main_arg0))) j
  have P := parts m c
  rw [after_9, P.hx, hist_x _ _ P.x]

/-- The kernel's array of w's history. -/
theorem arr10 : (dats m 0 c).arrAt 10 cfg0.N = (shifted (V m c main_v1) (amax (s := S4096x768) (V m c main_arg1)) : S1x16.Idx → EReal) := by
  refine (dats m 0 c).arrAt_eq_of_after_last 10 t0_11 (by decide +kernel) _ fun j => ?_
  show (dats m 0 c).after 10 t0_11 j = (shifted (V m c main_v1) (amax (s := S4096x768) (V m c main_arg1))) j
  have P := parts m c
  rw [after_10, P.hw, hist_w _ _ P.w]

/-- The kernel's array of dy's history. -/
theorem arr11 : (dats m 0 c).arrAt 11 cfg0.N = (shifted (V m c main_v2) (amax (s := S3x1024x768) (V m c main_arg2)) : S1x16.Idx → EReal) := by
  refine (dats m 0 c).arrAt_eq_of_after_last 11 t0_11 (by decide +kernel) _ fun j => ?_
  show (dats m 0 c).after 11 t0_11 j = (shifted (V m c main_v2) (amax (s := S3x1024x768) (V m c main_arg2))) j
  have P := parts m c
  have hD : ∀ k (hk : k < 3) (i : Fin 1024) (b : Fin 768), (pin m c (4 * k)).dy (ix3 0 i b) = (V m c main_arg2 : A3 3 1024 768) (ix3 ⟨k, hk⟩ i b) :=
    fun k hk i b => (P.dy (4 * k) (by omega) i b).trans (ix3_congr _ (by show 4 * k / 4 = k; omega) rfl rfl)
  rw [after_11, P.hdy, hist_d _ _ hD]

/-- The kernel's array of x's codes. -/
theorem arr12 : (dats m 0 c).arrAt 12 cfg0.N = (qx (V m c main_arg0) (V m c main_v0) : S3x1024x4096.Idx → EReal) := by
  refine (dats m 0 c).arrAt_eq_of_covers 12 _ (by decide +kernel) fun t hf y => ?_
  show (dats m 0 c).after 12 t y = qx (V m c main_arg0) (V m c main_v0) ((win0_12.rect t).emb y)
  rw [after_12]
  refine (pay41_apply (pin m c t.val).x _ y).trans (Eq.trans ?_ (congrArg (qx (V m c main_arg0) (V m c main_v0)) (e12 t y)).symm)
  refine Eq.trans ?_ (xq_at (parts m c) t.val (lt12 t) (y 1) (y 2))
  exact congrArg (fun i => clip43 ((pin m c t.val).x i * SW (pin m c) 3)) (ix3_unit y).symm

/-- The kernel's array of x's scale. -/
theorem arr13 : (dats m 0 c).arrAt 13 cfg0.N = (fun _ => scale c43 (V m c main_v0) : S1x1.Idx → EReal) := by
  refine (dats m 0 c).arrAt_eq_of_after_last 13 t0_11 (by decide +kernel) _ fun j => ?_
  show (dats m 0 c).after 13 t0_11 j = (fun _ => scale c43 (V m c main_v0)) j
  rw [after_13, (parts m c).hx, pay7_eq]

/-- The kernel's array of w's codes. -/
theorem arr14 : (dats m 0 c).arrAt 14 cfg0.N = (qw (V m c main_arg1) (V m c main_v1) : S4096x768.Idx → EReal) := by
  refine (dats m 0 c).arrAt_eq_of_covers 14 _ (by decide +kernel) fun t hf y => ?_
  show (dats m 0 c).after 14 t y = qw (V m c main_arg1) (V m c main_v1) ((win0_14.rect t).emb y)
  rw [after_14]
  have P := parts m c
  refine (pay29_apply _ _ y).trans (Eq.trans ?_ (congrArg (qw (V m c main_arg1) (V m c main_v1)) (e14 t y)).symm)
  rw [sw4 P]
  exact congrArg (fun z => clip43 (z * inv c43 (V m c main_v1))) ((congrArg _ (eq_ix2 y)).trans (P.w (min t.val 3) (by omega) (y 0) (y 1)))

/-- The kernel's array of w's scale. -/
theorem arr15 : (dats m 0 c).arrAt 15 cfg0.N = (fun _ => scale c43 (V m c main_v1) : S1x1.Idx → EReal) := by
  refine (dats m 0 c).arrAt_eq_of_after_last 15 t0_11 (by decide +kernel) _ fun j => ?_
  show (dats m 0 c).after 15 t0_11 j = (fun _ => scale c43 (V m c main_v1)) j
  rw [after_15, (parts m c).hw, pay13_eq]

/-- The kernel's array of dy's codes. -/
theorem arr16 : (dats m 0 c).arrAt 16 cfg0.N = (qd (V m c main_arg2) (V m c main_v2) : S3x1024x768.Idx → EReal) := by
  refine (dats m 0 c).arrAt_eq_of_covers 16 _ (by decide +kernel) fun t hf y => ?_
  show (dats m 0 c).after 16 t y = qd (V m c main_arg2) (V m c main_v2) ((win0_16.rect t).emb y)
  rw [after_16]
  have h := lt12 t
  refine Eq.trans ?_ (congrArg (qd (V m c main_arg2) (V m c main_v2)) (e16 t y)).symm
  exact (congrArg _ (ix3_unit y).symm).trans (dq_at (parts m c) (t.val / 4) (by omega) (y 1) (y 2))

/-- The kernel's array of dy's scale. -/
theorem arr17 : (dats m 0 c).arrAt 17 cfg0.N = (fun _ => scale c52 (V m c main_v2) : S1x1.Idx → EReal) := by
  refine (dats m 0 c).arrAt_eq_of_after_last 17 t0_11 (by decide +kernel) _ fun j => ?_
  show (dats m 0 c).after 17 t0_11 j = (fun _ => scale c52 (V m c main_v2)) j
  rw [after_17, (parts m c).hdy, pay21_eq]

end Cert.Val.K
-- ==== Proof.Value.Row.lean ====
module

public import proofs.«01_k».proof.Proof.Value.Spec

/-! A history of sixteen, as a row. -/

@[expose] public section

noncomputable section

namespace Cert.Val

open Idealize.ShloMosaic Idealize.SL.Sem Idealize.ShloMosaic.Pointwise

theorem row16_casts : (⟨1, ![16]⟩ : Shape).ShapeCasts ⟨2, ![1, 16]⟩ := by decide

/-- A history of sixteen entries as an array of one row. -/
def row16 (h : (⟨1, ![16]⟩ : Shape).Idx → EReal) : A2 1 16 := shapeCast ⟨2, ![1, 16]⟩ h row16_casts

end Cert.Val
-- ==== Proof.Value.KRun.lean ====
module

public import proofs.«01_k».proof.Proof.KernelIdeal.Run
public import proofs.«01_k».proof.Proof.Value.KArr
public import proofs.«01_k».proof.Proof.Value.Row

/-! What a run of the kernel ends with: the specification of the arguments. -/

@[expose] public section

noncomputable section

namespace Cert.Val.K

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-! The histories the pipeline finds are the arguments', as rows. -/

theorem row_v0 : (V m c main_v0 : A2 1 16) = row16 (m ((c.tc : Thread nD τ).loc main_arg3)) := by
  show StableHlo.after hostOps0 (fun b => m (c, b)) (Proc.devRef .tc main_v0) = _
  simp only [hostOps0, StableHlo.after_cons, StableHlo.after_nil]
  rw [StableHlo.reshape_result_ne (h := by decide)]
  rw [StableHlo.reshape_result_ne (h := by decide)]
  rw [StableHlo.reshape_result]
  rfl
theorem row_v1 : (V m c main_v1 : A2 1 16) = row16 (m ((c.tc : Thread nD τ).loc main_arg4)) := by
  show StableHlo.after hostOps0 (fun b => m (c, b)) (Proc.devRef .tc main_v1) = _
  simp only [hostOps0, StableHlo.after_cons, StableHlo.after_nil]
  rw [StableHlo.reshape_result_ne (h := by decide)]
  rw [StableHlo.reshape_result]
  rfl
theorem row_v2 : (V m c main_v2 : A2 1 16) = row16 (m ((c.tc : Thread nD τ).loc main_arg5)) := by
  show StableHlo.after hostOps0 (fun b => m (c, b)) (Proc.devRef .tc main_v2) = _
  simp only [hostOps0, StableHlo.after_cons, StableHlo.after_nil]
  rw [StableHlo.reshape_result]
  rfl

/-- Every run ends with the twelve results the specification gives for the arguments, and the arguments unchanged. -/
theorem run : θ_run (defs (F := Ideal)) (onTc (τ := τ) (main (F := Ideal))) ⟨m, fun _ => 0, ρ⟩ (fun r => ∀ c : Dev nD,
    r.2.mem ((c.tc : Thread nD τ).loc main_v3_0) = (yv (m ((c.tc : Thread nD τ).loc main_arg0)) (m ((c.tc : Thread nD τ).loc main_arg1)) (row16 (m ((c.tc : Thread nD τ).loc main_arg3))) (row16 (m ((c.tc : Thread nD τ).loc main_arg4))) : A3 384 8 768)
    ∧ r.2.mem ((c.tc : Thread nD τ).loc main_v3_1) = (dxv (m ((c.tc : Thread nD τ).loc main_arg1)) (m ((c.tc : Thread nD τ).loc main_arg2)) (row16 (m ((c.tc : Thread nD τ).loc main_arg4))) (row16 (m ((c.tc : Thread nD τ).loc main_arg5))) : A3 384 8 4096)
    ∧ r.2.mem ((c.tc : Thread nD τ).loc main_v3_2) = (dwv (m ((c.tc : Thread nD τ).loc main_arg0)) (m ((c.tc : Thread nD τ).loc main_arg2)) (row16 (m ((c.tc : Thread nD τ).loc main_arg3))) (row16 (m ((c.tc : Thread nD τ).loc main_arg5))) : A2 4096 768)
    ∧ r.2.mem ((c.tc : Thread nD τ).loc main_v3_3) = (shifted (row16 (m ((c.tc : Thread nD τ).loc main_arg3))) (amax (s := S3x1024x4096) (m ((c.tc : Thread nD τ).loc main_arg0))) : A2 1 16)
    ∧ r.2.mem ((c.tc : Thread nD τ).loc main_v3_4) = (shifted (row16 (m ((c.tc : Thread nD τ).loc main_arg4))) (amax (s := S4096x768) (m ((c.tc : Thread nD τ).loc main_arg1))) : A2 1 16)
    ∧ r.2.mem ((c.tc : Thread nD τ).loc main_v3_5) = (shifted (row16 (m ((c.tc : Thread nD τ).loc main_arg5))) (amax (s := S3x1024x768) (m ((c.tc : Thread nD τ).loc main_arg2))) : A2 1 16)
    ∧ r.2.mem ((c.tc : Thread nD τ).loc main_v3_6) = (qx (m ((c.tc : Thread nD τ).loc main_arg0)) (row16 (m ((c.tc : Thread nD τ).loc main_arg3))) : A3 3 1024 4096)
    ∧ r.2.mem ((c.tc : Thread nD τ).loc main_v3_7) = (fun _ => scale c43 (row16 (m ((c.tc : Thread nD τ).loc main_arg3))) : A2 1 1)
    ∧ r.2.mem ((c.tc : Thread nD τ).loc main_v3_8) = (qw (m ((c.tc : Thread nD τ).loc main_arg1)) (row16 (m ((c.tc : Thread nD τ).loc main_arg4))) : A2 4096 768)
    ∧ r.2.mem ((c.tc : Thread nD τ).loc main_v3_9) = (fun _ => scale c43 (row16 (m ((c.tc : Thread nD τ).loc main_arg4))) : A2 1 1)
    ∧ r.2.mem ((c.tc : Thread nD τ).loc main_v3_10) = (qd (m ((c.tc : Thread nD τ).loc main_arg2)) (row16 (m ((c.tc : Thread nD τ).loc main_arg5))) : A3 3 1024 768)
    ∧ r.2.mem ((c.tc : Thread nD τ).loc main_v3_11) = (fun _ => scale c52 (row16 (m ((c.tc : Thread nD τ).loc main_arg5))) : A2 1 1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (θ_run_and (Cert.KernelIdeal.Hand.run_main m ρ) (Cert.KernelIdeal.Gen.frame_of m ρ (Cert.KernelIdeal.Hand.dats m) (Cert.KernelIdeal.Hand.A_eq m) (Cert.KernelIdeal.Hand.run_main m ρ)))
  obtain ⟨h, ha⟩ := h
  have h0 := (h.out_eq c 6).trans (Cert.Val.K.arr6 m c)
  rw [V_main_arg0 m c, V_main_arg1 m c, row_v0 m c, row_v1 m c] at h0
  have h1 := (h.out_eq c 7).trans (Cert.Val.K.arr7 m c)
  rw [V_main_arg1 m c, V_main_arg2 m c, row_v1 m c, row_v2 m c] at h1
  have h2 := (h.out_eq c 8).trans (Cert.Val.K.arr8 m c)
  rw [V_main_arg0 m c, V_main_arg2 m c, row_v0 m c, row_v2 m c] at h2
  have h3 := (h.out_eq c 9).trans (Cert.Val.K.arr9 m c)
  rw [V_main_arg0 m c, row_v0 m c] at h3
  have h4 := (h.out_eq c 10).trans (Cert.Val.K.arr10 m c)
  rw [V_main_arg1 m c, row_v1 m c] at h4
  have h5 := (h.out_eq c 11).trans (Cert.Val.K.arr11 m c)
  rw [V_main_arg2 m c, row_v2 m c] at h5
  have h6 := (h.out_eq c 12).trans (Cert.Val.K.arr12 m c)
  rw [V_main_arg0 m c, row_v0 m c] at h6
  have h7 := (h.out_eq c 13).trans (Cert.Val.K.arr13 m c)
  rw [row_v0 m c] at h7
  have h8 := (h.out_eq c 14).trans (Cert.Val.K.arr14 m c)
  rw [V_main_arg1 m c, row_v1 m c] at h8
  have h9 := (h.out_eq c 15).trans (Cert.Val.K.arr15 m c)
  rw [row_v1 m c] at h9
  have h10 := (h.out_eq c 16).trans (Cert.Val.K.arr16 m c)
  rw [V_main_arg2 m c, row_v2 m c] at h10
  have h11 := (h.out_eq c 17).trans (Cert.Val.K.arr17 m c)
  rw [row_v2 m c] at h11
  exact ⟨h0, h1, h2, h3, h4, h5, h6, h7, h8, h9, h10, h11, ha c⟩

end Cert.Val.K
-- ==== Proof.Value.RArr.lean ====
module

public import proofs.«01_k».proof.Proof.Gen.ReferenceIdeal.Frame
public import proofs.«01_k».proof.Proof.Value.RPay
public import Idealize.ShloMosaic.Lib.Pipeline.ValueKit

/-! The reference's twelve result arrays are the specification's. -/

@[expose] public section

noncomputable section

namespace Cert.Val.R

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (c : Dev nD)

/-! The one point's blocks are the whole arrays. -/

theorem blk0 (t : Fin cfg0.N) : (iblk m c 0 t : Vec Ideal S3x1024x4096 .bf16) = V m c main_arg0 := by
  have h : ∀ t : Fin grid0.N, ∀ a, win0_0.index t a = 0 := by decide +kernel
  funext j
  show V m c main_arg0 ((win0_0.rect t).emb j) = V m c main_arg0 j
  congr 1; funext a; apply Fin.ext
  exact Pipeline.Window.rect_emb_val_of_index_zero win0_0 t a (h t a) j
theorem blk1 (t : Fin cfg0.N) : (iblk m c 1 t : Vec Ideal S4096x768 .f32) = V m c main_arg1 := by
  have h : ∀ t : Fin grid0.N, ∀ a, win0_1.index t a = 0 := by decide +kernel
  funext j
  show V m c main_arg1 ((win0_1.rect t).emb j) = V m c main_arg1 j
  congr 1; funext a; apply Fin.ext
  exact Pipeline.Window.rect_emb_val_of_index_zero win0_1 t a (h t a) j
theorem blk2 (t : Fin cfg0.N) : (iblk m c 2 t : Vec Ideal S3x1024x768 .bf16) = V m c main_arg2 := by
  have h : ∀ t : Fin grid0.N, ∀ a, win0_2.index t a = 0 := by decide +kernel
  funext j
  show V m c main_arg2 ((win0_2.rect t).emb j) = V m c main_arg2 j
  congr 1; funext a; apply Fin.ext
  exact Pipeline.Window.rect_emb_val_of_index_zero win0_2 t a (h t a) j
theorem blk3 (t : Fin cfg0.N) : (iblk m c 3 t : Vec Ideal S1x16 .f32) = V m c main_v0 := by
  have h : ∀ t : Fin grid0.N, ∀ a, win0_3.index t a = 0 := by decide +kernel
  funext j
  show V m c main_v0 ((win0_3.rect t).emb j) = V m c main_v0 j
  congr 1; funext a; apply Fin.ext
  exact Pipeline.Window.rect_emb_val_of_index_zero win0_3 t a (h t a) j
theorem blk4 (t : Fin cfg0.N) : (iblk m c 4 t : Vec Ideal S1x16 .f32) = V m c main_v1 := by
  have h : ∀ t : Fin grid0.N, ∀ a, win0_4.index t a = 0 := by decide +kernel
  funext j
  show V m c main_v1 ((win0_4.rect t).emb j) = V m c main_v1 j
  congr 1; funext a; apply Fin.ext
  exact Pipeline.Window.rect_emb_val_of_index_zero win0_4 t a (h t a) j
theorem blk5 (t : Fin cfg0.N) : (iblk m c 5 t : Vec Ideal S1x16 .f32) = V m c main_v2 := by
  have h : ∀ t : Fin grid0.N, ∀ a, win0_5.index t a = 0 := by decide +kernel
  funext j
  show V m c main_v2 ((win0_5.rect t).emb j) = V m c main_v2 j
  congr 1; funext a; apply Fin.ext
  exact Pipeline.Window.rect_emb_val_of_index_zero win0_5 t a (h t a) j

theorem hz3 : (![0, 0, 0] : Fin 3 → Nat) = fun _ => 0 := funext fun a => by fin_cases a <;> rfl
theorem hz2 : (![0, 0] : Fin 2 → Nat) = fun _ => 0 := funext fun a => by fin_cases a <;> rfl

/-- The reference's array of y. -/
theorem arr6 : (dats m 0 c).arrAt 6 cfg0.N = (yv (V m c main_arg0) (V m c main_arg1) (V m c main_v0) (V m c main_v1) : S384x8x768.Idx → EReal) := by
  refine (dats m 0 c).arrAt_eq_of_after_last 6 t0_0 (by decide +kernel) _ fun j => ?_
  show (dats m 0 c).after 6 t0_0 j = (yv (V m c main_arg0) (V m c main_arg1) (V m c main_v0) (V m c main_v1)) j
  rw [after0_6, blk0, blk1, blk2, blk3, blk4, blk5]
  unfold out0_6 k0_pay31 k0_pay30 k0_pay29 k0_pay28
  simp only [View.canon_unit_zero (S := S384x8x768) hz3, View.ld_unit_zero (S := S3x1024x4096) hz3, View.ld_unit_zero (S := S3x1024x768) hz3, View.ld_unit_zero (S := S4096x768) hz2, View.ld_unit_zero (S := S1x16) hz2]
  rw [rpay23_eq]

/-- The reference's array of the gradient of x. -/
theorem arr7 : (dats m 0 c).arrAt 7 cfg0.N = (dxv (V m c main_arg1) (V m c main_arg2) (V m c main_v1) (V m c main_v2) : S384x8x4096.Idx → EReal) := by
  refine (dats m 0 c).arrAt_eq_of_after_last 7 t0_0 (by decide +kernel) _ fun j => ?_
  show (dats m 0 c).after 7 t0_0 j = (dxv (V m c main_arg1) (V m c main_arg2) (V m c main_v1) (V m c main_v2)) j
  rw [after0_7, blk0, blk1, blk2, blk3, blk4, blk5]
  unfold out0_7 k0_pay34 k0_pay33 k0_pay32 k0_pay31 k0_pay30 k0_pay27
  simp only [View.canon_unit_zero (S := S384x8x4096) hz3, View.ld_unit_zero (S := S3x1024x4096) hz3, View.ld_unit_zero (S := S3x1024x768) hz3, View.ld_unit_zero (S := S4096x768) hz2, View.ld_unit_zero (S := S1x16) hz2]
  rw [rpay24_eq]

/-- The reference's array of the gradient of w. -/
theorem arr8 : (dats m 0 c).arrAt 8 cfg0.N = (dwv (V m c main_arg0) (V m c main_arg2) (V m c main_v0) (V m c main_v2) : S4096x768.Idx → EReal) := by
  refine (dats m 0 c).arrAt_eq_of_after_last 8 t0_0 (by decide +kernel) _ fun j => ?_
  show (dats m 0 c).after 8 t0_0 j = (dwv (V m c main_arg0) (V m c main_arg2) (V m c main_v0) (V m c main_v2)) j
  rw [after0_8, blk0, blk1, blk2, blk3, blk4, blk5]
  unfold out0_8 k0_pay34 k0_pay33 k0_pay29 k0_pay28 k0_pay27
  simp only [View.canon_unit_zero (S := S4096x768) hz2, View.ld_unit_zero (S := S3x1024x4096) hz3, View.ld_unit_zero (S := S3x1024x768) hz3, View.ld_unit_zero (S := S4096x768) hz2, View.ld_unit_zero (S := S1x16) hz2]
  rw [rpay22_eq]

/-- The reference's array of x's history. -/
theorem arr9 : (dats m 0 c).arrAt 9 cfg0.N = (shifted (V m c main_v0) (amax (s := S3x1024x4096) (V m c main_arg0)) : S1x16.Idx → EReal) := by
  refine (dats m 0 c).arrAt_eq_of_after_last 9 t0_0 (by decide +kernel) _ fun j => ?_
  show (dats m 0 c).after 9 t0_0 j = (shifted (V m c main_v0) (amax (s := S3x1024x4096) (V m c main_arg0))) j
  rw [after0_9, blk0, blk1, blk2, blk3, blk4, blk5]
  unfold out0_9
  simp only [View.canon_unit_zero (S := S1x16) hz2, View.ld_unit_zero (S := S3x1024x4096) hz3, View.ld_unit_zero (S := S3x1024x768) hz3, View.ld_unit_zero (S := S4096x768) hz2, View.ld_unit_zero (S := S1x16) hz2]
  rw [rpay4_eq]

/-- The reference's array of w's history. -/
theorem arr10 : (dats m 0 c).arrAt 10 cfg0.N = (shifted (V m c main_v1) (amax (s := S4096x768) (V m c main_arg1)) : S1x16.Idx → EReal) := by
  refine (dats m 0 c).arrAt_eq_of_after_last 10 t0_0 (by decide +kernel) _ fun j => ?_
  show (dats m 0 c).after 10 t0_0 j = (shifted (V m c main_v1) (amax (s := S4096x768) (V m c main_arg1))) j
  rw [after0_10, blk0, blk1, blk2, blk3, blk4, blk5]
  unfold out0_10
  simp only [View.canon_unit_zero (S := S1x16) hz2, View.ld_unit_zero (S := S3x1024x4096) hz3, View.ld_unit_zero (S := S3x1024x768) hz3, View.ld_unit_zero (S := S4096x768) hz2, View.ld_unit_zero (S := S1x16) hz2]
  rw [rpay10_eq]

/-- The reference's array of dy's history. -/
theorem arr11 : (dats m 0 c).arrAt 11 cfg0.N = (shifted (V m c main_v2) (amax (s := S3x1024x768) (V m c main_arg2)) : S1x16.Idx → EReal) := by
  refine (dats m 0 c).arrAt_eq_of_after_last 11 t0_0 (by decide +kernel) _ fun j => ?_
  show (dats m 0 c).after 11 t0_0 j = (shifted (V m c main_v2) (amax (s := S3x1024x768) (V m c main_arg2))) j
  rw [after0_11, blk0, blk1, blk2, blk3, blk4, blk5]
  unfold out0_11 k0_pay27
  simp only [View.canon_unit_zero (S := S1x16) hz2, View.ld_unit_zero (S := S3x1024x4096) hz3, View.ld_unit_zero (S := S3x1024x768) hz3, View.ld_unit_zero (S := S4096x768) hz2, View.ld_unit_zero (S := S1x16) hz2]
  rw [rpay16_eq]

/-- The reference's array of x's codes. -/
theorem arr12 : (dats m 0 c).arrAt 12 cfg0.N = (qx (V m c main_arg0) (V m c main_v0) : S3x1024x4096.Idx → EReal) := by
  refine (dats m 0 c).arrAt_eq_of_after_last 12 t0_0 (by decide +kernel) _ fun j => ?_
  show (dats m 0 c).after 12 t0_0 j = (qx (V m c main_arg0) (V m c main_v0)) j
  rw [after0_12, blk0, blk1, blk2, blk3, blk4, blk5]
  unfold out0_12 k0_pay29
  simp only [View.canon_unit_zero (S := S3x1024x4096) hz3, View.ld_unit_zero (S := S3x1024x4096) hz3, View.ld_unit_zero (S := S3x1024x768) hz3, View.ld_unit_zero (S := S4096x768) hz2, View.ld_unit_zero (S := S1x16) hz2]
  rw [rpay25_eq]

/-- The reference's array of x's scale. -/
theorem arr13 : (dats m 0 c).arrAt 13 cfg0.N = (fun _ => scale c43 (V m c main_v0) : S1x1.Idx → EReal) := by
  refine (dats m 0 c).arrAt_eq_of_after_last 13 t0_0 (by decide +kernel) _ fun j => ?_
  show (dats m 0 c).after 13 t0_0 j = (fun _ => scale c43 (V m c main_v0)) j
  rw [after0_13, blk0, blk1, blk2, blk3, blk4, blk5]
  unfold out0_13 k0_pay28
  simp only [View.canon_unit_zero (S := S1x1) hz2, View.ld_unit_zero (S := S3x1024x4096) hz3, View.ld_unit_zero (S := S3x1024x768) hz3, View.ld_unit_zero (S := S4096x768) hz2, View.ld_unit_zero (S := S1x16) hz2]
  rw [rpay6_eq]

/-- The reference's array of w's codes. -/
theorem arr14 : (dats m 0 c).arrAt 14 cfg0.N = (qw (V m c main_arg1) (V m c main_v1) : S4096x768.Idx → EReal) := by
  refine (dats m 0 c).arrAt_eq_of_after_last 14 t0_0 (by decide +kernel) _ fun j => ?_
  show (dats m 0 c).after 14 t0_0 j = (qw (V m c main_arg1) (V m c main_v1)) j
  rw [after0_14, blk0, blk1, blk2, blk3, blk4, blk5]
  unfold out0_14 k0_pay32 k0_pay31
  simp only [View.canon_unit_zero (S := S4096x768) hz2, View.ld_unit_zero (S := S3x1024x4096) hz3, View.ld_unit_zero (S := S3x1024x768) hz3, View.ld_unit_zero (S := S4096x768) hz2, View.ld_unit_zero (S := S1x16) hz2]
  rw [rpay14_eq]

/-- The reference's array of w's scale. -/
theorem arr15 : (dats m 0 c).arrAt 15 cfg0.N = (fun _ => scale c43 (V m c main_v1) : S1x1.Idx → EReal) := by
  refine (dats m 0 c).arrAt_eq_of_after_last 15 t0_0 (by decide +kernel) _ fun j => ?_
  show (dats m 0 c).after 15 t0_0 j = (fun _ => scale c43 (V m c main_v1)) j
  rw [after0_15, blk0, blk1, blk2, blk3, blk4, blk5]
  unfold out0_15 k0_pay30
  simp only [View.canon_unit_zero (S := S1x1) hz2, View.ld_unit_zero (S := S3x1024x4096) hz3, View.ld_unit_zero (S := S3x1024x768) hz3, View.ld_unit_zero (S := S4096x768) hz2, View.ld_unit_zero (S := S1x16) hz2]
  rw [rpay12_eq]

/-- The reference's array of dy's codes. -/
theorem arr16 : (dats m 0 c).arrAt 16 cfg0.N = (qd (V m c main_arg2) (V m c main_v2) : S3x1024x768.Idx → EReal) := by
  refine (dats m 0 c).arrAt_eq_of_after_last 16 t0_0 (by decide +kernel) _ fun j => ?_
  show (dats m 0 c).after 16 t0_0 j = (qd (V m c main_arg2) (V m c main_v2)) j
  rw [after0_16, blk0, blk1, blk2, blk3, blk4, blk5]
  unfold out0_16 k0_pay34 k0_pay27
  simp only [View.canon_unit_zero (S := S3x1024x768) hz3, View.ld_unit_zero (S := S3x1024x4096) hz3, View.ld_unit_zero (S := S3x1024x768) hz3, View.ld_unit_zero (S := S4096x768) hz2, View.ld_unit_zero (S := S1x16) hz2]
  rw [rpay26_eq]

/-- The reference's array of dy's scale. -/
theorem arr17 : (dats m 0 c).arrAt 17 cfg0.N = (fun _ => scale c52 (V m c main_v2) : S1x1.Idx → EReal) := by
  refine (dats m 0 c).arrAt_eq_of_after_last 17 t0_0 (by decide +kernel) _ fun j => ?_
  show (dats m 0 c).after 17 t0_0 j = (fun _ => scale c52 (V m c main_v2)) j
  rw [after0_17, blk0, blk1, blk2, blk3, blk4, blk5]
  unfold out0_17 k0_pay33
  simp only [View.canon_unit_zero (S := S1x1) hz2, View.ld_unit_zero (S := S3x1024x4096) hz3, View.ld_unit_zero (S := S3x1024x768) hz3, View.ld_unit_zero (S := S4096x768) hz2, View.ld_unit_zero (S := S1x16) hz2]
  rw [rpay18_eq]

end Cert.Val.R
-- ==== Proof.Value.RRun.lean ====
module

public import proofs.«01_k».proof.Proof.Gen.ReferenceIdeal.Frame
public import proofs.«01_k».proof.Proof.Value.RArr
public import proofs.«01_k».proof.Proof.Value.Row

/-! What a run of the reference ends with: the specification of the arguments. -/

@[expose] public section

noncomputable section

namespace Cert.Val.R

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg) (c : Dev nD)

/-! The histories the pipeline finds are the arguments', as rows. -/

theorem row_v0 : (V m c main_v0 : A2 1 16) = row16 (m ((c.tc : Thread nD τ).loc main_arg3)) := by
  show StableHlo.after hostOps0 (fun b => m (c, b)) (Proc.devRef .tc main_v0) = _
  simp only [hostOps0, StableHlo.after_cons, StableHlo.after_nil]
  rw [StableHlo.reshape_result_ne (h := by decide)]
  rw [StableHlo.reshape_result_ne (h := by decide)]
  rw [StableHlo.reshape_result]
  rfl
theorem row_v1 : (V m c main_v1 : A2 1 16) = row16 (m ((c.tc : Thread nD τ).loc main_arg4)) := by
  show StableHlo.after hostOps0 (fun b => m (c, b)) (Proc.devRef .tc main_v1) = _
  simp only [hostOps0, StableHlo.after_cons, StableHlo.after_nil]
  rw [StableHlo.reshape_result_ne (h := by decide)]
  rw [StableHlo.reshape_result]
  rfl
theorem row_v2 : (V m c main_v2 : A2 1 16) = row16 (m ((c.tc : Thread nD τ).loc main_arg5)) := by
  show StableHlo.after hostOps0 (fun b => m (c, b)) (Proc.devRef .tc main_v2) = _
  simp only [hostOps0, StableHlo.after_cons, StableHlo.after_nil]
  rw [StableHlo.reshape_result]
  rfl

/-- Every run ends with the twelve results the specification gives for the arguments, and the arguments unchanged. -/
theorem run : θ_run (defs (F := Ideal)) (onTc (τ := τ) (main (F := Ideal))) ⟨m, fun _ => 0, ρ⟩ (fun r => ∀ c : Dev nD,
    r.2.mem ((c.tc : Thread nD τ).loc main_v3_0) = (yv (m ((c.tc : Thread nD τ).loc main_arg0)) (m ((c.tc : Thread nD τ).loc main_arg1)) (row16 (m ((c.tc : Thread nD τ).loc main_arg3))) (row16 (m ((c.tc : Thread nD τ).loc main_arg4))) : A3 384 8 768)
    ∧ r.2.mem ((c.tc : Thread nD τ).loc main_v3_1) = (dxv (m ((c.tc : Thread nD τ).loc main_arg1)) (m ((c.tc : Thread nD τ).loc main_arg2)) (row16 (m ((c.tc : Thread nD τ).loc main_arg4))) (row16 (m ((c.tc : Thread nD τ).loc main_arg5))) : A3 384 8 4096)
    ∧ r.2.mem ((c.tc : Thread nD τ).loc main_v3_2) = (dwv (m ((c.tc : Thread nD τ).loc main_arg0)) (m ((c.tc : Thread nD τ).loc main_arg2)) (row16 (m ((c.tc : Thread nD τ).loc main_arg3))) (row16 (m ((c.tc : Thread nD τ).loc main_arg5))) : A2 4096 768)
    ∧ r.2.mem ((c.tc : Thread nD τ).loc main_v3_3) = (shifted (row16 (m ((c.tc : Thread nD τ).loc main_arg3))) (amax (s := S3x1024x4096) (m ((c.tc : Thread nD τ).loc main_arg0))) : A2 1 16)
    ∧ r.2.mem ((c.tc : Thread nD τ).loc main_v3_4) = (shifted (row16 (m ((c.tc : Thread nD τ).loc main_arg4))) (amax (s := S4096x768) (m ((c.tc : Thread nD τ).loc main_arg1))) : A2 1 16)
    ∧ r.2.mem ((c.tc : Thread nD τ).loc main_v3_5) = (shifted (row16 (m ((c.tc : Thread nD τ).loc main_arg5))) (amax (s := S3x1024x768) (m ((c.tc : Thread nD τ).loc main_arg2))) : A2 1 16)
    ∧ r.2.mem ((c.tc : Thread nD τ).loc main_v3_6) = (qx (m ((c.tc : Thread nD τ).loc main_arg0)) (row16 (m ((c.tc : Thread nD τ).loc main_arg3))) : A3 3 1024 4096)
    ∧ r.2.mem ((c.tc : Thread nD τ).loc main_v3_7) = (fun _ => scale c43 (row16 (m ((c.tc : Thread nD τ).loc main_arg3))) : A2 1 1)
    ∧ r.2.mem ((c.tc : Thread nD τ).loc main_v3_8) = (qw (m ((c.tc : Thread nD τ).loc main_arg1)) (row16 (m ((c.tc : Thread nD τ).loc main_arg4))) : A2 4096 768)
    ∧ r.2.mem ((c.tc : Thread nD τ).loc main_v3_9) = (fun _ => scale c43 (row16 (m ((c.tc : Thread nD τ).loc main_arg4))) : A2 1 1)
    ∧ r.2.mem ((c.tc : Thread nD τ).loc main_v3_10) = (qd (m ((c.tc : Thread nD τ).loc main_arg2)) (row16 (m ((c.tc : Thread nD τ).loc main_arg5))) : A3 3 1024 768)
    ∧ r.2.mem ((c.tc : Thread nD τ).loc main_v3_11) = (fun _ => scale c52 (row16 (m ((c.tc : Thread nD τ).loc main_arg5))) : A2 1 1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  refine (θ_run defs _ _).mono (fun r h c => ?_) (θ_run_and (Cert.ReferenceIdeal.Gen.run_main m ρ) (Cert.ReferenceIdeal.Gen.unchanged m ρ))
  obtain ⟨h, ha⟩ := h
  have h0 := (h.out_eq c 6).trans (Cert.Val.R.arr6 m c)
  rw [V_main_arg0 m c, V_main_arg1 m c, row_v0 m c, row_v1 m c] at h0
  have h1 := (h.out_eq c 7).trans (Cert.Val.R.arr7 m c)
  rw [V_main_arg1 m c, V_main_arg2 m c, row_v1 m c, row_v2 m c] at h1
  have h2 := (h.out_eq c 8).trans (Cert.Val.R.arr8 m c)
  rw [V_main_arg0 m c, V_main_arg2 m c, row_v0 m c, row_v2 m c] at h2
  have h3 := (h.out_eq c 9).trans (Cert.Val.R.arr9 m c)
  rw [V_main_arg0 m c, row_v0 m c] at h3
  have h4 := (h.out_eq c 10).trans (Cert.Val.R.arr10 m c)
  rw [V_main_arg1 m c, row_v1 m c] at h4
  have h5 := (h.out_eq c 11).trans (Cert.Val.R.arr11 m c)
  rw [V_main_arg2 m c, row_v2 m c] at h5
  have h6 := (h.out_eq c 12).trans (Cert.Val.R.arr12 m c)
  rw [V_main_arg0 m c, row_v0 m c] at h6
  have h7 := (h.out_eq c 13).trans (Cert.Val.R.arr13 m c)
  rw [row_v0 m c] at h7
  have h8 := (h.out_eq c 14).trans (Cert.Val.R.arr14 m c)
  rw [V_main_arg1 m c, row_v1 m c] at h8
  have h9 := (h.out_eq c 15).trans (Cert.Val.R.arr15 m c)
  rw [row_v1 m c] at h9
  have h10 := (h.out_eq c 16).trans (Cert.Val.R.arr16 m c)
  rw [V_main_arg2 m c, row_v2 m c] at h10
  have h11 := (h.out_eq c 17).trans (Cert.Val.R.arr17 m c)
  rw [row_v2 m c] at h11
  exact ⟨h0, h1, h2, h3, h4, h5, h6, h7, h8, h9, h10, h11, ha c⟩

end Cert.Val.R
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Run
public import proofs.«01_k».proof.Proof.KernelIdeal.Run
public import proofs.«01_k».proof.Proof.Value.KRun
public import proofs.«01_k».proof.Proof.Value.RRun
public import Idealize.ShloMosaic.Adequacy
public import Idealize.ShloMosaic.Init

@[expose] public section

noncomputable section

namespace Cert.Proof

open Idealize.ShloMosaic Idealize.SL.Sem Cert.Kernel

/-- The kernel and the reference end with equal results: each of the twelve arrays is, in both programs, the same
    function of the arguments (`Cert.Val`). -/
theorem algebraic : Cert.algebraic_KernelIdeal_ReferenceIdeal := by
  intro m g m' g' _ hargs
  refine ⟨_, _, _, _, _, _, _, _, _, _, _, _, Cert.Val.K.run m g, (θ_run _ _ _).mono (fun r h c => ?_) (Cert.Val.R.run m' g')⟩
  obtain ⟨a0, a1, a2, a3, a4, a5⟩ := hargs c
  obtain ⟨h0, h1, h2, h3, h4, h5, h6, h7, h8, h9, h10, h11, ha⟩ := h c
  rw [a0, a1, a3, a4] at h0
  rw [a1, a2, a4, a5] at h1
  rw [a0, a2, a3, a5] at h2
  rw [a0, a3] at h3
  rw [a1, a4] at h4
  rw [a2, a5] at h5
  rw [a0, a3] at h6
  rw [a3] at h7
  rw [a1, a4] at h8
  rw [a4] at h9
  rw [a2, a5] at h10
  rw [a5] at h11
  exact ⟨h0, h1, h2, h3, h4, h5, h6, h7, h8, h9, h10, h11, ha⟩

/-- All the claims: the three frames, by the generated frame of the reference and the hand-written ones of the
    kernel and its ideal reading; the ideal reading is the same program, so it is preserved; the kernel and the
    reference compute the same results. -/
theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    trivial, algebraic⟩

end Cert.Proof

end
